-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cotangent_real [hPre_cotangent_real : Cert.Pre_cotangent_real.Facts] (m : (ℓ : Loc Cert.KernelIdeal.nD Cert.KernelIdeal.τ Cert.KernelIdeal.sig) → Buf (Elt Ideal) ℓ) : Prop :=
  ∀ c : Dev Cert.KernelIdeal.nD,
    (Cert.Pre_cotangent_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cotangent_real [hPre_cotangent_real : Cert.Pre_cotangent_real.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cotangent_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_cotangent_real [hKernelIdeal : Cert.KernelIdeal.Facts] [hPre_cotangent_real : Cert.Pre_cotangent_real.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cotangent_real m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_cotangent_real [hReferenceIdeal : Cert.ReferenceIdeal.Facts] [hPre_cotangent_real : Cert.Pre_cotangent_real.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cotangent_real m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2)
      ∧ r.2.mem ((c.tc : Thread Cert.Kernel44.nD Cert.Kernel44.τ).loc Cert.Kernel44.main_arg3) = m ((c.tc : Thread Cert.Kernel44.nD Cert.Kernel44.τ).loc Cert.Kernel44.main_arg3))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
      ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2)
      ∧ r.2.mem ((c.tc : Thread Cert.Reference44Ideal.nD Cert.Reference44Ideal.τ).loc Cert.Reference44Ideal.main_arg3) = m ((c.tc : Thread Cert.Reference44Ideal.nD Cert.Reference44Ideal.τ).loc Cert.Reference44Ideal.main_arg3))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1)
      ∧ r.2.mem ((c.tc : Thread Cert.Kernel46.nD Cert.Kernel46.τ).loc Cert.Kernel46.main_arg2) = m ((c.tc : Thread Cert.Kernel46.nD Cert.Kernel46.τ).loc Cert.Kernel46.main_arg2)
      ∧ r.2.mem ((c.tc : Thread Cert.Kernel46.nD Cert.Kernel46.τ).loc Cert.Kernel46.main_arg3) = m ((c.tc : Thread Cert.Kernel46.nD Cert.Kernel46.τ).loc Cert.Kernel46.main_arg3)
      ∧ r.2.mem ((c.tc : Thread Cert.Kernel46.nD Cert.Kernel46.τ).loc Cert.Kernel46.main_arg4) = m ((c.tc : Thread Cert.Kernel46.nD Cert.Kernel46.τ).loc Cert.Kernel46.main_arg4))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
      ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2)
      ∧ r.2.mem ((c.tc : Thread Cert.Kernel46Ideal.nD Cert.Kernel46Ideal.τ).loc Cert.Kernel46Ideal.main_arg3) = m ((c.tc : Thread Cert.Kernel46Ideal.nD Cert.Kernel46Ideal.τ).loc Cert.Kernel46Ideal.main_arg3)
      ∧ r.2.mem ((c.tc : Thread Cert.Kernel46Ideal.nD Cert.Kernel46Ideal.τ).loc Cert.Kernel46Ideal.main_arg4) = m ((c.tc : Thread Cert.Kernel46Ideal.nD Cert.Kernel46Ideal.τ).loc Cert.Kernel46Ideal.main_arg4))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1)
      ∧ r.2.mem ((c.tc : Thread Cert.Reference46Ideal.nD Cert.Reference46Ideal.τ).loc Cert.Reference46Ideal.main_arg2) = m ((c.tc : Thread Cert.Reference46Ideal.nD Cert.Reference46Ideal.τ).loc Cert.Reference46Ideal.main_arg2)
      ∧ r.2.mem ((c.tc : Thread Cert.Reference46Ideal.nD Cert.Reference46Ideal.τ).loc Cert.Reference46Ideal.main_arg3) = m ((c.tc : Thread Cert.Reference46Ideal.nD Cert.Reference46Ideal.τ).loc Cert.Reference46Ideal.main_arg3)
      ∧ r.2.mem ((c.tc : Thread Cert.Reference46Ideal.nD Cert.Reference46Ideal.τ).loc Cert.Reference46Ideal.main_arg4) = m ((c.tc : Thread Cert.Reference46Ideal.nD Cert.Reference46Ideal.τ).loc Cert.Reference46Ideal.main_arg4))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1)
      ∧ r.2.mem ((c.tc : Thread Cert.Kernel48.nD Cert.Kernel48.τ).loc Cert.Kernel48.main_arg2) = m ((c.tc : Thread Cert.Kernel48.nD Cert.Kernel48.τ).loc Cert.Kernel48.main_arg2))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
      ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1)
      ∧ r.2.mem ((c.tc : Thread Cert.Reference48Ideal.nD Cert.Reference48Ideal.τ).loc Cert.Reference48Ideal.main_arg2) = m ((c.tc : Thread Cert.Reference48Ideal.nD Cert.Reference48Ideal.τ).loc Cert.Reference48Ideal.main_arg2))
      ∧ r.2.sem = fun _ => 0)

def preserves_Kernel_KernelIdeal : Prop :=
  True

def algebraic_KernelIdeal_ReferenceIdeal_pre_cotangent_real [hKernelIdeal : Cert.KernelIdeal.Facts] [hReferenceIdeal : Cert.ReferenceIdeal.Facts] [hPre_cotangent_real : Cert.Pre_cotangent_real.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cotangent_real m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_v13) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg1) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg1) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)) (v3 : (c : Dev Cert.Kernel13Ideal.nD) → Buf (Elt Ideal) ((c.tc : Thread Cert.Kernel13Ideal.nD Cert.Kernel13Ideal.τ).loc Cert.Kernel13Ideal.main_v4_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_v4_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_v27) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)) (v3 : (c : Dev Cert.Kernel14Ideal.nD) → Buf (Elt Ideal) ((c.tc : Thread Cert.Kernel14Ideal.nD Cert.Kernel14Ideal.τ).loc Cert.Kernel14Ideal.main_v4_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_v4_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_v27) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg1) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg1) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)) (v3 : (c : Dev Cert.Kernel17Ideal.nD) → Buf (Elt Ideal) ((c.tc : Thread Cert.Kernel17Ideal.nD Cert.Kernel17Ideal.τ).loc Cert.Kernel17Ideal.main_v4_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_v4_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_v27) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)) (v3 : (c : Dev Cert.Kernel18Ideal.nD) → Buf (Elt Ideal) ((c.tc : Thread Cert.Kernel18Ideal.nD Cert.Kernel18Ideal.τ).loc Cert.Kernel18Ideal.main_v4_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_v4_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_v27) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg1) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)) (v3 : (c : Dev Cert.Kernel20Ideal.nD) → Buf (Elt Ideal) ((c.tc : Thread Cert.Kernel20Ideal.nD Cert.Kernel20Ideal.τ).loc Cert.Kernel20Ideal.main_v4_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_v4_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_v27) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg1) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)) (v3 : (c : Dev Cert.Kernel22Ideal.nD) → Buf (Elt Ideal) ((c.tc : Thread Cert.Kernel22Ideal.nD Cert.Kernel22Ideal.τ).loc Cert.Kernel22Ideal.main_v4_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_v4_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_v27) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)) (v3 : (c : Dev Cert.Kernel23Ideal.nD) → Buf (Elt Ideal) ((c.tc : Thread Cert.Kernel23Ideal.nD Cert.Kernel23Ideal.τ).loc Cert.Kernel23Ideal.main_v4_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_v4_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_v27) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v4_0)) (v1 : (c : Dev Cert.Kernel24Ideal.nD) → Buf (Elt Ideal) ((c.tc : Thread Cert.Kernel24Ideal.nD Cert.Kernel24Ideal.τ).loc Cert.Kernel24Ideal.main_v4_1)) (v2 : (c : Dev Cert.Kernel24Ideal.nD) → Buf (Elt Ideal) ((c.tc : Thread Cert.Kernel24Ideal.nD Cert.Kernel24Ideal.τ).loc Cert.Kernel24Ideal.main_v4_2)) (v3 : (c : Dev Cert.Kernel24Ideal.nD) → Buf (Elt Ideal) ((c.tc : Thread Cert.Kernel24Ideal.nD Cert.Kernel24Ideal.τ).loc Cert.Kernel24Ideal.main_v4_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4_0) = v0 c
          ∧ r.2.mem ((c.tc : Thread Cert.Kernel24Ideal.nD Cert.Kernel24Ideal.τ).loc Cert.Kernel24Ideal.main_v4_1) = v1 c
          ∧ r.2.mem ((c.tc : Thread Cert.Kernel24Ideal.nD Cert.Kernel24Ideal.τ).loc Cert.Kernel24Ideal.main_v4_2) = v2 c
          ∧ r.2.mem ((c.tc : Thread Cert.Kernel24Ideal.nD Cert.Kernel24Ideal.τ).loc Cert.Kernel24Ideal.main_v4_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v26) = v2 c
          ∧ r.2.mem ((c.tc : Thread Cert.Reference24Ideal.nD Cert.Reference24Ideal.τ).loc Cert.Reference24Ideal.main_v27) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v14) = v0 c
          ∧ r.2.mem ((c.tc : Thread Cert.Reference25Ideal.nD Cert.Reference25Ideal.τ).loc Cert.Reference25Ideal.main_v15) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v39) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v57) = v0 c
          ∧ r.2.mem ((c.tc : Thread Cert.Reference27Ideal.nD Cert.Reference27Ideal.τ).loc Cert.Reference27Ideal.main_v80) = v1 c
          ∧ r.2.mem ((c.tc : Thread Cert.Reference27Ideal.nD Cert.Reference27Ideal.τ).loc Cert.Reference27Ideal.main_v65) = v2 c
          ∧ r.2.mem ((c.tc : Thread Cert.Reference27Ideal.nD Cert.Reference27Ideal.τ).loc Cert.Reference27Ideal.main_v42) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_arg3) = v0 c
          ∧ r.2.mem ((c.tc : Thread Cert.Reference28Ideal.nD Cert.Reference28Ideal.τ).loc Cert.Reference28Ideal.main_v40) = v1 c
          ∧ r.2.mem ((c.tc : Thread Cert.Reference28Ideal.nD Cert.Reference28Ideal.τ).loc Cert.Reference28Ideal.main_v25) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v61) = v0 c
          ∧ r.2.mem ((c.tc : Thread Cert.Reference29Ideal.nD Cert.Reference29Ideal.τ).loc Cert.Reference29Ideal.main_v39) = v1 c
          ∧ r.2.mem ((c.tc : Thread Cert.Reference29Ideal.nD Cert.Reference29Ideal.τ).loc Cert.Reference29Ideal.main_v32) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v25) = v0 c
          ∧ r.2.mem ((c.tc : Thread Cert.Reference30Ideal.nD Cert.Reference30Ideal.τ).loc Cert.Reference30Ideal.main_v26) = v1 c
          ∧ r.2.mem ((c.tc : Thread Cert.Reference30Ideal.nD Cert.Reference30Ideal.τ).loc Cert.Reference30Ideal.main_v24) = v2 c
          ∧ r.2.mem ((c.tc : Thread Cert.Reference30Ideal.nD Cert.Reference30Ideal.τ).loc Cert.Reference30Ideal.main_v22) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v2) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v1) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v2) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v3) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v7) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v4)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v4) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v1) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v4)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v4) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v3) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v8) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v2) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v1) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v2) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v3) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v7) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)) →
    ∃ (v0 : (c : Dev Cert.Kernel40Ideal.nD) → Buf (Elt Ideal) ((c.tc : Thread Cert.Kernel40Ideal.nD Cert.Kernel40Ideal.τ).loc Cert.Kernel40Ideal.main_v2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v2) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v1) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)) →
    ∃ (v0 : (c : Dev Cert.Kernel41Ideal.nD) → Buf (Elt Ideal) ((c.tc : Thread Cert.Kernel41Ideal.nD Cert.Kernel41Ideal.τ).loc Cert.Kernel41Ideal.main_v2)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v2) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v2) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v6) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)) →
    ∃ (v0 : (c : Dev Cert.Kernel43Ideal.nD) → Buf (Elt Ideal) ((c.tc : Thread Cert.Kernel43Ideal.nD Cert.Kernel43Ideal.τ).loc Cert.Kernel43Ideal.main_v0)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v14) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)
      ∧ m' ((c.tc : Thread Cert.Reference44Ideal.nD Cert.Reference44Ideal.τ).loc Cert.Reference44Ideal.main_arg3) = m ((c.tc : Thread Cert.Kernel44Ideal.nD Cert.Kernel44Ideal.τ).loc Cert.Kernel44Ideal.main_arg3)) →
    ∃ (v0 : (c : Dev Cert.Kernel44Ideal.nD) → Buf (Elt Ideal) ((c.tc : Thread Cert.Kernel44Ideal.nD Cert.Kernel44Ideal.τ).loc Cert.Kernel44Ideal.main_v0_0)) (v1 : (c : Dev Cert.Kernel44Ideal.nD) → Buf (Elt Ideal) ((c.tc : Thread Cert.Kernel44Ideal.nD Cert.Kernel44Ideal.τ).loc Cert.Kernel44Ideal.main_v0_1)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0_0) = v0 c
          ∧ r.2.mem ((c.tc : Thread Cert.Kernel44Ideal.nD Cert.Kernel44Ideal.τ).loc Cert.Kernel44Ideal.main_v0_1) = v1 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
          ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v14) = v0 c
          ∧ r.2.mem ((c.tc : Thread Cert.Reference44Ideal.nD Cert.Reference44Ideal.τ).loc Cert.Reference44Ideal.main_v29) = v1 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2)
          ∧ r.2.mem ((c.tc : Thread Cert.Reference44Ideal.nD Cert.Reference44Ideal.τ).loc Cert.Reference44Ideal.main_arg3) = m' ((c.tc : Thread Cert.Reference44Ideal.nD Cert.Reference44Ideal.τ).loc Cert.Reference44Ideal.main_arg3))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)) →
    ∃ (v0 : (c : Dev Cert.Kernel45Ideal.nD) → Buf (Elt Ideal) ((c.tc : Thread Cert.Kernel45Ideal.nD Cert.Kernel45Ideal.τ).loc Cert.Kernel45Ideal.main_v0)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v14) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)
      ∧ m' ((c.tc : Thread Cert.Reference46Ideal.nD Cert.Reference46Ideal.τ).loc Cert.Reference46Ideal.main_arg2) = m ((c.tc : Thread Cert.Kernel46Ideal.nD Cert.Kernel46Ideal.τ).loc Cert.Kernel46Ideal.main_arg2)
      ∧ m' ((c.tc : Thread Cert.Reference46Ideal.nD Cert.Reference46Ideal.τ).loc Cert.Reference46Ideal.main_arg3) = m ((c.tc : Thread Cert.Kernel46Ideal.nD Cert.Kernel46Ideal.τ).loc Cert.Kernel46Ideal.main_arg3)
      ∧ m' ((c.tc : Thread Cert.Reference46Ideal.nD Cert.Reference46Ideal.τ).loc Cert.Reference46Ideal.main_arg4) = m ((c.tc : Thread Cert.Kernel46Ideal.nD Cert.Kernel46Ideal.τ).loc Cert.Kernel46Ideal.main_arg4)) →
    ∃ (v0 : (c : Dev Cert.Kernel46Ideal.nD) → Buf (Elt Ideal) ((c.tc : Thread Cert.Kernel46Ideal.nD Cert.Kernel46Ideal.τ).loc Cert.Kernel46Ideal.main_v0_0)) (v1 : (c : Dev Cert.Kernel46Ideal.nD) → Buf (Elt Ideal) ((c.tc : Thread Cert.Kernel46Ideal.nD Cert.Kernel46Ideal.τ).loc Cert.Kernel46Ideal.main_v0_1)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0_0) = v0 c
          ∧ r.2.mem ((c.tc : Thread Cert.Kernel46Ideal.nD Cert.Kernel46Ideal.τ).loc Cert.Kernel46Ideal.main_v0_1) = v1 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
          ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2)
          ∧ r.2.mem ((c.tc : Thread Cert.Kernel46Ideal.nD Cert.Kernel46Ideal.τ).loc Cert.Kernel46Ideal.main_arg3) = m ((c.tc : Thread Cert.Kernel46Ideal.nD Cert.Kernel46Ideal.τ).loc Cert.Kernel46Ideal.main_arg3)
          ∧ r.2.mem ((c.tc : Thread Cert.Kernel46Ideal.nD Cert.Kernel46Ideal.τ).loc Cert.Kernel46Ideal.main_arg4) = m ((c.tc : Thread Cert.Kernel46Ideal.nD Cert.Kernel46Ideal.τ).loc Cert.Kernel46Ideal.main_arg4))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v18) = v0 c
          ∧ r.2.mem ((c.tc : Thread Cert.Reference46Ideal.nD Cert.Reference46Ideal.τ).loc Cert.Reference46Ideal.main_v33) = v1 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1)
          ∧ r.2.mem ((c.tc : Thread Cert.Reference46Ideal.nD Cert.Reference46Ideal.τ).loc Cert.Reference46Ideal.main_arg2) = m' ((c.tc : Thread Cert.Reference46Ideal.nD Cert.Reference46Ideal.τ).loc Cert.Reference46Ideal.main_arg2)
          ∧ r.2.mem ((c.tc : Thread Cert.Reference46Ideal.nD Cert.Reference46Ideal.τ).loc Cert.Reference46Ideal.main_arg3) = m' ((c.tc : Thread Cert.Reference46Ideal.nD Cert.Reference46Ideal.τ).loc Cert.Reference46Ideal.main_arg3)
          ∧ r.2.mem ((c.tc : Thread Cert.Reference46Ideal.nD Cert.Reference46Ideal.τ).loc Cert.Reference46Ideal.main_arg4) = m' ((c.tc : Thread Cert.Reference46Ideal.nD Cert.Reference46Ideal.τ).loc Cert.Reference46Ideal.main_arg4))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)) →
    ∃ (v0 : (c : Dev Cert.Kernel47Ideal.nD) → Buf (Elt Ideal) ((c.tc : Thread Cert.Kernel47Ideal.nD Cert.Kernel47Ideal.τ).loc Cert.Kernel47Ideal.main_v0)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v12) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)
      ∧ m' ((c.tc : Thread Cert.Reference48Ideal.nD Cert.Reference48Ideal.τ).loc Cert.Reference48Ideal.main_arg2) = m ((c.tc : Thread Cert.Kernel48Ideal.nD Cert.Kernel48Ideal.τ).loc Cert.Kernel48Ideal.main_arg2)) →
    ∃ (v0 : (c : Dev Cert.Kernel48Ideal.nD) → Buf (Elt Ideal) ((c.tc : Thread Cert.Kernel48Ideal.nD Cert.Kernel48Ideal.τ).loc Cert.Kernel48Ideal.main_v0)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v0) = v0 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
          ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v25) = v0 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1)
          ∧ r.2.mem ((c.tc : Thread Cert.Reference48Ideal.nD Cert.Reference48Ideal.τ).loc Cert.Reference48Ideal.main_arg2) = m' ((c.tc : Thread Cert.Reference48Ideal.nD Cert.Reference48Ideal.τ).loc Cert.Reference48Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hPre_cotangent_real : Cert.Pre_cotangent_real.Facts),
    quiescent_Kernel (hKernel := hKernel)
    ∧ quiescent_KernelIdeal (hKernelIdeal := hKernelIdeal)
    ∧ quiescent_KernelIdeal_pre_cotangent_real (hKernelIdeal := hKernelIdeal) (hPre_cotangent_real := hPre_cotangent_real)
    ∧ quiescent_ReferenceIdeal (hReferenceIdeal := hReferenceIdeal)
    ∧ quiescent_ReferenceIdeal_pre_cotangent_real (hReferenceIdeal := hReferenceIdeal) (hPre_cotangent_real := hPre_cotangent_real)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ preserves_Kernel_KernelIdeal
    ∧ algebraic_KernelIdeal_ReferenceIdeal_pre_cotangent_real (hKernelIdeal := hKernelIdeal) (hReferenceIdeal := hReferenceIdeal) (hPre_cotangent_real := hPre_cotangent_real)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
-- ==== Pre_cotangent_real.lean ====
abbrev S2048x13312 : Shape := ⟨2, ![2048, 13312]⟩
abbrev S4x3072 : Shape := ⟨2, ![4, 3072]⟩
abbrev S1x3072 : Shape := ⟨2, ![1, 3072]⟩
abbrev S2048x3072 : Shape := ⟨2, ![2048, 3072]⟩
abbrev S_ : Shape := ⟨0, ![]⟩

class Facts : Prop where
  bcast_S_S2048x3072 : S_.BroadcastsInDim S2048x3072 (![] : Fin 0 → Fin S2048x3072.rank)

variable [Facts]

def fn {F : FTy → Type} [FloatOps F] (main_arg0 : FVec F S2048x13312 .f32) (main_arg1 : FVec F S4x3072 .f32) (main_arg2 : FVec F S1x3072 .f32) (main_arg3 : FVec F S2048x3072 .f32) : IVec S2048x3072 1 :=
  let main_v0 : FVec F S2048x3072 .f32 := subf main_arg3 main_arg3
  let main_cst : FVec F S_ .f32 := constant S_ .f32 0x00000000#32
  let main_v1 : FVec F S2048x3072 .f32 := broadcastInDim S2048x3072 ![] bcast_S_S2048x3072 main_cst
  let main_v2 : IVec S2048x3072 1 := cmpf .oeq main_v0 main_v1
  main_v2
-- ==== Kernel.lean ====
abbrev S2048x13312 : Shape := ⟨2, ![2048, 13312]⟩
abbrev S4x3072 : Shape := ⟨2, ![4, 3072]⟩
abbrev S1x3072 : Shape := ⟨2, ![1, 3072]⟩
abbrev S2048x3072 : Shape := ⟨2, ![2048, 3072]⟩
abbrev S2048x256 : Shape := ⟨2, ![2048, 256]⟩
abbrev S4x256 : Shape := ⟨2, ![4, 256]⟩
abbrev S1x256 : Shape := ⟨2, ![1, 256]⟩
abbrev S2080x256 : Shape := ⟨2, ![2080, 256]⟩
abbrev S32x256 : Shape := ⟨2, ![32, 256]⟩
abbrev S128x256 : Shape := ⟨2, ![128, 256]⟩
abbrev S256 : Shape := ⟨1, ![256]⟩

abbrev nBuf : Space → Nat
  | .hbm => 7
  | .vmem => 16
  | .smem => 0
  | _ => 0

abbrev bufTy : (tb : Table) → Fin (tcTables nBuf tb) → BufTy
  | .hbm, ⟨0, _⟩ => ⟨S2048x13312, .f32⟩
  | .hbm, ⟨1, _⟩ => ⟨S4x3072, .f32⟩
  | .hbm, ⟨2, _⟩ => ⟨S1x3072, .f32⟩
  | .hbm, ⟨3, _⟩ => ⟨S2048x3072, .f32⟩
  | .hbm, ⟨4, _⟩ => ⟨S2048x3072, .bf16⟩
  | .hbm, ⟨5, _⟩ => ⟨S4x3072, .f32⟩
  | .hbm, ⟨6, _⟩ => ⟨S1x3072, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | .local _ .vmem, ⟨10, _⟩ => ⟨S4x256, .f32⟩
  | .local _ .vmem, ⟨11, _⟩ => ⟨S4x256, .f32⟩
  | .local _ .vmem, ⟨12, _⟩ => ⟨S1x256, .f32⟩
  | .local _ .vmem, ⟨13, _⟩ => ⟨S1x256, .f32⟩
  | .local _ .vmem, ⟨14, _⟩ => ⟨S2080x256, .f32⟩
  | .local _ .vmem, ⟨15, _⟩ => ⟨S2080x256, .f32⟩
  | _, _ => ⟨S2048x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c40_i32 : BitVec 32 := 40#32
  let v0 : BitVec 32 := Scalar.addi arg0 c40_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2048x13312 : Shape := ⟨2, ![2048, 13312]⟩
abbrev S4x3072 : Shape := ⟨2, ![4, 3072]⟩
abbrev S1x3072 : Shape := ⟨2, ![1, 3072]⟩
abbrev S2048x3072 : Shape := ⟨2, ![2048, 3072]⟩
abbrev S_ : Shape := ⟨0, ![]⟩
abbrev S3x3072 : Shape := ⟨2, ![3, 3072]⟩
abbrev S2051x3072 : Shape := ⟨2, ![2051, 3072]⟩
abbrev S3072 : Shape := ⟨1, ![3072]⟩

abbrev nBuf : Space → Nat
  | .hbm => 123
  | .vmem => 0
  | .smem => 0
  | _ => 0

abbrev bufTy : (tb : Table) → Fin (tcTables nBuf tb) → BufTy
  | .hbm, ⟨0, _⟩ => ⟨S2048x13312, .f32⟩
  | .hbm, ⟨1, _⟩ => ⟨S4x3072, .f32⟩
  | .hbm, ⟨2, _⟩ => ⟨S1x3072, .f32⟩
  | .hbm, ⟨3, _⟩ => ⟨S2048x3072, .f32⟩
  | .hbm, ⟨4, _⟩ => ⟨S2048x3072, .f32⟩
  | .hbm, ⟨5, _⟩ => ⟨S_, .f32⟩
  | .hbm, ⟨6, _⟩ => ⟨S3x3072, .f32⟩
  | .hbm, ⟨7, _⟩ => ⟨S2051x3072, .f32⟩
  | .hbm, ⟨8, _⟩ => ⟨S_, .f32⟩
  | .hbm, ⟨9, _⟩ => ⟨S3x3072, .f32⟩
  | .hbm, ⟨10, _⟩ => ⟨S1x3072, .f32⟩
  | .hbm, ⟨11, _⟩ => ⟨S3072, .f32⟩
  | .hbm, ⟨12, _⟩ => ⟨S2048x3072, .f32⟩
  | .hbm, ⟨13, _⟩ => ⟨S1x3072, .f32⟩
  | .hbm, ⟨14, _⟩ => ⟨S2048x3072, .f32⟩
  | .hbm, ⟨15, _⟩ => ⟨S2048x3072, .f32⟩
  | .hbm, ⟨16, _⟩ => ⟨S_, .f32⟩
  | .hbm, ⟨17, _⟩ => ⟨S2048x3072, .f32⟩
  | .hbm, ⟨18, _⟩ => ⟨S2048x3072, .f32⟩
  | .hbm, ⟨19, _⟩ => ⟨S1x3072, .f32⟩
  | .hbm, ⟨20, _⟩ => ⟨S3072, .f32⟩
  | .hbm, ⟨21, _⟩ => ⟨S2048x3072, .f32⟩
  | .hbm, ⟨22, _⟩ => ⟨S1x3072, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S1x3072, .f32⟩
  | .hbm, ⟨27, _⟩ => ⟨S3072, .f32⟩
  | .hbm, ⟨28, _⟩ => ⟨S2048x3072, .f32⟩
  | .hbm, ⟨29, _⟩ => ⟨S1x3072, .f32⟩
  | .hbm, ⟨30, _⟩ => ⟨S2048x3072, .f32⟩
  | .hbm, ⟨31, _⟩ => ⟨S2048x3072, .f32⟩
  | .hbm, ⟨32, _⟩ => ⟨S2048x3072, .f32⟩
  | .hbm, ⟨33, _⟩ => ⟨S1x3072, .f32⟩
  | .hbm, ⟨34, _⟩ => ⟨S3072, .f32⟩
  | .hbm, ⟨35, _⟩ => ⟨S2048x3072, .f32⟩
  | .hbm, ⟨36, _⟩ => ⟨S1x3072, .f32⟩
  | .hbm, ⟨37, _⟩ => ⟨S2048x3072, .f32⟩
  | .hbm, ⟨38, _⟩ => ⟨S2048x3072, .f32⟩
  | .hbm, ⟨39, _⟩ => ⟨S2048x3072, .f32⟩
  | .hbm, ⟨40, _⟩ => ⟨S2048x3072, .f32⟩
  | .hbm, ⟨41, _⟩ => ⟨S2048x3072, .f32⟩
  | .hbm, ⟨42, _⟩ => ⟨S2048x3072, .f32⟩
  | .hbm, ⟨43, _⟩ => ⟨S2048x3072, .f32⟩
  | .hbm, ⟨44, _⟩ => ⟨S_, .f32⟩
  | .hbm, ⟨45, _⟩ => ⟨S2048x3072, .f32⟩
  | .hbm, ⟨46, _⟩ => ⟨S2048x3072, .f32⟩
  | .hbm, ⟨47, _⟩ => ⟨S_, .f32⟩
  | .hbm, ⟨48, _⟩ => ⟨S2048x3072, .f32⟩
  | .hbm, ⟨49, _⟩ => ⟨S2048x3072, .f32⟩
  | .hbm, ⟨50, _⟩ => ⟨S_, .f32⟩
  | .hbm, ⟨51, _⟩ => ⟨S2048x3072, .f32⟩
  | .hbm, ⟨52, _⟩ => ⟨S2048x3072, .f32⟩
  | .hbm, ⟨53, _⟩ => ⟨S2048x3072, .f32⟩
  | .hbm, ⟨54, _⟩ => ⟨S2048x3072, .f32⟩
  | .hbm, ⟨55, _⟩ => ⟨S2048x3072, .f32⟩
  | .hbm, ⟨56, _⟩ => ⟨S2048x3072, .f32⟩
  | .hbm, ⟨57, _⟩ => ⟨S2048x3072, .f32⟩
  | .hbm, ⟨58, _⟩ => ⟨S2048x3072, .f32⟩
  | .hbm, ⟨59, _⟩ => ⟨S_, .f32⟩
  | .hbm, ⟨60, _⟩ => ⟨S3072, .f32⟩
  | .hbm, ⟨61, _⟩ => ⟨S1x3072, .f32⟩
  | .hbm, ⟨62, _⟩ => ⟨S2048x3072, .f32⟩
  | .hbm, ⟨63, _⟩ => ⟨S2048x3072, .f32⟩
  | .hbm, ⟨64, _⟩ => ⟨S2048x3072, .f32⟩
  | .hbm, ⟨65, _⟩ => ⟨S_, .f32⟩
  | .hbm, ⟨66, _⟩ => ⟨S3072, .f32⟩
  | .hbm, ⟨67, _⟩ => ⟨S1x3072, .f32⟩
  | .hbm, ⟨68, _⟩ => ⟨S_, .f32⟩
  | .hbm, ⟨69, _⟩ => ⟨S3072, .f32⟩
  | .hbm, ⟨70, _⟩ => ⟨S_, .f32⟩
  | .hbm, ⟨71, _⟩ => ⟨S2051x3072, .f32⟩
  | .hbm, ⟨72, _⟩ => ⟨S1x3072, .f32⟩
  | .hbm, ⟨73, _⟩ => ⟨S_, .f32⟩
  | .hbm, ⟨74, _⟩ => ⟨S4x3072, .f32⟩
  | .hbm, ⟨75, _⟩ => ⟨S2048x3072, .f32⟩
  | .hbm, ⟨76, _⟩ => ⟨S2048x3072, .f32⟩
  | .hbm, ⟨77, _⟩ => ⟨S2048x3072, .f32⟩
  | .hbm, ⟨78, _⟩ => ⟨S_, .f32⟩
  | .hbm, ⟨79, _⟩ => ⟨S3072, .f32⟩
  | .hbm, ⟨80, _⟩ => ⟨S1x3072, .f32⟩
  | .hbm, ⟨81, _⟩ => ⟨S_, .f32⟩
  | .hbm, ⟨82, _⟩ => ⟨S3072, .f32⟩
  | .hbm, ⟨83, _⟩ => ⟨S_, .f32⟩
  | .hbm, ⟨84, _⟩ => ⟨S2051x3072, .f32⟩
  | .hbm, ⟨85, _⟩ => ⟨S2051x3072, .f32⟩
  | .hbm, ⟨86, _⟩ => ⟨S1x3072, .f32⟩
  | .hbm, ⟨87, _⟩ => ⟨S_, .f32⟩
  | .hbm, ⟨88, _⟩ => ⟨S4x3072, .f32⟩
  | .hbm, ⟨89, _⟩ => ⟨S4x3072, .f32⟩
  | .hbm, ⟨90, _⟩ => ⟨S2048x3072, .f32⟩
  | .hbm, ⟨91, _⟩ => ⟨S2048x3072, .f32⟩
  | .hbm, ⟨92, _⟩ => ⟨S2048x3072, .f32⟩
  | .hbm, ⟨93, _⟩ => ⟨S_, .f32⟩
  | .hbm, ⟨94, _⟩ => ⟨S3072, .f32⟩
  | .hbm, ⟨95, _⟩ => ⟨S1x3072, .f32⟩
  | .hbm, ⟨96, _⟩ => ⟨S_, .f32⟩
  | .hbm, ⟨97, _⟩ => ⟨S3072, .f32⟩
  | .hbm, ⟨98, _⟩ => ⟨S_, .f32⟩
  | .hbm, ⟨99, _⟩ => ⟨S2051x3072, .f32⟩
  | .hbm, ⟨100, _⟩ => ⟨S2051x3072, .f32⟩
  | .hbm, ⟨101, _⟩ => ⟨S1x3072, .f32⟩
  | .hbm, ⟨102, _⟩ => ⟨S_, .f32⟩
  | .hbm, ⟨103, _⟩ => ⟨S4x3072, .f32⟩
  | .hbm, ⟨104, _⟩ => ⟨S4x3072, .f32⟩
  | .hbm, ⟨105, _⟩ => ⟨S2048x3072, .f32⟩
  | .hbm, ⟨106, _⟩ => ⟨S2048x3072, .f32⟩
  | .hbm, ⟨107, _⟩ => ⟨S2048x3072, .f32⟩
  | .hbm, ⟨108, _⟩ => ⟨S_, .f32⟩
  | .hbm, ⟨109, _⟩ => ⟨S3072, .f32⟩
  | .hbm, ⟨110, _⟩ => ⟨S1x3072, .f32⟩
  | .hbm, ⟨111, _⟩ => ⟨S_, .f32⟩
  | .hbm, ⟨112, _⟩ => ⟨S3072, .f32⟩
  | .hbm, ⟨113, _⟩ => ⟨S_, .f32⟩
  | .hbm, ⟨114, _⟩ => ⟨S2051x3072, .f32⟩
  | .hbm, ⟨115, _⟩ => ⟨S2051x3072, .f32⟩
  | .hbm, ⟨116, _⟩ => ⟨S1x3072, .f32⟩
  | .hbm, ⟨117, _⟩ => ⟨S_, .f32⟩
  | .hbm, ⟨118, _⟩ => ⟨S4x3072, .f32⟩
  | .hbm, ⟨119, _⟩ => ⟨S4x3072, .f32⟩
  | .hbm, ⟨120, _⟩ => ⟨S3x3072, .f32⟩
  | .hbm, ⟨121, _⟩ => ⟨S2048x3072, .f32⟩
  | .hbm, ⟨122, _⟩ => ⟨S2048x3072, .bf16⟩
  | _, _ => ⟨S2048x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v35_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v35_1 : Ref sig .tc := ⟨.hbm, 53, rfl⟩
abbrev main_v35_0 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v36 : Ref sig .tc := ⟨.hbm, 58, rfl⟩
abbrev main_cst_2 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_cst_17 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_18 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩

abbrev nD : Nat := 1
abbrev τ : Topo := Topo.v7x

variable {F : FTy → Type} [FloatOps F]
-- ==== Kernel2.lean ====
abbrev S2048x2048 : Shape := ⟨2, ![2048, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S4x1x2048x1408 : Shape := ⟨4, ![4, 1, 2048, 1408]⟩
abbrev S1024x2048 : Shape := ⟨2, ![1024, 2048]⟩
abbrev S1x1x2048x1408 : Shape := ⟨4, ![1, 1, 2048, 1408]⟩
abbrev S1024x1408 : Shape := ⟨2, ![1024, 1408]⟩
abbrev S2048x1408 : Shape := ⟨2, ![2048, 1408]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .f32⟩
  | .hbm, ⟨2, _⟩ => ⟨S2048x5632, .bf16⟩
  | .hbm, ⟨3, _⟩ => ⟨S2048x4x1408, .bf16⟩
  | .hbm, ⟨4, _⟩ => ⟨S4x2048x1408, .bf16⟩
  | .hbm, ⟨5, _⟩ => ⟨S4x1x2048x1408, .bf16⟩
  | .hbm, ⟨6, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1024x1408, .bf16⟩
  | .local _ .vmem, ⟨5, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x2048 : Shape := ⟨2, ![2048, 2048]⟩
abbrev S2048x5632 : Shape := ⟨2, ![2048, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .f32⟩
  | .hbm, ⟨2, _⟩ => ⟨S2048x2048, .f32⟩
  | .hbm, ⟨3, _⟩ => ⟨S2048x5632, .f32⟩
  | .hbm, ⟨4, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S2048x5632 : Shape := ⟨2, ![2048, 5632]⟩
abbrev S5632x2048 : Shape := ⟨2, ![5632, 2048]⟩
abbrev S4x1x1408x2048 : Shape := ⟨4, ![4, 1, 1408, 2048]⟩
abbrev S2048x2048 : Shape := ⟨2, ![2048, 2048]⟩
abbrev S512x1408 : Shape := ⟨2, ![512, 1408]⟩
abbrev S1x1x1408x1024 : Shape := ⟨4, ![1, 1, 1408, 1024]⟩
abbrev S512x1024 : Shape := ⟨2, ![512, 1024]⟩
abbrev S1408x1024 : Shape := ⟨2, ![1408, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S5632x2048, .f32⟩
  | .hbm, ⟨3, _⟩ => ⟨S5632x2048, .bf16⟩
  | .hbm, ⟨4, _⟩ => ⟨S4x1x1408x2048, .bf16⟩
  | .hbm, ⟨5, _⟩ => ⟨S2048x2048, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1x1x1408x1024, .bf16⟩
  | .local _ .vmem, ⟨5, _⟩ => ⟨S1x1x1408x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S2048x5632 : Shape := ⟨2, ![2048, 5632]⟩
abbrev S5632x2048 : Shape := ⟨2, ![5632, 2048]⟩
abbrev S_ : Shape := ⟨0, ![]⟩
abbrev S2048x2048 : Shape := ⟨2, ![2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S5632x2048, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel4.lean ====
abbrev S2048x5632 : Shape := ⟨2, ![2048, 5632]⟩
abbrev S5632x2048 : Shape := ⟨2, ![5632, 2048]⟩
abbrev S2048x2048 : Shape := ⟨2, ![2048, 2048]⟩
abbrev S4x1x1408x2048 : Shape := ⟨4, ![4, 1, 1408, 2048]⟩
abbrev S512x2048 : Shape := ⟨2, ![512, 2048]⟩
abbrev S1x1x1408x2048 : Shape := ⟨4, ![1, 1, 1408, 2048]⟩
abbrev S512x1408 : Shape := ⟨2, ![512, 1408]⟩
abbrev S1408x2048 : Shape := ⟨2, ![1408, 2048]⟩

abbrev nBuf : Space → Nat
  | .hbm => 8
  | .vmem => 12
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S5632x2048, .f32⟩
  | .hbm, ⟨3, _⟩ => ⟨S2048x2048, .bf16⟩
  | .hbm, ⟨4, _⟩ => ⟨S5632x2048, .bf16⟩
  | .hbm, ⟨5, _⟩ => ⟨S4x1x1408x2048, .bf16⟩
  | .hbm, ⟨6, _⟩ => ⟨S2048x5632, .bf16⟩
  | .hbm, ⟨7, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference4Ideal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S5632x2048, .f32⟩
  | .hbm, ⟨3, _⟩ => ⟨S2048x2048, .bf16⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x2048, .f32⟩
  | .hbm, ⟨21, _⟩ => ⟨S2048x2048, .f32⟩
  | .hbm, ⟨22, _⟩ => ⟨S2048x5632, .f32⟩
  | .hbm, ⟨23, _⟩ => ⟨S5632x2048, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .bf16⟩
  | .hbm, ⟨32, _⟩ => ⟨S2048x5632, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel5.lean ====
abbrev S2048x5632 : Shape := ⟨2, ![2048, 5632]⟩
abbrev S2048x2048 : Shape := ⟨2, ![2048, 2048]⟩
abbrev S4x1408x2048 : Shape := ⟨3, ![4, 1408, 2048]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x2048, .bf16⟩
  | .hbm, ⟨3, _⟩ => ⟨S4x1408x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S1408x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S4x1408x2048 : Shape := ⟨3, ![4, 1408, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x2048, .bf16⟩
  | .hbm, ⟨3, _⟩ => ⟨S_, .f32⟩
  | .hbm, ⟨4, _⟩ => ⟨S5632x2048, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x2048, .f32⟩
  | .hbm, ⟨18, _⟩ => ⟨S2048x2048, .f32⟩
  | .hbm, ⟨19, _⟩ => ⟨S2048x5632, .f32⟩
  | .hbm, ⟨20, _⟩ => ⟨S5632x2048, .f32⟩
  | .hbm, ⟨21, _⟩ => ⟨S5632x2048, .bf16⟩
  | .hbm, ⟨22, _⟩ => ⟨S4x1408x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Kernel6.lean ====
abbrev S2048x5632 : Shape := ⟨2, ![2048, 5632]⟩
abbrev S2048x4x1408 : Shape := ⟨3, ![2048, 4, 1408]⟩
abbrev S4x2048x1408 : Shape := ⟨3, ![4, 2048, 1408]⟩
abbrev S4x1x2048x1408 : Shape := ⟨4, ![4, 1, 2048, 1408]⟩
abbrev S2048x2048 : Shape := ⟨2, ![2048, 2048]⟩
abbrev S1024x1408 : Shape := ⟨2, ![1024, 1408]⟩
abbrev S1x1x1024x1408 : Shape := ⟨4, ![1, 1, 1024, 1408]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x5632, .f32⟩
  | .hbm, ⟨1, _⟩ => ⟨S2048x5632, .bf16⟩
  | .hbm, ⟨2, _⟩ => ⟨S2048x5632, .bf16⟩
  | .hbm, ⟨3, _⟩ => ⟨S2048x4x1408, .bf16⟩
  | .hbm, ⟨4, _⟩ => ⟨S4x2048x1408, .bf16⟩
  | .hbm, ⟨5, _⟩ => ⟨S4x1x2048x1408, .bf16⟩
  | .hbm, ⟨6, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .bf16⟩
  | .hbm, ⟨2, _⟩ => ⟨S_, .f32⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S2048x2048 : Shape := ⟨2, ![2048, 2048]⟩
abbrev S2048x5632 : Shape := ⟨2, ![2048, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S_, .f32⟩
  | .hbm, ⟨3, _⟩ => ⟨S2048x5632, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | .hbm, ⟨10, _⟩ => ⟨S2048x4x1408, .bf16⟩
  | .hbm, ⟨11, _⟩ => ⟨S4x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S2048x2048 : Shape := ⟨2, ![2048, 2048]⟩
abbrev S2048x13312 : Shape := ⟨2, ![2048, 13312]⟩
abbrev S1x1x2048x13312 : Shape := ⟨4, ![1, 1, 2048, 13312]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x13312, .f32⟩
  | .hbm, ⟨2, _⟩ => ⟨S2048x13312, .bf16⟩
  | .hbm, ⟨3, _⟩ => ⟨S1x1x2048x13312, .bf16⟩
  | .hbm, ⟨4, _⟩ => ⟨S2048x13312, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.divsi arg1 c13_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg1 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32_4 : BitVec 32 := 13#32
  let c0_i32_5 : BitVec 32 := 0#32
  let v17 : BitVec 1 := Scalar.cmpi .eq c13_i32_4 c0_i32_5
  let c1_i32_6 : BitVec 32 := 1#32
  let v18 : BitVec 32 := Scalar.select v17 c1_i32_6 c13_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S2048x13312 : Shape := ⟨2, ![2048, 13312]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x13312, .f32⟩
  | .hbm, ⟨2, _⟩ => ⟨S2048x2048, .f32⟩
  | .hbm, ⟨3, _⟩ => ⟨S2048x13312, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S2048x13312 : Shape := ⟨2, ![2048, 13312]⟩
abbrev S1x1x2048x13312 : Shape := ⟨4, ![1, 1, 2048, 13312]⟩
abbrev S2048x2048 : Shape := ⟨2, ![2048, 2048]⟩
abbrev S1024x1664 : Shape := ⟨2, ![1024, 1664]⟩
abbrev S1x1x1024x1664 : Shape := ⟨4, ![1, 1, 1024, 1664]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x13312, .f32⟩
  | .hbm, ⟨1, _⟩ => ⟨S2048x13312, .bf16⟩
  | .hbm, ⟨2, _⟩ => ⟨S2048x13312, .bf16⟩
  | .hbm, ⟨3, _⟩ => ⟨S1x1x2048x13312, .bf16⟩
  | .hbm, ⟨4, _⟩ => ⟨S2048x2048, .f32⟩
  | .local _ .vmem, ⟨0, _⟩ => ⟨S1024x1664, .bf16⟩
  | .local _ .vmem, ⟨1, _⟩ => ⟨S1024x1664, .bf16⟩
  | .local _ .vmem, ⟨2, _⟩ => ⟨S1x1x1024x1664, .bf16⟩
  | .local _ .vmem, ⟨3, _⟩ => ⟨S1x1x1024x1664, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg2 c8_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg2 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x13312 : Shape := ⟨2, ![2048, 13312]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x13312, .f32⟩
  | .hbm, ⟨1, _⟩ => ⟨S2048x13312, .bf16⟩
  | .hbm, ⟨2, _⟩ => ⟨S_, .f32⟩
  | .hbm, ⟨3, _⟩ => ⟨S2048x2048, .f32⟩
  | .hbm, ⟨4, _⟩ => ⟨S2048x13312, .f32⟩
  | .hbm, ⟨5, _⟩ => ⟨S2048x13312, .f32⟩
  | .hbm, ⟨6, _⟩ => ⟨S2048x2048, .f32⟩
  | _, _ => ⟨S2048x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S2048x2048 : Shape := ⟨2, ![2048, 2048]⟩
abbrev S2048x13312 : Shape := ⟨2, ![2048, 13312]⟩
abbrev S1x2048x13312 : Shape := ⟨3, ![1, 2048, 13312]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x13312, .bf16⟩
  | .hbm, ⟨2, _⟩ => ⟨S1x2048x13312, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.divsi arg1 c13_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg1 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c13_i32_4 : BitVec 32 := 13#32
  let c0_i32_5 : BitVec 32 := 0#32
  let v17 : BitVec 1 := Scalar.cmpi .eq c13_i32_4 c0_i32_5
  let c1_i32_6 : BitVec 32 := 1#32
  let v18 : BitVec 32 := Scalar.select v17 c1_i32_6 c13_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S2048x13312 : Shape := ⟨2, ![2048, 13312]⟩
abbrev S_ : Shape := ⟨0, ![]⟩
abbrev S13312x2048 : Shape := ⟨2, ![13312, 2048]⟩
abbrev S1x2048x13312 : Shape := ⟨3, ![1, 2048, 13312]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x13312, .bf16⟩
  | .hbm, ⟨2, _⟩ => ⟨S_, .f32⟩
  | .hbm, ⟨3, _⟩ => ⟨S2048x13312, .f32⟩
  | .hbm, ⟨4, _⟩ => ⟨S2048x2048, .f32⟩
  | .hbm, ⟨5, _⟩ => ⟨S2048x13312, .f32⟩
  | .hbm, ⟨6, _⟩ => ⟨S2048x13312, .f32⟩
  | .hbm, ⟨7, _⟩ => ⟨S13312x2048, .f32⟩
  | .hbm, ⟨8, _⟩ => ⟨S2048x13312, .f32⟩
  | .hbm, ⟨9, _⟩ => ⟨S2048x13312, .bf16⟩
  | .hbm, ⟨10, _⟩ => ⟨S1x2048x13312, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S4x2048 : Shape := ⟨2, ![4, 2048]⟩
abbrev S4x1024 : Shape := ⟨2, ![4, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | .local _ .vmem, ⟨8, _⟩ => ⟨S4x1024, .f32⟩
  | .local _ .vmem, ⟨9, _⟩ => ⟨S4x1024, .f32⟩
  | .local _ .vmem, ⟨10, _⟩ => ⟨S4x1024, .f32⟩
  | .local _ .vmem, ⟨11, _⟩ => ⟨S4x1024, .f32⟩
  | .local _ .vmem, ⟨12, _⟩ => ⟨S4x1024, .f32⟩
  | .local _ .vmem, ⟨13, _⟩ => ⟨S4x1024, .f32⟩
  | .local _ .vmem, ⟨14, _⟩ => ⟨S4x1024, .f32⟩
  | .local _ .vmem, ⟨15, _⟩ => ⟨S4x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference11Ideal.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S2x2048 : Shape := ⟨2, ![2, 2048]⟩
abbrev S2x1024 : Shape := ⟨2, ![2, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .hbm, ⟨7, _⟩ => ⟨S2x2048, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | .local _ .vmem, ⟨8, _⟩ => ⟨S2x1024, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S2x1024, .f32⟩
  | .local _ .vmem, ⟨14, _⟩ => ⟨S2x1024, .f32⟩
  | .local _ .vmem, ⟨15, _⟩ => ⟨S2x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference12Ideal.lean ====
abbrev S2x2048 : Shape := ⟨2, ![2, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S2x2048x3336 : Shape := ⟨3, ![2, 2048, 3336]⟩
abbrev S4096x3336 : Shape := ⟨2, ![4096, 3336]⟩
abbrev S64x3336 : Shape := ⟨2, ![64, 3336]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x3336, .f32⟩
  | .hbm, ⟨1, _⟩ => ⟨S2x2048x3336, .f32⟩
  | .hbm, ⟨2, _⟩ => ⟨S2x2048x3336, .f32⟩
  | .hbm, ⟨3, _⟩ => ⟨S2x2048x3336, .f32⟩
  | .hbm, ⟨4, _⟩ => ⟨S4096x3336, .f32⟩
  | .hbm, ⟨5, _⟩ => ⟨S4096x3336, .f32⟩
  | .hbm, ⟨6, _⟩ => ⟨S4096x3336, .f32⟩
  | .hbm, ⟨7, _⟩ => ⟨S4096x3336, .f32⟩
  | .hbm, ⟨8, _⟩ => ⟨S4096x3336, .f32⟩
  | .hbm, ⟨9, _⟩ => ⟨S4096x3336, .f32⟩
  | .hbm, ⟨10, _⟩ => ⟨S4096x3336, .f32⟩
  | .hbm, ⟨11, _⟩ => ⟨S4096x3336, .f32⟩
  | .local _ .vmem, ⟨0, _⟩ => ⟨S64x3336, .f32⟩
  | .local _ .vmem, ⟨1, _⟩ => ⟨S64x3336, .f32⟩
  | .local _ .vmem, ⟨2, _⟩ => ⟨S64x3336, .f32⟩
  | .local _ .vmem, ⟨3, _⟩ => ⟨S64x3336, .f32⟩
  | .local _ .vmem, ⟨4, _⟩ => ⟨S64x3336, .f32⟩
  | .local _ .vmem, ⟨5, _⟩ => ⟨S64x3336, .f32⟩
  | .local _ .vmem, ⟨6, _⟩ => ⟨S64x3336, .f32⟩
  | .local _ .vmem, ⟨7, _⟩ => ⟨S64x3336, .f32⟩
  | .local _ .vmem, ⟨8, _⟩ => ⟨S64x3336, .f32⟩
  | .local _ .vmem, ⟨9, _⟩ => ⟨S64x3336, .f32⟩
  | .local _ .vmem, ⟨10, _⟩ => ⟨S64x3336, .f32⟩
  | .local _ .vmem, ⟨11, _⟩ => ⟨S64x3336, .f32⟩
  | .local _ .vmem, ⟨12, _⟩ => ⟨S64x3336, .f32⟩
  | .local _ .vmem, ⟨13, _⟩ => ⟨S64x3336, .f32⟩
  | .local _ .vmem, ⟨14, _⟩ => ⟨S64x3336, .f32⟩
  | .local _ .vmem, ⟨15, _⟩ => ⟨S64x3336, .f32⟩
  | _, _ => ⟨S2x2048x3336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x3336 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x3336 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x3336 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x3336 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x3336 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x3336 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x3336 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x3336 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S2x2048x3336 : Shape := ⟨3, ![2, 2048, 3336]⟩
abbrev S_ : Shape := ⟨0, ![]⟩
abbrev S4096x3336 : Shape := ⟨2, ![4096, 3336]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x3336, .f32⟩
  | .hbm, ⟨1, _⟩ => ⟨S2x2048x3336, .f32⟩
  | .hbm, ⟨2, _⟩ => ⟨S2x2048x3336, .f32⟩
  | .hbm, ⟨3, _⟩ => ⟨S2x2048x3336, .f32⟩
  | .hbm, ⟨4, _⟩ => ⟨S_, .f32⟩
  | .hbm, ⟨5, _⟩ => ⟨S2x2048x3336, .f32⟩
  | .hbm, ⟨6, _⟩ => ⟨S2x2048x3336, .f32⟩
  | .hbm, ⟨7, _⟩ => ⟨S_, .f32⟩
  | .hbm, ⟨8, _⟩ => ⟨S2x2048x3336, .f32⟩
  | .hbm, ⟨9, _⟩ => ⟨S2x2048x3336, .f32⟩
  | .hbm, ⟨10, _⟩ => ⟨S2x2048x3336, .f32⟩
  | .hbm, ⟨11, _⟩ => ⟨S_, .f32⟩
  | .hbm, ⟨12, _⟩ => ⟨S2x2048x3336, .f32⟩
  | .hbm, ⟨13, _⟩ => ⟨S2x2048x3336, .f32⟩
  | .hbm, ⟨14, _⟩ => ⟨S2x2048x3336, .f32⟩
  | .hbm, ⟨15, _⟩ => ⟨S_, .f32⟩
  | .hbm, ⟨16, _⟩ => ⟨S2x2048x3336, .f32⟩
  | .hbm, ⟨17, _⟩ => ⟨S2x2048x3336, .f32⟩
  | .hbm, ⟨18, _⟩ => ⟨S2x2048x3336, .f32⟩
  | .hbm, ⟨19, _⟩ => ⟨S_, .f32⟩
  | .hbm, ⟨20, _⟩ => ⟨S2x2048x3336, .f32⟩
  | .hbm, ⟨21, _⟩ => ⟨S2x2048x3336, .f32⟩
  | .hbm, ⟨22, _⟩ => ⟨S_, .f32⟩
  | .hbm, ⟨23, _⟩ => ⟨S2x2048x3336, .f32⟩
  | .hbm, ⟨24, _⟩ => ⟨S2x2048x3336, .f32⟩
  | .hbm, ⟨25, _⟩ => ⟨S2x2048x3336, .f32⟩
  | .hbm, ⟨26, _⟩ => ⟨S_, .f32⟩
  | .hbm, ⟨27, _⟩ => ⟨S2x2048x3336, .f32⟩
  | .hbm, ⟨28, _⟩ => ⟨S2x2048x3336, .f32⟩
  | .hbm, ⟨29, _⟩ => ⟨S2x2048x3336, .f32⟩
  | .hbm, ⟨30, _⟩ => ⟨S_, .f32⟩
  | .hbm, ⟨31, _⟩ => ⟨S2x2048x3336, .f32⟩
  | .hbm, ⟨32, _⟩ => ⟨S2x2048x3336, .f32⟩
  | .hbm, ⟨33, _⟩ => ⟨S2x2048x3336, .f32⟩
  | .hbm, ⟨34, _⟩ => ⟨S_, .f32⟩
  | .hbm, ⟨35, _⟩ => ⟨S2x2048x3336, .f32⟩
  | .hbm, ⟨36, _⟩ => ⟨S2x2048x3336, .f32⟩
  | .hbm, ⟨37, _⟩ => ⟨S4096x3336, .f32⟩
  | .hbm, ⟨38, _⟩ => ⟨S4096x3336, .f32⟩
  | .hbm, ⟨39, _⟩ => ⟨S4096x3336, .f32⟩
  | .hbm, ⟨40, _⟩ => ⟨S4096x3336, .f32⟩
  | _, _ => ⟨S2x2048x3336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel14.lean ====
abbrev S2x4x768 : Shape := ⟨3, ![2, 4, 768]⟩
abbrev S8x768 : Shape := ⟨2, ![8, 768]⟩

abbrev nBuf : Space → Nat
  | .hbm => 12
  | .vmem => 8
  | .smem => 0
  | _ => 0

abbrev bufTy : (tb : Table) → Fin (tcTables nBuf tb) → BufTy
  | .hbm, ⟨0, _⟩ => ⟨S2x4x768, .f32⟩
  | .hbm, ⟨1, _⟩ => ⟨S2x4x768, .f32⟩
  | .hbm, ⟨2, _⟩ => ⟨S2x4x768, .f32⟩
  | .hbm, ⟨3, _⟩ => ⟨S2x4x768, .f32⟩
  | .hbm, ⟨4, _⟩ => ⟨S8x768, .f32⟩
  | .hbm, ⟨5, _⟩ => ⟨S8x768, .f32⟩
  | .hbm, ⟨6, _⟩ => ⟨S8x768, .f32⟩
  | .hbm, ⟨7, _⟩ => ⟨S8x768, .f32⟩
  | .hbm, ⟨8, _⟩ => ⟨S8x768, .f32⟩
  | .hbm, ⟨9, _⟩ => ⟨S8x768, .f32⟩
  | .hbm, ⟨10, _⟩ => ⟨S8x768, .f32⟩
  | .hbm, ⟨11, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | .local _ .vmem, ⟨7, _⟩ => ⟨S8x768, .f32⟩
  | _, _ => ⟨S2x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S8x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference14Ideal.lean ====
abbrev S2x4x768 : Shape := ⟨3, ![2, 4, 768]⟩
abbrev S_ : Shape := ⟨0, ![]⟩
abbrev S8x768 : Shape := ⟨2, ![8, 768]⟩

abbrev nBuf : Space → Nat
  | .hbm => 41
  | .vmem => 0
  | .smem => 0
  | _ => 0

abbrev bufTy : (tb : Table) → Fin (tcTables nBuf tb) → BufTy
  | .hbm, ⟨0, _⟩ => ⟨S2x4x768, .f32⟩
  | .hbm, ⟨1, _⟩ => ⟨S2x4x768, .f32⟩
  | .hbm, ⟨2, _⟩ => ⟨S2x4x768, .f32⟩
  | .hbm, ⟨3, _⟩ => ⟨S2x4x768, .f32⟩
  | .hbm, ⟨4, _⟩ => ⟨S_, .f32⟩
  | .hbm, ⟨5, _⟩ => ⟨S2x4x768, .f32⟩
  | .hbm, ⟨6, _⟩ => ⟨S2x4x768, .f32⟩
  | .hbm, ⟨7, _⟩ => ⟨S_, .f32⟩
  | .hbm, ⟨8, _⟩ => ⟨S2x4x768, .f32⟩
  | .hbm, ⟨9, _⟩ => ⟨S2x4x768, .f32⟩
  | .hbm, ⟨10, _⟩ => ⟨S2x4x768, .f32⟩
  | .hbm, ⟨11, _⟩ => ⟨S_, .f32⟩
  | .hbm, ⟨12, _⟩ => ⟨S2x4x768, .f32⟩
  | .hbm, ⟨13, _⟩ => ⟨S2x4x768, .f32⟩
  | .hbm, ⟨14, _⟩ => ⟨S2x4x768, .f32⟩
  | .hbm, ⟨15, _⟩ => ⟨S_, .f32⟩
  | .hbm, ⟨16, _⟩ => ⟨S2x4x768, .f32⟩
  | .hbm, ⟨17, _⟩ => ⟨S2x4x768, .f32⟩
  | .hbm, ⟨18, _⟩ => ⟨S2x4x768, .f32⟩
  | .hbm, ⟨19, _⟩ => ⟨S_, .f32⟩
  | .hbm, ⟨20, _⟩ => ⟨S2x4x768, .f32⟩
  | .hbm, ⟨21, _⟩ => ⟨S2x4x768, .f32⟩
  | .hbm, ⟨22, _⟩ => ⟨S_, .f32⟩
  | .hbm, ⟨23, _⟩ => ⟨S2x4x768, .f32⟩
  | .hbm, ⟨24, _⟩ => ⟨S2x4x768, .f32⟩
  | .hbm, ⟨25, _⟩ => ⟨S2x4x768, .f32⟩
  | .hbm, ⟨26, _⟩ => ⟨S_, .f32⟩
  | .hbm, ⟨27, _⟩ => ⟨S2x4x768, .f32⟩
  | .hbm, ⟨28, _⟩ => ⟨S2x4x768, .f32⟩
  | .hbm, ⟨29, _⟩ => ⟨S2x4x768, .f32⟩
  | .hbm, ⟨30, _⟩ => ⟨S_, .f32⟩
  | .hbm, ⟨31, _⟩ => ⟨S2x4x768, .f32⟩
  | .hbm, ⟨32, _⟩ => ⟨S2x4x768, .f32⟩
  | .hbm, ⟨33, _⟩ => ⟨S2x4x768, .f32⟩
  | .hbm, ⟨34, _⟩ => ⟨S_, .f32⟩
  | .hbm, ⟨35, _⟩ => ⟨S2x4x768, .f32⟩
  | .hbm, ⟨36, _⟩ => ⟨S2x4x768, .f32⟩
  | .hbm, ⟨37, _⟩ => ⟨S8x768, .f32⟩
  | .hbm, ⟨38, _⟩ => ⟨S8x768, .f32⟩
  | .hbm, ⟨39, _⟩ => ⟨S8x768, .f32⟩
  | .hbm, ⟨40, _⟩ => ⟨S8x768, .f32⟩
  | _, _ => ⟨S2x4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel15.lean ====
abbrev S2x3072 : Shape := ⟨2, ![2, 3072]⟩
abbrev S2x1024 : Shape := ⟨2, ![2, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x3072, .f32⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S2x3072, .f32⟩
  | .hbm, ⟨5, _⟩ => ⟨S2x3072, .f32⟩
  | .hbm, ⟨6, _⟩ => ⟨S2x3072, .f32⟩
  | .hbm, ⟨7, _⟩ => ⟨S2x3072, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | .local _ .vmem, ⟨8, _⟩ => ⟨S2x1024, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S2x1024, .f32⟩
  | .local _ .vmem, ⟨14, _⟩ => ⟨S2x1024, .f32⟩
  | .local _ .vmem, ⟨15, _⟩ => ⟨S2x1024, .f32⟩
  | _, _ => ⟨S2x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference15Ideal.lean ====
abbrev S2x3072 : Shape := ⟨2, ![2, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3072, .f32⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S_, .f32⟩
  | .hbm, ⟨5, _⟩ => ⟨S2x3072, .f32⟩
  | .hbm, ⟨6, _⟩ => ⟨S2x3072, .f32⟩
  | .hbm, ⟨7, _⟩ => ⟨S_, .f32⟩
  | .hbm, ⟨8, _⟩ => ⟨S2x3072, .f32⟩
  | .hbm, ⟨9, _⟩ => ⟨S2x3072, .f32⟩
  | .hbm, ⟨10, _⟩ => ⟨S2x3072, .f32⟩
  | .hbm, ⟨11, _⟩ => ⟨S_, .f32⟩
  | .hbm, ⟨12, _⟩ => ⟨S2x3072, .f32⟩
  | .hbm, ⟨13, _⟩ => ⟨S2x3072, .f32⟩
  | .hbm, ⟨14, _⟩ => ⟨S2x3072, .f32⟩
  | .hbm, ⟨15, _⟩ => ⟨S_, .f32⟩
  | .hbm, ⟨16, _⟩ => ⟨S2x3072, .f32⟩
  | .hbm, ⟨17, _⟩ => ⟨S2x3072, .f32⟩
  | .hbm, ⟨18, _⟩ => ⟨S2x3072, .f32⟩
  | .hbm, ⟨19, _⟩ => ⟨S_, .f32⟩
  | .hbm, ⟨20, _⟩ => ⟨S2x3072, .f32⟩
  | .hbm, ⟨21, _⟩ => ⟨S2x3072, .f32⟩
  | .hbm, ⟨22, _⟩ => ⟨S_, .f32⟩
  | .hbm, ⟨23, _⟩ => ⟨S2x3072, .f32⟩
  | .hbm, ⟨24, _⟩ => ⟨S2x3072, .f32⟩
  | .hbm, ⟨25, _⟩ => ⟨S2x3072, .f32⟩
  | .hbm, ⟨26, _⟩ => ⟨S_, .f32⟩
  | .hbm, ⟨27, _⟩ => ⟨S2x3072, .f32⟩
  | .hbm, ⟨28, _⟩ => ⟨S2x3072, .f32⟩
  | .hbm, ⟨29, _⟩ => ⟨S2x3072, .f32⟩
  | .hbm, ⟨30, _⟩ => ⟨S_, .f32⟩
  | .hbm, ⟨31, _⟩ => ⟨S2x3072, .f32⟩
  | .hbm, ⟨32, _⟩ => ⟨S2x3072, .f32⟩
  | .hbm, ⟨33, _⟩ => ⟨S2x3072, .f32⟩
  | .hbm, ⟨34, _⟩ => ⟨S_, .f32⟩
  | .hbm, ⟨35, _⟩ => ⟨S2x3072, .f32⟩
  | .hbm, ⟨36, _⟩ => ⟨S2x3072, .f32⟩
  | _, _ => ⟨S2x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2x32 : Shape := ⟨2, ![2, 32]⟩

abbrev nBuf : Space → Nat
  | .hbm => 8
  | .vmem => 8
  | .smem => 0
  | _ => 0

abbrev bufTy : (tb : Table) → Fin (tcTables nBuf tb) → BufTy
  | .hbm, ⟨0, _⟩ => ⟨S2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S2x32, .f32⟩
  | .hbm, ⟨5, _⟩ => ⟨S2x32, .f32⟩
  | .hbm, ⟨6, _⟩ => ⟨S2x32, .f32⟩
  | .hbm, ⟨7, _⟩ => ⟨S2x32, .f32⟩
  | .local _ .vmem, ⟨0, _⟩ => ⟨S2x32, .f32⟩
  | .local _ .vmem, ⟨1, _⟩ => ⟨S2x32, .f32⟩
  | .local _ .vmem, ⟨2, _⟩ => ⟨S2x32, .f32⟩
  | .local _ .vmem, ⟨3, _⟩ => ⟨S2x32, .f32⟩
  | .local _ .vmem, ⟨4, _⟩ => ⟨S2x32, .f32⟩
  | .local _ .vmem, ⟨5, _⟩ => ⟨S2x32, .f32⟩
  | .local _ .vmem, ⟨6, _⟩ => ⟨S2x32, .f32⟩
  | .local _ .vmem, ⟨7, _⟩ => ⟨S2x32, .f32⟩
  | _, _ => ⟨S2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S2x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference16Ideal.lean ====
abbrev S2x32 : Shape := ⟨2, ![2, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S_, .f32⟩
  | .hbm, ⟨5, _⟩ => ⟨S2x32, .f32⟩
  | .hbm, ⟨6, _⟩ => ⟨S2x32, .f32⟩
  | .hbm, ⟨7, _⟩ => ⟨S_, .f32⟩
  | .hbm, ⟨8, _⟩ => ⟨S2x32, .f32⟩
  | .hbm, ⟨9, _⟩ => ⟨S2x32, .f32⟩
  | .hbm, ⟨10, _⟩ => ⟨S2x32, .f32⟩
  | .hbm, ⟨11, _⟩ => ⟨S_, .f32⟩
  | .hbm, ⟨12, _⟩ => ⟨S2x32, .f32⟩
  | .hbm, ⟨13, _⟩ => ⟨S2x32, .f32⟩
  | .hbm, ⟨14, _⟩ => ⟨S2x32, .f32⟩
  | .hbm, ⟨15, _⟩ => ⟨S_, .f32⟩
  | .hbm, ⟨16, _⟩ => ⟨S2x32, .f32⟩
  | .hbm, ⟨17, _⟩ => ⟨S2x32, .f32⟩
  | .hbm, ⟨18, _⟩ => ⟨S2x32, .f32⟩
  | .hbm, ⟨19, _⟩ => ⟨S_, .f32⟩
  | .hbm, ⟨20, _⟩ => ⟨S2x32, .f32⟩
  | .hbm, ⟨21, _⟩ => ⟨S2x32, .f32⟩
  | .hbm, ⟨22, _⟩ => ⟨S_, .f32⟩
  | .hbm, ⟨23, _⟩ => ⟨S2x32, .f32⟩
  | .hbm, ⟨24, _⟩ => ⟨S2x32, .f32⟩
  | .hbm, ⟨25, _⟩ => ⟨S2x32, .f32⟩
  | .hbm, ⟨26, _⟩ => ⟨S_, .f32⟩
  | .hbm, ⟨27, _⟩ => ⟨S2x32, .f32⟩
  | .hbm, ⟨28, _⟩ => ⟨S2x32, .f32⟩
  | .hbm, ⟨29, _⟩ => ⟨S2x32, .f32⟩
  | .hbm, ⟨30, _⟩ => ⟨S_, .f32⟩
  | .hbm, ⟨31, _⟩ => ⟨S2x32, .f32⟩
  | .hbm, ⟨32, _⟩ => ⟨S2x32, .f32⟩
  | .hbm, ⟨33, _⟩ => ⟨S2x32, .f32⟩
  | .hbm, ⟨34, _⟩ => ⟨S_, .f32⟩
  | .hbm, ⟨35, _⟩ => ⟨S2x32, .f32⟩
  | .hbm, ⟨36, _⟩ => ⟨S2x32, .f32⟩
  | _, _ => ⟨S2x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S2x1024x2048 : Shape := ⟨3, ![2, 1024, 2048]⟩
abbrev S2048x2048 : Shape := ⟨2, ![2048, 2048]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x2048, .f32⟩
  | .hbm, ⟨1, _⟩ => ⟨S2x1024x2048, .f32⟩
  | .hbm, ⟨2, _⟩ => ⟨S2x1024x2048, .f32⟩
  | .hbm, ⟨3, _⟩ => ⟨S2x1024x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference17Ideal.lean ====
abbrev S2x1024x2048 : Shape := ⟨3, ![2, 1024, 2048]⟩
abbrev S_ : Shape := ⟨0, ![]⟩
abbrev S2048x2048 : Shape := ⟨2, ![2048, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x2048, .f32⟩
  | .hbm, ⟨1, _⟩ => ⟨S2x1024x2048, .f32⟩
  | .hbm, ⟨2, _⟩ => ⟨S2x1024x2048, .f32⟩
  | .hbm, ⟨3, _⟩ => ⟨S2x1024x2048, .f32⟩
  | .hbm, ⟨4, _⟩ => ⟨S_, .f32⟩
  | .hbm, ⟨5, _⟩ => ⟨S2x1024x2048, .f32⟩
  | .hbm, ⟨6, _⟩ => ⟨S2x1024x2048, .f32⟩
  | .hbm, ⟨7, _⟩ => ⟨S_, .f32⟩
  | .hbm, ⟨8, _⟩ => ⟨S2x1024x2048, .f32⟩
  | .hbm, ⟨9, _⟩ => ⟨S2x1024x2048, .f32⟩
  | .hbm, ⟨10, _⟩ => ⟨S2x1024x2048, .f32⟩
  | .hbm, ⟨11, _⟩ => ⟨S_, .f32⟩
  | .hbm, ⟨12, _⟩ => ⟨S2x1024x2048, .f32⟩
  | .hbm, ⟨13, _⟩ => ⟨S2x1024x2048, .f32⟩
  | .hbm, ⟨14, _⟩ => ⟨S2x1024x2048, .f32⟩
  | .hbm, ⟨15, _⟩ => ⟨S_, .f32⟩
  | .hbm, ⟨16, _⟩ => ⟨S2x1024x2048, .f32⟩
  | .hbm, ⟨17, _⟩ => ⟨S2x1024x2048, .f32⟩
  | .hbm, ⟨18, _⟩ => ⟨S2x1024x2048, .f32⟩
  | .hbm, ⟨19, _⟩ => ⟨S_, .f32⟩
  | .hbm, ⟨20, _⟩ => ⟨S2x1024x2048, .f32⟩
  | .hbm, ⟨21, _⟩ => ⟨S2x1024x2048, .f32⟩
  | .hbm, ⟨22, _⟩ => ⟨S_, .f32⟩
  | .hbm, ⟨23, _⟩ => ⟨S2x1024x2048, .f32⟩
  | .hbm, ⟨24, _⟩ => ⟨S2x1024x2048, .f32⟩
  | .hbm, ⟨25, _⟩ => ⟨S2x1024x2048, .f32⟩
  | .hbm, ⟨26, _⟩ => ⟨S_, .f32⟩
  | .hbm, ⟨27, _⟩ => ⟨S2x1024x2048, .f32⟩
  | .hbm, ⟨28, _⟩ => ⟨S2x1024x2048, .f32⟩
  | .hbm, ⟨29, _⟩ => ⟨S2x1024x2048, .f32⟩
  | .hbm, ⟨30, _⟩ => ⟨S_, .f32⟩
  | .hbm, ⟨31, _⟩ => ⟨S2x1024x2048, .f32⟩
  | .hbm, ⟨32, _⟩ => ⟨S2x1024x2048, .f32⟩
  | .hbm, ⟨33, _⟩ => ⟨S2x1024x2048, .f32⟩
  | .hbm, ⟨34, _⟩ => ⟨S_, .f32⟩
  | .hbm, ⟨35, _⟩ => ⟨S2x1024x2048, .f32⟩
  | .hbm, ⟨36, _⟩ => ⟨S2x1024x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | _, _ => ⟨S2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel18.lean ====
abbrev S2x2048x1024 : Shape := ⟨3, ![2, 2048, 1024]⟩
abbrev S4096x1024 : Shape := ⟨2, ![4096, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference18Ideal.lean ====
abbrev S2x2048x1024 : Shape := ⟨3, ![2, 2048, 1024]⟩
abbrev S_ : Shape := ⟨0, ![]⟩
abbrev S4096x1024 : Shape := ⟨2, ![4096, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S2x2048x1024, .f32⟩
  | .hbm, ⟨36, _⟩ => ⟨S2x2048x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel19.lean ====
abbrev S2x1024 : Shape := ⟨2, ![2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference19Ideal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S2x31x512 : Shape := ⟨3, ![2, 31, 512]⟩
abbrev S62x512 : Shape := ⟨2, ![62, 512]⟩

abbrev nBuf : Space → Nat
  | .hbm => 12
  | .vmem => 8
  | .smem => 0
  | _ => 0

abbrev bufTy : (tb : Table) → Fin (tcTables nBuf tb) → BufTy
  | .hbm, ⟨0, _⟩ => ⟨S2x31x512, .f32⟩
  | .hbm, ⟨1, _⟩ => ⟨S2x31x512, .f32⟩
  | .hbm, ⟨2, _⟩ => ⟨S2x31x512, .f32⟩
  | .hbm, ⟨3, _⟩ => ⟨S2x31x512, .f32⟩
  | .hbm, ⟨4, _⟩ => ⟨S62x512, .f32⟩
  | .hbm, ⟨5, _⟩ => ⟨S62x512, .f32⟩
  | .hbm, ⟨6, _⟩ => ⟨S62x512, .f32⟩
  | .hbm, ⟨7, _⟩ => ⟨S62x512, .f32⟩
  | .hbm, ⟨8, _⟩ => ⟨S62x512, .f32⟩
  | .hbm, ⟨9, _⟩ => ⟨S62x512, .f32⟩
  | .hbm, ⟨10, _⟩ => ⟨S62x512, .f32⟩
  | .hbm, ⟨11, _⟩ => ⟨S62x512, .f32⟩
  | .local _ .vmem, ⟨0, _⟩ => ⟨S62x512, .f32⟩
  | .local _ .vmem, ⟨1, _⟩ => ⟨S62x512, .f32⟩
  | .local _ .vmem, ⟨2, _⟩ => ⟨S62x512, .f32⟩
  | .local _ .vmem, ⟨3, _⟩ => ⟨S62x512, .f32⟩
  | .local _ .vmem, ⟨4, _⟩ => ⟨S62x512, .f32⟩
  | .local _ .vmem, ⟨5, _⟩ => ⟨S62x512, .f32⟩
  | .local _ .vmem, ⟨6, _⟩ => ⟨S62x512, .f32⟩
  | .local _ .vmem, ⟨7, _⟩ => ⟨S62x512, .f32⟩
  | _, _ => ⟨S2x31x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S62x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S62x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S62x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S62x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S62x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S62x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S62x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S62x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference20Ideal.lean ====
abbrev S2x31x512 : Shape := ⟨3, ![2, 31, 512]⟩
abbrev S_ : Shape := ⟨0, ![]⟩
abbrev S62x512 : Shape := ⟨2, ![62, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x31x512, .f32⟩
  | .hbm, ⟨1, _⟩ => ⟨S2x31x512, .f32⟩
  | .hbm, ⟨2, _⟩ => ⟨S2x31x512, .f32⟩
  | .hbm, ⟨3, _⟩ => ⟨S2x31x512, .f32⟩
  | .hbm, ⟨4, _⟩ => ⟨S_, .f32⟩
  | .hbm, ⟨5, _⟩ => ⟨S2x31x512, .f32⟩
  | .hbm, ⟨6, _⟩ => ⟨S2x31x512, .f32⟩
  | .hbm, ⟨7, _⟩ => ⟨S_, .f32⟩
  | .hbm, ⟨8, _⟩ => ⟨S2x31x512, .f32⟩
  | .hbm, ⟨9, _⟩ => ⟨S2x31x512, .f32⟩
  | .hbm, ⟨10, _⟩ => ⟨S2x31x512, .f32⟩
  | .hbm, ⟨11, _⟩ => ⟨S_, .f32⟩
  | .hbm, ⟨12, _⟩ => ⟨S2x31x512, .f32⟩
  | .hbm, ⟨13, _⟩ => ⟨S2x31x512, .f32⟩
  | .hbm, ⟨14, _⟩ => ⟨S2x31x512, .f32⟩
  | .hbm, ⟨15, _⟩ => ⟨S_, .f32⟩
  | .hbm, ⟨16, _⟩ => ⟨S2x31x512, .f32⟩
  | .hbm, ⟨17, _⟩ => ⟨S2x31x512, .f32⟩
  | .hbm, ⟨18, _⟩ => ⟨S2x31x512, .f32⟩
  | .hbm, ⟨19, _⟩ => ⟨S_, .f32⟩
  | .hbm, ⟨20, _⟩ => ⟨S2x31x512, .f32⟩
  | .hbm, ⟨21, _⟩ => ⟨S2x31x512, .f32⟩
  | .hbm, ⟨22, _⟩ => ⟨S_, .f32⟩
  | .hbm, ⟨23, _⟩ => ⟨S2x31x512, .f32⟩
  | .hbm, ⟨24, _⟩ => ⟨S2x31x512, .f32⟩
  | .hbm, ⟨25, _⟩ => ⟨S2x31x512, .f32⟩
  | .hbm, ⟨26, _⟩ => ⟨S_, .f32⟩
  | .hbm, ⟨27, _⟩ => ⟨S2x31x512, .f32⟩
  | .hbm, ⟨28, _⟩ => ⟨S2x31x512, .f32⟩
  | .hbm, ⟨29, _⟩ => ⟨S2x31x512, .f32⟩
  | .hbm, ⟨30, _⟩ => ⟨S_, .f32⟩
  | .hbm, ⟨31, _⟩ => ⟨S2x31x512, .f32⟩
  | .hbm, ⟨32, _⟩ => ⟨S2x31x512, .f32⟩
  | .hbm, ⟨33, _⟩ => ⟨S2x31x512, .f32⟩
  | .hbm, ⟨34, _⟩ => ⟨S_, .f32⟩
  | .hbm, ⟨35, _⟩ => ⟨S2x31x512, .f32⟩
  | .hbm, ⟨36, _⟩ => ⟨S2x31x512, .f32⟩
  | .hbm, ⟨37, _⟩ => ⟨S62x512, .f32⟩
  | .hbm, ⟨38, _⟩ => ⟨S62x512, .f32⟩
  | .hbm, ⟨39, _⟩ => ⟨S62x512, .f32⟩
  | .hbm, ⟨40, _⟩ => ⟨S62x512, .f32⟩
  | _, _ => ⟨S2x31x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel21.lean ====
abbrev S2x512 : Shape := ⟨2, ![2, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .hbm, ⟨7, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | .local _ .vmem, ⟨7, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference21Ideal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2x512x2048 : Shape := ⟨3, ![2, 512, 2048]⟩
abbrev S1024x2048 : Shape := ⟨2, ![1024, 2048]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S1024x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference22Ideal.lean ====
abbrev S2x512x2048 : Shape := ⟨3, ![2, 512, 2048]⟩
abbrev S_ : Shape := ⟨0, ![]⟩
abbrev S1024x2048 : Shape := ⟨2, ![1024, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | .hbm, ⟨37, _⟩ => ⟨S1024x2048, .f32⟩
  | .hbm, ⟨38, _⟩ => ⟨S1024x2048, .f32⟩
  | .hbm, ⟨39, _⟩ => ⟨S1024x2048, .f32⟩
  | .hbm, ⟨40, _⟩ => ⟨S1024x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel23.lean ====
abbrev S4x2048x1408 : Shape := ⟨3, ![4, 2048, 1408]⟩
abbrev S8192x1408 : Shape := ⟨2, ![8192, 1408]⟩
abbrev S128x1408 : Shape := ⟨2, ![128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x1408, .f32⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .hbm, ⟨7, _⟩ => ⟨S8192x1408, .f32⟩
  | .hbm, ⟨8, _⟩ => ⟨S8192x1408, .f32⟩
  | .hbm, ⟨9, _⟩ => ⟨S8192x1408, .f32⟩
  | .hbm, ⟨10, _⟩ => ⟨S8192x1408, .f32⟩
  | .hbm, ⟨11, _⟩ => ⟨S8192x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S4x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference23Ideal.lean ====
abbrev S4x2048x1408 : Shape := ⟨3, ![4, 2048, 1408]⟩
abbrev S_ : Shape := ⟨0, ![]⟩
abbrev S8192x1408 : Shape := ⟨2, ![8192, 1408]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1408, .f32⟩
  | .hbm, ⟨1, _⟩ => ⟨S4x2048x1408, .f32⟩
  | .hbm, ⟨2, _⟩ => ⟨S4x2048x1408, .f32⟩
  | .hbm, ⟨3, _⟩ => ⟨S4x2048x1408, .f32⟩
  | .hbm, ⟨4, _⟩ => ⟨S_, .f32⟩
  | .hbm, ⟨5, _⟩ => ⟨S4x2048x1408, .f32⟩
  | .hbm, ⟨6, _⟩ => ⟨S4x2048x1408, .f32⟩
  | .hbm, ⟨7, _⟩ => ⟨S_, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .hbm, ⟨11, _⟩ => ⟨S_, .f32⟩
  | .hbm, ⟨12, _⟩ => ⟨S4x2048x1408, .f32⟩
  | .hbm, ⟨13, _⟩ => ⟨S4x2048x1408, .f32⟩
  | .hbm, ⟨14, _⟩ => ⟨S4x2048x1408, .f32⟩
  | .hbm, ⟨15, _⟩ => ⟨S_, .f32⟩
  | .hbm, ⟨16, _⟩ => ⟨S4x2048x1408, .f32⟩
  | .hbm, ⟨17, _⟩ => ⟨S4x2048x1408, .f32⟩
  | .hbm, ⟨18, _⟩ => ⟨S4x2048x1408, .f32⟩
  | .hbm, ⟨19, _⟩ => ⟨S_, .f32⟩
  | .hbm, ⟨20, _⟩ => ⟨S4x2048x1408, .f32⟩
  | .hbm, ⟨21, _⟩ => ⟨S4x2048x1408, .f32⟩
  | .hbm, ⟨22, _⟩ => ⟨S_, .f32⟩
  | .hbm, ⟨23, _⟩ => ⟨S4x2048x1408, .f32⟩
  | .hbm, ⟨24, _⟩ => ⟨S4x2048x1408, .f32⟩
  | .hbm, ⟨25, _⟩ => ⟨S4x2048x1408, .f32⟩
  | .hbm, ⟨26, _⟩ => ⟨S_, .f32⟩
  | .hbm, ⟨27, _⟩ => ⟨S4x2048x1408, .f32⟩
  | .hbm, ⟨28, _⟩ => ⟨S4x2048x1408, .f32⟩
  | .hbm, ⟨29, _⟩ => ⟨S4x2048x1408, .f32⟩
  | .hbm, ⟨30, _⟩ => ⟨S_, .f32⟩
  | .hbm, ⟨31, _⟩ => ⟨S4x2048x1408, .f32⟩
  | .hbm, ⟨32, _⟩ => ⟨S4x2048x1408, .f32⟩
  | .hbm, ⟨33, _⟩ => ⟨S4x2048x1408, .f32⟩
  | .hbm, ⟨34, _⟩ => ⟨S_, .f32⟩
  | .hbm, ⟨35, _⟩ => ⟨S4x2048x1408, .f32⟩
  | .hbm, ⟨36, _⟩ => ⟨S4x2048x1408, .f32⟩
  | .hbm, ⟨37, _⟩ => ⟨S8192x1408, .f32⟩
  | .hbm, ⟨38, _⟩ => ⟨S8192x1408, .f32⟩
  | .hbm, ⟨39, _⟩ => ⟨S8192x1408, .f32⟩
  | .hbm, ⟨40, _⟩ => ⟨S8192x1408, .f32⟩
  | _, _ => ⟨S4x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel24.lean ====
abbrev S4x1408x2048 : Shape := ⟨3, ![4, 1408, 2048]⟩
abbrev S5632x2048 : Shape := ⟨2, ![5632, 2048]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S4x1408x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .hbm, ⟨7, _⟩ => ⟨S5632x2048, .f32⟩
  | .hbm, ⟨8, _⟩ => ⟨S5632x2048, .f32⟩
  | .hbm, ⟨9, _⟩ => ⟨S5632x2048, .f32⟩
  | .hbm, ⟨10, _⟩ => ⟨S5632x2048, .f32⟩
  | .hbm, ⟨11, _⟩ => ⟨S5632x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![22, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference24Ideal.lean ====
abbrev S4x1408x2048 : Shape := ⟨3, ![4, 1408, 2048]⟩
abbrev S_ : Shape := ⟨0, ![]⟩
abbrev S5632x2048 : Shape := ⟨2, ![5632, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S4x1408x2048, .f32⟩
  | .hbm, ⟨4, _⟩ => ⟨S_, .f32⟩
  | .hbm, ⟨5, _⟩ => ⟨S4x1408x2048, .f32⟩
  | .hbm, ⟨6, _⟩ => ⟨S4x1408x2048, .f32⟩
  | .hbm, ⟨7, _⟩ => ⟨S_, .f32⟩
  | .hbm, ⟨8, _⟩ => ⟨S4x1408x2048, .f32⟩
  | .hbm, ⟨9, _⟩ => ⟨S4x1408x2048, .f32⟩
  | .hbm, ⟨10, _⟩ => ⟨S4x1408x2048, .f32⟩
  | .hbm, ⟨11, _⟩ => ⟨S_, .f32⟩
  | .hbm, ⟨12, _⟩ => ⟨S4x1408x2048, .f32⟩
  | .hbm, ⟨13, _⟩ => ⟨S4x1408x2048, .f32⟩
  | .hbm, ⟨14, _⟩ => ⟨S4x1408x2048, .f32⟩
  | .hbm, ⟨15, _⟩ => ⟨S_, .f32⟩
  | .hbm, ⟨16, _⟩ => ⟨S4x1408x2048, .f32⟩
  | .hbm, ⟨17, _⟩ => ⟨S4x1408x2048, .f32⟩
  | .hbm, ⟨18, _⟩ => ⟨S4x1408x2048, .f32⟩
  | .hbm, ⟨19, _⟩ => ⟨S_, .f32⟩
  | .hbm, ⟨20, _⟩ => ⟨S4x1408x2048, .f32⟩
  | .hbm, ⟨21, _⟩ => ⟨S4x1408x2048, .f32⟩
  | .hbm, ⟨22, _⟩ => ⟨S_, .f32⟩
  | .hbm, ⟨23, _⟩ => ⟨S4x1408x2048, .f32⟩
  | .hbm, ⟨24, _⟩ => ⟨S4x1408x2048, .f32⟩
  | .hbm, ⟨25, _⟩ => ⟨S4x1408x2048, .f32⟩
  | .hbm, ⟨26, _⟩ => ⟨S_, .f32⟩
  | .hbm, ⟨27, _⟩ => ⟨S4x1408x2048, .f32⟩
  | .hbm, ⟨28, _⟩ => ⟨S4x1408x2048, .f32⟩
  | .hbm, ⟨29, _⟩ => ⟨S4x1408x2048, .f32⟩
  | .hbm, ⟨30, _⟩ => ⟨S_, .f32⟩
  | .hbm, ⟨31, _⟩ => ⟨S4x1408x2048, .f32⟩
  | .hbm, ⟨32, _⟩ => ⟨S4x1408x2048, .f32⟩
  | .hbm, ⟨33, _⟩ => ⟨S4x1408x2048, .f32⟩
  | .hbm, ⟨34, _⟩ => ⟨S_, .f32⟩
  | .hbm, ⟨35, _⟩ => ⟨S4x1408x2048, .f32⟩
  | .hbm, ⟨36, _⟩ => ⟨S4x1408x2048, .f32⟩
  | .hbm, ⟨37, _⟩ => ⟨S5632x2048, .f32⟩
  | .hbm, ⟨38, _⟩ => ⟨S5632x2048, .f32⟩
  | .hbm, ⟨39, _⟩ => ⟨S5632x2048, .f32⟩
  | .hbm, ⟨40, _⟩ => ⟨S5632x2048, .f32⟩
  | _, _ => ⟨S4x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel25.lean ====
abbrev S2048x2048 : Shape := ⟨2, ![2048, 2048]⟩
abbrev S8x128 : Shape := ⟨2, ![8, 128]⟩
abbrev S128x2048 : Shape := ⟨2, ![128, 2048]⟩
abbrev S1x128x2048 : Shape := ⟨3, ![1, 128, 2048]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S8x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference25Ideal.lean ====
abbrev S2048x2048 : Shape := ⟨2, ![2048, 2048]⟩
abbrev S_ : Shape := ⟨0, ![]⟩
abbrev S2048 : Shape := ⟨1, ![2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel26.lean ====
abbrev S2048x2048 : Shape := ⟨2, ![2048, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | .local _ .vmem, ⟨9, _⟩ => ⟨S128x2048, .f32⟩
  | .local _ .vmem, ⟨10, _⟩ => ⟨S128x2048, .f32⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference26Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048, .f32⟩
  | .hbm, ⟨23, _⟩ => ⟨S1x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel27.lean ====
abbrev S2048x2048 : Shape := ⟨2, ![2048, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 11
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | .hbm, ⟨9, _⟩ => ⟨S1x2048, .f32⟩
  | .hbm, ⟨10, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S1x2048, .f32⟩
  | .local _ .vmem, ⟨11, _⟩ => ⟨S1x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .bf16⟩
  | .local _ .vmem, ⟨15, _⟩ => ⟨S128x2048, .bf16⟩
  | .local _ .vmem, ⟨16, _⟩ => ⟨S1x2048, .f32⟩
  | .local _ .vmem, ⟨17, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference27Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 106
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048, .f32⟩
  | .hbm, ⟨25, _⟩ => ⟨S1x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x2048, .f32⟩
  | .hbm, ⟨45, _⟩ => ⟨S2048x2048, .f32⟩
  | .hbm, ⟨46, _⟩ => ⟨S2048, .f32⟩
  | .hbm, ⟨47, _⟩ => ⟨S1x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S2048x2048, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S_, .f32⟩
  | .hbm, ⟨81, _⟩ => ⟨S2048, .f32⟩
  | .hbm, ⟨82, _⟩ => ⟨S1x2048, .f32⟩
  | .hbm, ⟨83, _⟩ => ⟨S2048x2048, .f32⟩
  | .hbm, ⟨84, _⟩ => ⟨S2048x2048, .f32⟩
  | .hbm, ⟨85, _⟩ => ⟨S_, .f32⟩
  | .hbm, ⟨86, _⟩ => ⟨S2048, .f32⟩
  | .hbm, ⟨87, _⟩ => ⟨S1x2048, .f32⟩
  | .hbm, ⟨88, _⟩ => ⟨S2048x2048, .f32⟩
  | .hbm, ⟨89, _⟩ => ⟨S_, .f32⟩
  | .hbm, ⟨90, _⟩ => ⟨S2048, .f32⟩
  | .hbm, ⟨91, _⟩ => ⟨S2048x1, .f32⟩
  | .hbm, ⟨92, _⟩ => ⟨S2048x2048, .f32⟩
  | .hbm, ⟨93, _⟩ => ⟨S2048x2048, .f32⟩
  | .hbm, ⟨94, _⟩ => ⟨S2048x1, .f32⟩
  | .hbm, ⟨95, _⟩ => ⟨S_, .f32⟩
  | .hbm, ⟨96, _⟩ => ⟨S2048x1, .f32⟩
  | .hbm, ⟨97, _⟩ => ⟨S2048x1, .f32⟩
  | .hbm, ⟨98, _⟩ => ⟨S_, .f32⟩
  | .hbm, ⟨99, _⟩ => ⟨S2048, .f32⟩
  | .hbm, ⟨100, _⟩ => ⟨S2048x2048, .f32⟩
  | .hbm, ⟨101, _⟩ => ⟨S2048x2048, .f32⟩
  | .hbm, ⟨102, _⟩ => ⟨S2048x2048, .f32⟩
  | .hbm, ⟨103, _⟩ => ⟨S2048x2048, .f32⟩
  | .hbm, ⟨104, _⟩ => ⟨S2048x2048, .f32⟩
  | .hbm, ⟨105, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_15 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩

abbrev nD : Nat := 1
abbrev τ : Topo := Topo.v7x

variable {F : FTy → Type} [FloatOps F]
-- ==== Kernel28.lean ====
abbrev S2048x2048 : Shape := ⟨2, ![2048, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .bf16⟩
  | .local _ .vmem, ⟨10, _⟩ => ⟨S128x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference28Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x2048, .f32⟩
  | .hbm, ⟨41, _⟩ => ⟨S2048x2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel29.lean ====
abbrev S2048x2048 : Shape := ⟨2, ![2048, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference29Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 97
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x2048, .f32⟩
  | .hbm, ⟨28, _⟩ => ⟨S2048x2048, .f32⟩
  | .hbm, ⟨29, _⟩ => ⟨S2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S2048, .f32⟩
  | .hbm, ⟨34, _⟩ => ⟨S1x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S2048x2048, .f32⟩
  | .hbm, ⟨61, _⟩ => ⟨S_, .f32⟩
  | .hbm, ⟨62, _⟩ => ⟨S2048, .f32⟩
  | .hbm, ⟨63, _⟩ => ⟨S1x2048, .f32⟩
  | .hbm, ⟨64, _⟩ => ⟨S2048x2048, .f32⟩
  | .hbm, ⟨65, _⟩ => ⟨S2048x2048, .f32⟩
  | .hbm, ⟨66, _⟩ => ⟨S_, .f32⟩
  | .hbm, ⟨67, _⟩ => ⟨S2048, .f32⟩
  | .hbm, ⟨68, _⟩ => ⟨S1x2048, .f32⟩
  | .hbm, ⟨69, _⟩ => ⟨S2048x2048, .f32⟩
  | .hbm, ⟨70, _⟩ => ⟨S_, .f32⟩
  | .hbm, ⟨71, _⟩ => ⟨S2048, .f32⟩
  | .hbm, ⟨72, _⟩ => ⟨S2048x1, .f32⟩
  | .hbm, ⟨73, _⟩ => ⟨S2048x2048, .f32⟩
  | .hbm, ⟨74, _⟩ => ⟨S2048x2048, .f32⟩
  | .hbm, ⟨75, _⟩ => ⟨S2048x1, .f32⟩
  | .hbm, ⟨76, _⟩ => ⟨S_, .f32⟩
  | .hbm, ⟨77, _⟩ => ⟨S2048x1, .f32⟩
  | .hbm, ⟨78, _⟩ => ⟨S2048x1, .f32⟩
  | .hbm, ⟨79, _⟩ => ⟨S_, .f32⟩
  | .hbm, ⟨80, _⟩ => ⟨S2048, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S2048x2048, .f32⟩
  | .hbm, ⟨87, _⟩ => ⟨S_, .f32⟩
  | .hbm, ⟨88, _⟩ => ⟨S2048, .f32⟩
  | .hbm, ⟨89, _⟩ => ⟨S2048x1, .f32⟩
  | .hbm, ⟨90, _⟩ => ⟨S_, .f32⟩
  | .hbm, ⟨91, _⟩ => ⟨S2048x1, .f32⟩
  | .hbm, ⟨92, _⟩ => ⟨S2048x1, .f32⟩
  | .hbm, ⟨93, _⟩ => ⟨S_, .f32⟩
  | .hbm, ⟨94, _⟩ => ⟨S2048, .f32⟩
  | .hbm, ⟨95, _⟩ => ⟨S2048x2048, .f32⟩
  | .hbm, ⟨96, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v27_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v27_1 : Ref sig .tc := ⟨.hbm, 48, rfl⟩
abbrev main_v27_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]
-- ==== Kernel30.lean ====
abbrev S2048x4096 : Shape := ⟨2, ![2048, 4096]⟩
abbrev S1x4096 : Shape := ⟨2, ![1, 4096]⟩
abbrev S2048x2048 : Shape := ⟨2, ![2048, 2048]⟩
abbrev S1x2048 : Shape := ⟨2, ![1, 2048]⟩
abbrev S128x512 : Shape := ⟨2, ![128, 512]⟩
abbrev S1x512 : Shape := ⟨2, ![1, 512]⟩
abbrev S512 : Shape := ⟨1, ![512]⟩

abbrev nBuf : Space → Nat
  | .hbm => 7
  | .vmem => 18
  | .smem => 0
  | _ => 0

abbrev bufTy : (tb : Table) → Fin (tcTables nBuf tb) → BufTy
  | .hbm, ⟨0, _⟩ => ⟨S2048x4096, .f32⟩
  | .hbm, ⟨1, _⟩ => ⟨S1x4096, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S1x2048, .f32⟩
  | .hbm, ⟨6, _⟩ => ⟨S1x2048, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference30Ideal.lean ====
abbrev S2048x4096 : Shape := ⟨2, ![2048, 4096]⟩
abbrev S1x4096 : Shape := ⟨2, ![1, 4096]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩

abbrev nBuf : Space → Nat
  | .hbm => 35
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1x4096, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S2048x2048, .bf16⟩
  | .hbm, ⟨34, _⟩ => ⟨S2048x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel31.lean ====
abbrev S2048x4096 : Shape := ⟨2, ![2048, 4096]⟩
abbrev S4096x2048 : Shape := ⟨2, ![4096, 2048]⟩
abbrev S4x1x1024x2048 : Shape := ⟨4, ![4, 1, 1024, 2048]⟩
abbrev S2048x2048 : Shape := ⟨2, ![2048, 2048]⟩
abbrev S1024x1024 : Shape := ⟨2, ![1024, 1024]⟩
abbrev S1x1x1024x1024 : Shape := ⟨4, ![1, 1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .f32⟩
  | .hbm, ⟨2, _⟩ => ⟨S4096x2048, .bf16⟩
  | .hbm, ⟨3, _⟩ => ⟨S4x1x1024x2048, .bf16⟩
  | .hbm, ⟨4, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S2048x4096 : Shape := ⟨2, ![2048, 4096]⟩
abbrev S4096x2048 : Shape := ⟨2, ![4096, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .f32⟩
  | .hbm, ⟨2, _⟩ => ⟨S2048x4096, .f32⟩
  | .hbm, ⟨3, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel32.lean ====
abbrev S4096x2048 : Shape := ⟨2, ![4096, 2048]⟩
abbrev S2048x2048 : Shape := ⟨2, ![2048, 2048]⟩
abbrev S4x1x1024x2048 : Shape := ⟨4, ![4, 1, 1024, 2048]⟩
abbrev S2048x4096 : Shape := ⟨2, ![2048, 4096]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .bf16⟩
  | .hbm, ⟨3, _⟩ => ⟨S4x1x1024x2048, .bf16⟩
  | .hbm, ⟨4, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S4096x2048 : Shape := ⟨2, ![4096, 2048]⟩
abbrev S2048x2048 : Shape := ⟨2, ![2048, 2048]⟩
abbrev S_ : Shape := ⟨0, ![]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S_, .f32⟩
  | .hbm, ⟨3, _⟩ => ⟨S2048x4096, .f32⟩
  | .hbm, ⟨4, _⟩ => ⟨S2048x2048, .f32⟩
  | .hbm, ⟨5, _⟩ => ⟨S2048x2048, .f32⟩
  | .hbm, ⟨6, _⟩ => ⟨S2048x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel33.lean ====
abbrev S2048x4096 : Shape := ⟨2, ![2048, 4096]⟩
abbrev S2048x2048 : Shape := ⟨2, ![2048, 2048]⟩
abbrev S4x1024x2048 : Shape := ⟨3, ![4, 1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S4x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S2048x4096 : Shape := ⟨2, ![2048, 4096]⟩
abbrev S2048x2048 : Shape := ⟨2, ![2048, 2048]⟩
abbrev S_ : Shape := ⟨0, ![]⟩
abbrev S4096x2048 : Shape := ⟨2, ![4096, 2048]⟩
abbrev S4x1024x2048 : Shape := ⟨3, ![4, 1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x4096, .f32⟩
  | .hbm, ⟨5, _⟩ => ⟨S2048x2048, .f32⟩
  | .hbm, ⟨6, _⟩ => ⟨S2048x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | .hbm, ⟨10, _⟩ => ⟨S4x1024x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel34.lean ====
abbrev S2048x2048 : Shape := ⟨2, ![2048, 2048]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S4x1x2048x1024 : Shape := ⟨4, ![4, 1, 2048, 1024]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .f32⟩
  | .hbm, ⟨2, _⟩ => ⟨S2048x4096, .bf16⟩
  | .hbm, ⟨3, _⟩ => ⟨S2048x4x1024, .bf16⟩
  | .hbm, ⟨4, _⟩ => ⟨S4x2048x1024, .bf16⟩
  | .hbm, ⟨5, _⟩ => ⟨S4x1x2048x1024, .bf16⟩
  | .hbm, ⟨6, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference34Ideal.lean ====
abbrev S2048x2048 : Shape := ⟨2, ![2048, 2048]⟩
abbrev S2048x4096 : Shape := ⟨2, ![2048, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .f32⟩
  | .hbm, ⟨2, _⟩ => ⟨S2048x2048, .f32⟩
  | .hbm, ⟨3, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel35.lean ====
abbrev S2048x4096 : Shape := ⟨2, ![2048, 4096]⟩
abbrev S2048x4x1024 : Shape := ⟨3, ![2048, 4, 1024]⟩
abbrev S4x2048x1024 : Shape := ⟨3, ![4, 2048, 1024]⟩
abbrev S4x1x2048x1024 : Shape := ⟨4, ![4, 1, 2048, 1024]⟩
abbrev S2048x2048 : Shape := ⟨2, ![2048, 2048]⟩
abbrev S1024x1024 : Shape := ⟨2, ![1024, 1024]⟩
abbrev S1x1x1024x1024 : Shape := ⟨4, ![1, 1, 1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S2048x4096, .bf16⟩
  | .hbm, ⟨2, _⟩ => ⟨S2048x4096, .bf16⟩
  | .hbm, ⟨3, _⟩ => ⟨S2048x4x1024, .bf16⟩
  | .hbm, ⟨4, _⟩ => ⟨S4x2048x1024, .bf16⟩
  | .hbm, ⟨5, _⟩ => ⟨S4x1x2048x1024, .bf16⟩
  | .hbm, ⟨6, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference35Ideal.lean ====
abbrev S2048x4096 : Shape := ⟨2, ![2048, 4096]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .bf16⟩
  | .hbm, ⟨2, _⟩ => ⟨S_, .f32⟩
  | .hbm, ⟨3, _⟩ => ⟨S2048x2048, .f32⟩
  | .hbm, ⟨4, _⟩ => ⟨S2048x4096, .f32⟩
  | .hbm, ⟨5, _⟩ => ⟨S2048x4096, .f32⟩
  | .hbm, ⟨6, _⟩ => ⟨S2048x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel36.lean ====
abbrev S2048x2048 : Shape := ⟨2, ![2048, 2048]⟩
abbrev S2048x4096 : Shape := ⟨2, ![2048, 4096]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference36Ideal.lean ====
abbrev S2048x2048 : Shape := ⟨2, ![2048, 2048]⟩
abbrev S2048x4096 : Shape := ⟨2, ![2048, 4096]⟩
abbrev S_ : Shape := ⟨0, ![]⟩
abbrev S4096x2048 : Shape := ⟨2, ![4096, 2048]⟩
abbrev S2048x4x1024 : Shape := ⟨3, ![2048, 4, 1024]⟩
abbrev S4x2048x1024 : Shape := ⟨3, ![4, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S_, .f32⟩
  | .hbm, ⟨3, _⟩ => ⟨S2048x4096, .f32⟩
  | .hbm, ⟨4, _⟩ => ⟨S2048x2048, .f32⟩
  | .hbm, ⟨5, _⟩ => ⟨S2048x4096, .f32⟩
  | .hbm, ⟨6, _⟩ => ⟨S2048x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S2048x4x1024, .bf16⟩
  | .hbm, ⟨11, _⟩ => ⟨S4x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel37.lean ====
abbrev S2048x2048 : Shape := ⟨2, ![2048, 2048]⟩
abbrev S4x1x512x2048 : Shape := ⟨4, ![4, 1, 512, 2048]⟩
abbrev S1024x512 : Shape := ⟨2, ![1024, 512]⟩
abbrev S1x1x512x1024 : Shape := ⟨4, ![1, 1, 512, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .hbm, ⟨3, _⟩ => ⟨S4x1x512x2048, .bf16⟩
  | .hbm, ⟨4, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference37Ideal.lean ====
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel38.lean ====
abbrev S2048x2048 : Shape := ⟨2, ![2048, 2048]⟩
abbrev S4x1x512x2048 : Shape := ⟨4, ![4, 1, 512, 2048]⟩
abbrev S1024x2048 : Shape := ⟨2, ![1024, 2048]⟩
abbrev S1x1x512x2048 : Shape := ⟨4, ![1, 1, 512, 2048]⟩
abbrev S1024x512 : Shape := ⟨2, ![1024, 512]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S4x1x512x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1024x512, .f32⟩
  | .local _ .vmem, ⟨5, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference38Ideal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel39.lean ====
abbrev S2048x2048 : Shape := ⟨2, ![2048, 2048]⟩
abbrev S4x512x2048 : Shape := ⟨3, ![4, 512, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference39Ideal.lean ====
abbrev S2048x2048 : Shape := ⟨2, ![2048, 2048]⟩
abbrev S_ : Shape := ⟨0, ![]⟩
abbrev S4x512x2048 : Shape := ⟨3, ![4, 512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S4x512x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel40.lean ====
abbrev S2048x2048 : Shape := ⟨2, ![2048, 2048]⟩
abbrev S2048x32 : Shape := ⟨2, ![2048, 32]⟩
abbrev S1x1x2048x32 : Shape := ⟨4, ![1, 1, 2048, 32]⟩
abbrev S1024x2048 : Shape := ⟨2, ![1024, 2048]⟩
abbrev S1024x32 : Shape := ⟨2, ![1024, 32]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x32, .f32⟩
  | .hbm, ⟨2, _⟩ => ⟨S2048x32, .bf16⟩
  | .hbm, ⟨3, _⟩ => ⟨S1x1x2048x32, .bf16⟩
  | .hbm, ⟨4, _⟩ => ⟨S2048x32, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x32, .bf16⟩
  | .local _ .vmem, ⟨3, _⟩ => ⟨S1024x32, .f32⟩
  | .local _ .vmem, ⟨4, _⟩ => ⟨S1024x32, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1x2048x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference40Ideal.lean ====
abbrev S2048x2048 : Shape := ⟨2, ![2048, 2048]⟩
abbrev S2048x32 : Shape := ⟨2, ![2048, 32]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x32, .f32⟩
  | .hbm, ⟨2, _⟩ => ⟨S2048x2048, .f32⟩
  | .hbm, ⟨3, _⟩ => ⟨S2048x32, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel41.lean ====
abbrev S2048x32 : Shape := ⟨2, ![2048, 32]⟩
abbrev S1x1x2048x32 : Shape := ⟨4, ![1, 1, 2048, 32]⟩
abbrev S2048x2048 : Shape := ⟨2, ![2048, 2048]⟩
abbrev S1024x32 : Shape := ⟨2, ![1024, 32]⟩
abbrev S1x1x1024x32 : Shape := ⟨4, ![1, 1, 1024, 32]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x32, .f32⟩
  | .hbm, ⟨1, _⟩ => ⟨S2048x32, .f32⟩
  | .hbm, ⟨2, _⟩ => ⟨S2048x32, .bf16⟩
  | .hbm, ⟨3, _⟩ => ⟨S1x1x2048x32, .bf16⟩
  | .hbm, ⟨4, _⟩ => ⟨S2048x2048, .f32⟩
  | .local _ .vmem, ⟨0, _⟩ => ⟨S1024x32, .f32⟩
  | .local _ .vmem, ⟨1, _⟩ => ⟨S1024x32, .f32⟩
  | .local _ .vmem, ⟨2, _⟩ => ⟨S1x1x1024x32, .bf16⟩
  | .local _ .vmem, ⟨3, _⟩ => ⟨S1x1x1024x32, .bf16⟩
  | .local _ .vmem, ⟨4, _⟩ => ⟨S1024x1024, .f32⟩
  | .local _ .vmem, ⟨5, _⟩ => ⟨S1024x1024, .f32⟩
  | _, _ => ⟨S2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference41Ideal.lean ====
abbrev S2048x32 : Shape := ⟨2, ![2048, 32]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x32, .f32⟩
  | .hbm, ⟨1, _⟩ => ⟨S2048x32, .f32⟩
  | .hbm, ⟨2, _⟩ => ⟨S_, .f32⟩
  | .hbm, ⟨3, _⟩ => ⟨S2048x2048, .f32⟩
  | .hbm, ⟨4, _⟩ => ⟨S2048x32, .f32⟩
  | .hbm, ⟨5, _⟩ => ⟨S2048x2048, .f32⟩
  | _, _ => ⟨S2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel42.lean ====
abbrev S2048x2048 : Shape := ⟨2, ![2048, 2048]⟩
abbrev S2048x32 : Shape := ⟨2, ![2048, 32]⟩
abbrev S1x2048x32 : Shape := ⟨3, ![1, 2048, 32]⟩
abbrev S2048x1024 : Shape := ⟨2, ![2048, 1024]⟩
abbrev S1x1024x32 : Shape := ⟨3, ![1, 1024, 32]⟩
abbrev S1024x32 : Shape := ⟨2, ![1024, 32]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x32, .f32⟩
  | .hbm, ⟨2, _⟩ => ⟨S1x2048x32, .bf16⟩
  | .local _ .vmem, ⟨0, _⟩ => ⟨S2048x1024, .bf16⟩
  | .local _ .vmem, ⟨1, _⟩ => ⟨S2048x1024, .bf16⟩
  | .local _ .vmem, ⟨2, _⟩ => ⟨S2048x32, .f32⟩
  | .local _ .vmem, ⟨3, _⟩ => ⟨S1x1024x32, .bf16⟩
  | .local _ .vmem, ⟨4, _⟩ => ⟨S1x1024x32, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference42Ideal.lean ====
abbrev S2048x2048 : Shape := ⟨2, ![2048, 2048]⟩
abbrev S2048x32 : Shape := ⟨2, ![2048, 32]⟩
abbrev S_ : Shape := ⟨0, ![]⟩
abbrev S32x2048 : Shape := ⟨2, ![32, 2048]⟩
abbrev S1x2048x32 : Shape := ⟨3, ![1, 2048, 32]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x32, .f32⟩
  | .hbm, ⟨2, _⟩ => ⟨S_, .f32⟩
  | .hbm, ⟨3, _⟩ => ⟨S2048x32, .f32⟩
  | .hbm, ⟨4, _⟩ => ⟨S2048x2048, .f32⟩
  | .hbm, ⟨5, _⟩ => ⟨S2048x32, .f32⟩
  | .hbm, ⟨6, _⟩ => ⟨S32x2048, .f32⟩
  | .hbm, ⟨7, _⟩ => ⟨S2048x32, .f32⟩
  | .hbm, ⟨8, _⟩ => ⟨S2048x32, .bf16⟩
  | .hbm, ⟨9, _⟩ => ⟨S1x2048x32, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel43.lean ====
abbrev S2048x2048 : Shape := ⟨2, ![2048, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .bf16⟩
  | .local _ .vmem, ⟨4, _⟩ => ⟨S128x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference43Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel44.lean ====
abbrev S2048x2048 : Shape := ⟨2, ![2048, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .bf16⟩
  | .local _ .vmem, ⟨9, _⟩ => ⟨S128x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference44Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048, .f32⟩
  | .hbm, ⟨18, _⟩ => ⟨S1x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048, .f32⟩
  | .hbm, ⟨36, _⟩ => ⟨S1x2048, .f32⟩
  | .hbm, ⟨37, _⟩ => ⟨S2048x2048, .f32⟩
  | .hbm, ⟨38, _⟩ => ⟨S2048x2048, .f32⟩
  | .hbm, ⟨39, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel45.lean ====
abbrev S2048x2048 : Shape := ⟨2, ![2048, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S128x2048, .f32⟩
  | .local _ .vmem, ⟨6, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference45Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048, .f32⟩
  | .hbm, ⟨17, _⟩ => ⟨S1x2048, .f32⟩
  | .hbm, ⟨18, _⟩ => ⟨S2048x2048, .f32⟩
  | .hbm, ⟨19, _⟩ => ⟨S2048x2048, .f32⟩
  | .hbm, ⟨20, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel46.lean ====
abbrev S2048x2048 : Shape := ⟨2, ![2048, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 7
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .bf16⟩
  | .local _ .vmem, ⟨10, _⟩ => ⟨S128x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference46Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048, .f32⟩
  | .hbm, ⟨23, _⟩ => ⟨S1x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S2048, .f32⟩
  | .hbm, ⟨41, _⟩ => ⟨S1x2048, .f32⟩
  | .hbm, ⟨42, _⟩ => ⟨S2048x2048, .f32⟩
  | .hbm, ⟨43, _⟩ => ⟨S2048x2048, .f32⟩
  | .hbm, ⟨44, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel47.lean ====
abbrev S2048x4096 : Shape := ⟨2, ![2048, 4096]⟩
abbrev S1x4096 : Shape := ⟨2, ![1, 4096]⟩
abbrev S2048x2048 : Shape := ⟨2, ![2048, 2048]⟩
abbrev S128x512 : Shape := ⟨2, ![128, 512]⟩
abbrev S1x512 : Shape := ⟨2, ![1, 512]⟩

abbrev nBuf : Space → Nat
  | .hbm => 3
  | .vmem => 10
  | .smem => 0
  | _ => 0

abbrev bufTy : (tb : Table) → Fin (tcTables nBuf tb) → BufTy
  | .hbm, ⟨0, _⟩ => ⟨S2048x4096, .f32⟩
  | .hbm, ⟨1, _⟩ => ⟨S1x4096, .f32⟩
  | .hbm, ⟨2, _⟩ => ⟨S2048x2048, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S128x512, .f32⟩
  | .local _ .vmem, ⟨9, _⟩ => ⟨S128x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference47Ideal.lean ====
abbrev S2048x4096 : Shape := ⟨2, ![2048, 4096]⟩
abbrev S1x4096 : Shape := ⟨2, ![1, 4096]⟩
abbrev S4096 : Shape := ⟨1, ![4096]⟩
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1x4096, .f32⟩
  | .hbm, ⟨2, _⟩ => ⟨S4096, .f32⟩
  | .hbm, ⟨3, _⟩ => ⟨S1x4096, .f32⟩
  | .hbm, ⟨4, _⟩ => ⟨S2048x4096, .f32⟩
  | .hbm, ⟨5, _⟩ => ⟨S2048x4096, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel48.lean ====
abbrev S2048x2048 : Shape := ⟨2, ![2048, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S2048x2048, .bf16⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S1x2048, .f32⟩
  | .local _ .vmem, ⟨4, _⟩ => ⟨S128x2048, .bf16⟩
  | .local _ .vmem, ⟨5, _⟩ => ⟨S128x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference48Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048, .f32⟩
  | .hbm, ⟨25, _⟩ => ⟨S1x2048, .f32⟩
  | .hbm, ⟨26, _⟩ => ⟨S2048x2048, .f32⟩
  | .hbm, ⟨27, _⟩ => ⟨S2048x2048, .f32⟩
  | .hbm, ⟨28, _⟩ => ⟨S2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Proof.ConvMath.lean ====
/-
  One channel of a causal depthwise convolution of four taps followed by SiLU, and its gradient, over the extended reals.
  A channel is a column of 2048 rows; `xcol` is the column with 32 rows of zeros in front of it, `dcol` is the cotangent
  taken back through SiLU with zeros behind it. `gdx`, `gdw` and `gdb` are the gradients by the input, the taps and the bias.
-/
module

public import Idealize.ShloMosaic.Lib.Pipeline.ValueKit
public import Idealize.ShloMosaic.Lib.Pointwise

@[expose] public section

noncomputable section

namespace Cert.Conv

open Idealize.ShloMosaic

/-- A column with 32 rows of zeros in front. -/
def xcol (x : Fin 2048 → EReal) (r : ℕ) : EReal :=
  if h : 32 ≤ r ∧ r < 2080 then x ⟨r - 32, by omega⟩ else 0

/-- What the convolution and the bias give at row `r`: SiLU's argument. -/
def pre (X : ℕ → EReal) (w : Fin 4 → EReal) (b : EReal) (r : ℕ) : EReal :=
  b + w 0 * X (29 + r) + w 1 * X (30 + r) + w 2 * X (31 + r) + w 3 * X (32 + r)

/-- The cotangent `d` taken back through SiLU at `p`, the way the kernel writes it. -/
def dval (p d : EReal) : EReal := d * (Ideal.logistic p + p * Ideal.logistic p * (1 - Ideal.logistic p))

/-- The cotangent of SiLU's argument, row by row, with zeros behind. -/
def dcol (X : ℕ → EReal) (w : Fin 4 → EReal) (b : EReal) (d : Fin 2048 → EReal) (r : ℕ) : EReal :=
  if h : r < 2048 then dval (pre X w b r) (d ⟨r, h⟩) else 0

/-- The gradient by the input. -/
def gdx (X : ℕ → EReal) (w : Fin 4 → EReal) (b : EReal) (d : Fin 2048 → EReal) (t : ℕ) : EReal :=
  w 0 * dcol X w b d (3 + t) + w 1 * dcol X w b d (2 + t) + w 2 * dcol X w b d (1 + t) + w 3 * dcol X w b d t

/-- The gradient by tap `k`. -/
def gdw (X : ℕ → EReal) (w : Fin 4 → EReal) (b : EReal) (d : Fin 2048 → EReal) (k : ℕ) : EReal :=
  ∑ t ∈ Finset.range 2048, dcol X w b d t * X (29 + k + t)

/-- The gradient by the bias. -/
def gdb (X : ℕ → EReal) (w : Fin 4 → EReal) (b : EReal) (d : Fin 2048 → EReal) : EReal :=
  ∑ t ∈ Finset.range 2048, dcol X w b d t

/-- Taking a real cotangent back through SiLU: the kernel factors the cotangent out, the derivative adds two products. -/
theorem dval_eq (p : EReal) (d : ℝ) :
    dval p d = d * Ideal.logistic p + p * d * (Ideal.logistic p * (1 - Ideal.logistic p)) := by
  unfold dval
  induction p with
  | bot => simp
  | top =>
    have e : (1 : EReal) - 1 = 0 := by rw [← EReal.coe_one, ← EReal.coe_sub, sub_self, EReal.coe_zero]
    simp [e]
  | coe p =>
    rw [Ideal.logistic_coe]
    norm_cast
    ring

/-- A number whose difference with itself is zero is real. -/
theorem exists_real (d : EReal) (h : d - d = 0) : ∃ r : ℝ, d = r := by
  induction d with
  | bot => simp at h
  | top => simp at h
  | coe r => exact ⟨r, rfl⟩

/-- A sum over 2048 rows in sixteen blocks of 128, added first to last. -/
theorem sum_tiles (f : ℕ → EReal) : ∑ t ∈ Finset.range 2048, f t =
    ((((((((((((((((∑ x : Fin 128, f x.val) + ∑ x : Fin 128, f (128 + x.val)) + ∑ x : Fin 128, f (256 + x.val)) + ∑ x : Fin 128, f (384 + x.val)) + ∑ x : Fin 128, f (512 + x.val)) + ∑ x : Fin 128, f (640 + x.val)) + ∑ x : Fin 128, f (768 + x.val)) + ∑ x : Fin 128, f (896 + x.val)) + ∑ x : Fin 128, f (1024 + x.val)) + ∑ x : Fin 128, f (1152 + x.val)) + ∑ x : Fin 128, f (1280 + x.val)) + ∑ x : Fin 128, f (1408 + x.val)) + ∑ x : Fin 128, f (1536 + x.val)) + ∑ x : Fin 128, f (1664 + x.val)) + ∑ x : Fin 128, f (1792 + x.val)) + ∑ x : Fin 128, f (1920 + x.val)) := by
  have e (a : ℕ) : ∑ x : Fin 128, f (a + x.val) = ∑ x ∈ Finset.range 128, f (a + x) := Fin.sum_univ_eq_sum_range (fun x => f (a + x)) 128
  have e0 : ∑ x : Fin 128, f x.val = ∑ x ∈ Finset.range 128, f x := Fin.sum_univ_eq_sum_range f 128
  simp only [e, e0, ← Finset.sum_range_add]

end Cert.Conv

end
-- ==== Proof.ConvBlock.lean ====
/-
  What one grid point of the convolution's gradient kernel writes, from the blocks it reads: 256 channels, each a column of
  2048 rows. The kernel keeps two columns in scratch, the input with zeros in front (`load_xp`) and the cotangent taken back
  through SiLU with zeros behind (`canon_dp`), both filled block by block of 128 rows; the three results are read from them.
-/
module

public import proofs.«01_k».proof.Proof.Gen.KernelIdeal.Value
public import proofs.«01_k».proof.Proof.ConvMath

@[expose] public section

set_option maxRecDepth 16384

noncomputable section

namespace Cert.Conv

open Cert.KernelIdeal Cert.KernelIdeal.Gen Idealize.ShloMosaic Idealize.ShloMosaic.Tactic

/-- Row `r` of channel `k` of the input block, with 32 rows of zeros in front. -/
def XP (x0 : Vec Ideal S2048x256 .f32) (r : ℕ) (k : Fin 256) : EReal := xcol (fun t => x0 (ix2 t k)) r

/-- Row `r` of channel `k` of the cotangent taken back through SiLU, with zeros behind. -/
def DP (X : ℕ → Fin 256 → EReal) (x1 : Vec Ideal S4x256 .f32) (x2 : Vec Ideal S1x256 .f32) (x3 : Vec Ideal S2048x256 .f32) (r : ℕ) (k : Fin 256) : EReal :=
  dcol (fun r => X r k) (fun j => x1 (ix2 j k)) (x2 (ix2 0 k)) (fun t => x3 (ix2 t k)) r

/-- A row lies in a band of whole rows exactly when its number does. -/
theorem mem_rows {Val : EltTy → Type} {N C n o : ℕ} {e : EltTy} (inb : ∀ a, (![o, 0] : Fin 2 → ℕ) a + (![n, C] : Fin 2 → ℕ) a ≤ (⟨2, ![N, C]⟩ : Shape).size a)
    (w : (Rect.unit (s := ⟨2, ![N, C]⟩) ![o, 0] ![n, C] inb).shape.Idx → Val e) (y : (⟨2, ![N, C]⟩ : Shape).Idx) :
    y ∈ (⟨Rect.unit (s := ⟨2, ![N, C]⟩) ![o, 0] ![n, C] inb, w⟩ : View.Piece Val ⟨2, ![N, C]⟩ e).1.set ↔ o ≤ (y 0).val ∧ (y 0).val < o + n := by
  rw [Rect.mem_set_unit]
  constructor
  · intro h; exact h 0
  · intro h a
    fin_cases a
    · exact h
    · exact ⟨Nat.zero_le _, by have := (y 1).isLt; simpa using this⟩

/-- … and in one of several bands, the first of which is whole rows. -/
theorem cover_cons {Val : EltTy → Type} {N C n o : ℕ} {e : EltTy} (inb : ∀ a, (![o, 0] : Fin 2 → ℕ) a + (![n, C] : Fin 2 → ℕ) a ≤ (⟨2, ![N, C]⟩ : Shape).size a)
    (w : (Rect.unit (s := ⟨2, ![N, C]⟩) ![o, 0] ![n, C] inb).shape.Idx → Val e) (L : List (View.Piece Val ⟨2, ![N, C]⟩ e)) (y : (⟨2, ![N, C]⟩ : Shape).Idx) :
    (∃ p ∈ (⟨Rect.unit (s := ⟨2, ![N, C]⟩) ![o, 0] ![n, C] inb, w⟩ :: L : List (View.Piece Val ⟨2, ![N, C]⟩ e)), y ∈ p.1.set) ↔
      (o ≤ (y 0).val ∧ (y 0).val < o + n) ∨ ∃ p ∈ L, y ∈ p.1.set := by
  rw [List.exists_mem_cons_iff, mem_rows]

/-- What a load of the padded input reads, the two writes of the scratch covering it. -/
theorem load_xp (x0 : Vec Ideal S2048x256 .f32)
    (v : View sig .tc .vmem S2080x256 .f32) (B : LoadRect S2080x256) :
    v.readCov (Val := Elt Ideal) [⟨Rect.unit ![32, 0] ![2048, 256] inb_S2080x256_S2048x256_32_0, k0_pay3 x0⟩,
      ⟨Rect.unit ![0, 0] ![32, 256] inb_S2080x256_S32x256_0_0, (k0_pay2 : FVec Ideal _ _)⟩] B = fun j => XP x0 (B.idx j 0).val (B.idx j 1) := by
  rw [View.readCov_eq_canon']
  funext j
  generalize B.idx j = y
  have hc : ∃ p ∈ ([⟨Rect.unit ![32, 0] ![2048, 256] inb_S2080x256_S2048x256_32_0, k0_pay3 x0⟩,
      ⟨Rect.unit ![0, 0] ![32, 256] inb_S2080x256_S32x256_0_0, (k0_pay2 : FVec Ideal _ _)⟩] : List (View.Piece (Elt Ideal) S2080x256 .f32)), y ∈ p.1.set := by
    have hy : (y 0).val < 2080 := (y 0).isLt
    erw [cover_cons, cover_cons]
    omega
  canon_tiles x h using hc
  · open_payloads
    pointwise
    unfold XP xcol
    rw [dif_pos (by omega)]
    congr 1
    blk_ext
  · open_payloads
    pointwise
    unfold XP xcol
    rw [dif_neg (by omega)]

/-- A row of the padded cotangent, with the rows of the input it reads given by number. -/
theorem DP_at (X : ℕ → Fin 256 → EReal) (x1 : Vec Ideal S4x256 .f32) (x2 : Vec Ideal S1x256 .f32) (x3 : Vec Ideal S2048x256 .f32) (r : ℕ) (k : Fin 256) (h : r < 2048)
    (a b c d : ℕ) (ha : a = 29 + r) (hb : b = 30 + r) (hc : c = 31 + r) (hd : d = 32 + r) :
    dval (x2 (ix2 0 k) + x1 (ix2 0 k) * X a k + x1 (ix2 1 k) * X b k + x1 (ix2 2 k) * X c k + x1 (ix2 3 k) * X d k) (x3 (ix2 ⟨r, h⟩ k)) =
      DP X x1 x2 x3 r k := by
  subst ha hb hc hd
  unfold DP dcol
  rw [dif_pos h]
  rfl

variable (c : Dev nD) (i : grid0.Coords) (arg1 : Memref sig .tc .vmem S2048x256 .f32) (harg1 : arg1.IsWhole) (arg2 : Memref sig .tc .vmem S4x256 .f32) (harg2 : arg2.IsWhole) (arg3 : Memref sig .tc .vmem S1x256 .f32) (harg3 : arg3.IsWhole) (arg4 : Memref sig .tc .vmem S2048x256 .f32) (harg4 : arg4.IsWhole) (arg5 : Memref sig .tc .vmem S2048x256 .bf16) (harg5 : arg5.IsWhole) (arg6 : Memref sig .tc .vmem S4x256 .f32) (harg6 : arg6.IsWhole) (arg7 : Memref sig .tc .vmem S1x256 .f32) (harg7 : arg7.IsWhole) (arg8 : Memref sig .tc .vmem S2080x256 .f32) (harg8 : arg8.IsWhole) (arg9 : Memref sig .tc .vmem S2080x256 .f32) (harg9 : arg9.IsWhole)
    (x0 : Vec Ideal S2048x256 .f32) (x1 : Vec Ideal S4x256 .f32) (x2 : Vec Ideal S1x256 .f32) (x3 : Vec Ideal S2048x256 .f32)

/-- What the seventeen writes leave in the scratch of the padded cotangent. -/
theorem canon_dp : View.canon (kernelRun0_A.sl.HS1_17 c arg1 harg1 arg2 harg2 arg3 harg3 arg4 harg4 arg8 x0 x1 x2 x3) =
    fun y => DP (XP x0) x1 x2 x3 (y 0).val (y 1) := by
  funext y
  have hc : ∃ p ∈ kernelRun0_A.sl.HS1_17 c arg1 harg1 arg2 harg2 arg3 harg3 arg4 harg4 arg8 x0 x1 x2 x3, y ∈ p.1.set := by
    unfold kernelRun0_A.sl.HS1_17
    have hy : (y 0).val < 2080 := (y 0).isLt
    iterate 17 erw [cover_cons]
    omega
  unfold kernelRun0_A.sl.HS1_17 at hc ⊢
  canon_tiles x h using hc
  all_goals clear hc
  iterate 16
    · frame_out
      simp only [load_xp]
      generalize XP x0 = X
      open_payloads
      have e1 : y 1 = x 1 := Fin.ext h1
      pointwise
      unfold DP dcol
      rw [dif_pos (by omega)]
      unfold dval pre
      simp only [h0, e1, ← Nat.add_assoc, Nat.reduceAdd, Nat.zero_add]
  · frame_out
    open_payloads
    pointwise
    unfold DP dcol
    rw [dif_neg (by omega)]

/-- What a load of the padded cotangent reads. -/
theorem load_dp (v : View sig .tc .vmem S2080x256 .f32) (B : LoadRect S2080x256) :
    v.readCov (Val := Elt Ideal) (kernelRun0_A.sl.HS1_17 c arg1 harg1 arg2 harg2 arg3 harg3 arg4 harg4 arg8 x0 x1 x2 x3) B = fun j => DP (XP x0) x1 x2 x3 (B.idx j 0).val (B.idx j 1) := by
  rw [View.readCov_eq_canon', canon_dp]

/-- The bias's gradient of one block. -/
theorem out_db : out0_A_6 (F := Ideal) c i arg1 harg1 arg2 harg2 arg3 harg3 arg4 harg4 arg5 harg5 arg6 harg6 arg7 harg7 arg8 harg8 arg9 harg9 x0 x1 x2 x3 = fun y =>
    ∑ t ∈ Finset.range 2048, DP (XP x0) x1 x2 x3 t (y 1) := by
  unfold out0_A_6 kernelRun0_A; dsimp only
  rw [View.read_writes_junk_eq_canon]
  funext y
  frame_out
  simp only [load_xp]
  generalize XP x0 = X
  open_payloads
  pointwise
  rw [sum_tiles]
  iterate 15
    refine congrArg₂ (· + ·) ?_ (Finset.sum_congr rfl fun x _ => DP_at _ _ _ _ _ _ _ _ _ _ _ (by omega) (by omega) (by omega) (by omega))
  exact Finset.sum_congr rfl fun x _ => DP_at _ _ _ _ _ _ _ _ _ _ _ (by omega) (by omega) (by omega) (by omega)

/-- The input's gradient of one block. -/
theorem out_dx : out0_A_4 (F := Ideal) c i arg1 harg1 arg2 harg2 arg3 harg3 arg4 harg4 arg5 harg5 arg6 harg6 arg7 harg7 arg8 harg8 arg9 harg9 x0 x1 x2 x3 = fun y =>
    x1 (ix2 0 (y 1)) * DP (XP x0) x1 x2 x3 (3 + (y 0).val) (y 1) + x1 (ix2 1 (y 1)) * DP (XP x0) x1 x2 x3 (2 + (y 0).val) (y 1)
     + x1 (ix2 2 (y 1)) * DP (XP x0) x1 x2 x3 (1 + (y 0).val) (y 1) + x1 (ix2 3 (y 1)) * DP (XP x0) x1 x2 x3 ((y 0).val) (y 1) := by
  unfold out0_A_4 kernelRun0_A; dsimp only
  rw [View.read_writes_junk_eq_canon]
  funext y
  canon_tiles x h
  all_goals
    simp only [kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.v1359, kernelRun0_A.sl.v608, kernelRun0_A.sl.v613, kernelRun0_A.sl.v618, kernelRun0_A.sl.v623, kernelRun0_A.sl.v631, kernelRun0_A.sl.v636, kernelRun0_A.sl.v641, kernelRun0_A.sl.v646, kernelRun0_A.sl.v654, kernelRun0_A.sl.v659, kernelRun0_A.sl.v664, kernelRun0_A.sl.v669, kernelRun0_A.sl.v677, kernelRun0_A.sl.v682, kernelRun0_A.sl.v687, kernelRun0_A.sl.v692, kernelRun0_A.sl.v700, kernelRun0_A.sl.v705, kernelRun0_A.sl.v710, kernelRun0_A.sl.v715, kernelRun0_A.sl.v723, kernelRun0_A.sl.v728, kernelRun0_A.sl.v733, kernelRun0_A.sl.v738, kernelRun0_A.sl.v746, kernelRun0_A.sl.v751, kernelRun0_A.sl.v756, kernelRun0_A.sl.v761, kernelRun0_A.sl.v769, kernelRun0_A.sl.v774, kernelRun0_A.sl.v779, kernelRun0_A.sl.v784, kernelRun0_A.sl.v792, kernelRun0_A.sl.v797, kernelRun0_A.sl.v802, kernelRun0_A.sl.v807, kernelRun0_A.sl.v815, kernelRun0_A.sl.v820, kernelRun0_A.sl.v825, kernelRun0_A.sl.v830, kernelRun0_A.sl.v838, kernelRun0_A.sl.v843, kernelRun0_A.sl.v848, kernelRun0_A.sl.v853, kernelRun0_A.sl.v861, kernelRun0_A.sl.v866, kernelRun0_A.sl.v871, kernelRun0_A.sl.v876, kernelRun0_A.sl.v884, kernelRun0_A.sl.v889, kernelRun0_A.sl.v894, kernelRun0_A.sl.v899, kernelRun0_A.sl.v907, kernelRun0_A.sl.v912, kernelRun0_A.sl.v917, kernelRun0_A.sl.v922, kernelRun0_A.sl.v930, kernelRun0_A.sl.v935, kernelRun0_A.sl.v940, kernelRun0_A.sl.v945, kernelRun0_A.sl.v953, kernelRun0_A.sl.v958, kernelRun0_A.sl.v963, kernelRun0_A.sl.v968]
    simp only [load_dp]
    generalize DP (XP x0) x1 x2 x3 = D
    frame_out
    open_payloads
    have e1 : y 1 = x 1 := Fin.ext h1
    pointwise
    simp only [e1, h0, ← Nat.add_assoc, Nat.reduceAdd, Nat.zero_add]

/-- The taps' gradient of one block. -/
theorem out_dw : out0_A_5 (F := Ideal) c i arg1 harg1 arg2 harg2 arg3 harg3 arg4 harg4 arg5 harg5 arg6 harg6 arg7 harg7 arg8 harg8 arg9 harg9 x0 x1 x2 x3 = fun y =>
   ∑ t ∈ Finset.range 2048, DP (XP x0) x1 x2 x3 t (y 1) * XP x0 (29 + (y 0).val + t) (y 1) := by
  unfold out0_A_5 kernelRun0_A; dsimp only
  rw [View.read_writes_junk_eq_canon]
  funext y
  canon_tiles x h
  all_goals
    simp only [kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.v1359, kernelRun0_A.sl.v608, kernelRun0_A.sl.v613, kernelRun0_A.sl.v618, kernelRun0_A.sl.v623, kernelRun0_A.sl.v631, kernelRun0_A.sl.v636, kernelRun0_A.sl.v641, kernelRun0_A.sl.v646, kernelRun0_A.sl.v654, kernelRun0_A.sl.v659, kernelRun0_A.sl.v664, kernelRun0_A.sl.v669, kernelRun0_A.sl.v677, kernelRun0_A.sl.v682, kernelRun0_A.sl.v687, kernelRun0_A.sl.v692, kernelRun0_A.sl.v700, kernelRun0_A.sl.v705, kernelRun0_A.sl.v710, kernelRun0_A.sl.v715, kernelRun0_A.sl.v723, kernelRun0_A.sl.v728, kernelRun0_A.sl.v733, kernelRun0_A.sl.v738, kernelRun0_A.sl.v746, kernelRun0_A.sl.v751, kernelRun0_A.sl.v756, kernelRun0_A.sl.v761, kernelRun0_A.sl.v769, kernelRun0_A.sl.v774, kernelRun0_A.sl.v779, kernelRun0_A.sl.v784, kernelRun0_A.sl.v792, kernelRun0_A.sl.v797, kernelRun0_A.sl.v802, kernelRun0_A.sl.v807, kernelRun0_A.sl.v815, kernelRun0_A.sl.v820, kernelRun0_A.sl.v825, kernelRun0_A.sl.v830, kernelRun0_A.sl.v838, kernelRun0_A.sl.v843, kernelRun0_A.sl.v848, kernelRun0_A.sl.v853, kernelRun0_A.sl.v861, kernelRun0_A.sl.v866, kernelRun0_A.sl.v871, kernelRun0_A.sl.v876, kernelRun0_A.sl.v884, kernelRun0_A.sl.v889, kernelRun0_A.sl.v894, kernelRun0_A.sl.v899, kernelRun0_A.sl.v907, kernelRun0_A.sl.v912, kernelRun0_A.sl.v917, kernelRun0_A.sl.v922, kernelRun0_A.sl.v930, kernelRun0_A.sl.v935, kernelRun0_A.sl.v940, kernelRun0_A.sl.v945, kernelRun0_A.sl.v953, kernelRun0_A.sl.v958, kernelRun0_A.sl.v963, kernelRun0_A.sl.v968]
    simp only [load_dp]
    generalize DP (XP x0) x1 x2 x3 = D
    frame_out
    simp only [load_xp]
    generalize XP x0 = X
    open_payloads
    have e1 : y 1 = x 1 := Fin.ext h1
    pointwise
    have z : (x 0).val = 0 := by omega
    rw [sum_tiles]
    simp only [e1, h0, z, ← Nat.add_assoc, Nat.reduceAdd, Nat.add_zero]

end Cert.Conv

end
-- ==== Proof.ConvArray.lean ====
/-
  What the three result arrays of the convolution's gradient kernel hold after the run, in terms of the argument arrays: the
  blocks each grid point writes tile the arrays, and every channel is a column of its own.
-/
module

public import proofs.«01_k».proof.Proof.ConvBlock

@[expose] public section

noncomputable section

namespace Cert.Conv

open Cert.KernelIdeal Cert.KernelIdeal.Gen Idealize.ShloMosaic Idealize.ShloMosaic.Tactic Idealize.ShloMosaic.TcCoe Idealize.SL.Sem
open Idealize.ShloMosaic.Pipeline (Dat)

/-- Channel `k` of the convolution's input, as the reference takes it from the rows of the fused projection. -/
def cx (x : FVec Ideal S2048x13312 .f32) (k : Fin 3072) : ℕ → EReal := xcol fun t => x (ix2 t ⟨10240 + k.val, by omega⟩)

/-- The input's gradient as a whole array. -/
def dxArr (x : FVec Ideal S2048x13312 .f32) (w : FVec Ideal S4x3072 .f32) (b : FVec Ideal S1x3072 .f32) (d : FVec Ideal S2048x3072 .f32) :
    FVec Ideal S2048x3072 .bf16 :=
  fun i => gdx (cx x (i 1)) (fun j => w (ix2 j (i 1))) (b (ix2 0 (i 1))) (fun t => d (ix2 t (i 1))) (i 0).val

/-- The taps' gradient as a whole array. -/
def dwArr (x : FVec Ideal S2048x13312 .f32) (w : FVec Ideal S4x3072 .f32) (b : FVec Ideal S1x3072 .f32) (d : FVec Ideal S2048x3072 .f32) :
    FVec Ideal S4x3072 .f32 :=
  fun i => gdw (cx x (i 1)) (fun j => w (ix2 j (i 1))) (b (ix2 0 (i 1))) (fun t => d (ix2 t (i 1))) (i 0).val

/-- The bias's gradient as a whole array. -/
def dbArr (x : FVec Ideal S2048x13312 .f32) (w : FVec Ideal S4x3072 .f32) (b : FVec Ideal S1x3072 .f32) (d : FVec Ideal S2048x3072 .f32) :
    FVec Ideal S1x3072 .f32 :=
  fun i => gdb (cx x (i 1)) (fun j => w (ix2 j (i 1))) (b (ix2 0 (i 1))) (fun t => d (ix2 t (i 1)))

variable (m : (ℓ : Loc nD τ sig) → Buf (Elt Ideal) ℓ) (ρ : Dev nD → PrngReg)

/-- Which block of its array each window stages at a point: the block of channels, 40 further on for the projection's rows. -/
theorem idx (t : Fin cfg0.N) : win0_0.index t = ![0, t.val + 40] ∧ win0_1.index t = ![0, t.val] ∧ win0_2.index t = ![0, t.val]
    ∧ win0_3.index t = ![0, t.val] ∧ win0_4.index t = ![0, t.val] ∧ win0_5.index t = ![0, t.val] ∧ win0_6.index t = ![0, t.val] :=
  (by decide +kernel : ∀ t : Fin grid0.N, win0_0.index t = ![0, t.val + 40] ∧ win0_1.index t = ![0, t.val] ∧ win0_2.index t = ![0, t.val]
    ∧ win0_3.index t = ![0, t.val] ∧ win0_4.index t = ![0, t.val] ∧ win0_5.index t = ![0, t.val] ∧ win0_6.index t = ![0, t.val]) t

/-- Channel `k` of the projection's block at point `t` is channel `256 t + k` of the convolution. -/
theorem col0 (c : Dev nD) (t : Fin cfg0.N) (k : Fin 256) (q : Fin 3072) (hq : q.val = t.val * 256 + k.val) :
    (fun r => XP (iblk m c 0 t) r k) = cx (m ((c : Thread nD τ).loc main_arg0)) q := by
  unfold XP cx
  have e : (fun s : Fin 2048 => iblk m c 0 t (ix2 s k)) = fun s => m ((c : Thread nD τ).loc main_arg0) (ix2 s ⟨10240 + q.val, by omega⟩) := by
    funext s
    blk_ext [iblk, V, idx t]
  rw [e]

theorem col1 (c : Dev nD) (t : Fin cfg0.N) (k : Fin 256) (q : Fin 3072) (hq : q.val = t.val * 256 + k.val) :
    (fun j : Fin 4 => iblk m c 1 t (ix2 j k)) = fun j => m ((c : Thread nD τ).loc main_arg1) (ix2 j q) := by
  funext s
  blk_ext [iblk, V, idx t]

theorem col2 (c : Dev nD) (t : Fin cfg0.N) (k : Fin 256) (q : Fin 3072) (hq : q.val = t.val * 256 + k.val) :
    iblk m c 2 t (ix2 0 k) = m ((c : Thread nD τ).loc main_arg2) (ix2 0 q) := by
  blk_ext [iblk, V, idx t]

theorem col3 (c : Dev nD) (t : Fin cfg0.N) (k : Fin 256) (q : Fin 3072) (hq : q.val = t.val * 256 + k.val) :
    (fun s : Fin 2048 => iblk m c 3 t (ix2 s k)) = fun s => m ((c : Thread nD τ).loc main_arg3) (ix2 s q) := by
  funext s
  blk_ext [iblk, V, idx t]

/-- The input gradient's array after the run. -/
theorem final_dx (c : Dev nD) : (dats m 0 c).arrAt 4 cfg0.N =
    dxArr (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  dsimp only
  rw [out_dx]
  have e1 : ((((View.whole main_v0_0).slice (win0_4.rect t)).emb y) 1).val = t.val * 256 + (y 1).val := by
    blk_simp [idx t]
    first | done | omega
  have e0 : ((((View.whole main_v0_0).slice (win0_4.rect t)).emb y) 0).val = (y 0).val := by
    blk_simp [idx t]
    first | done | omega
  unfold dxArr
  rw [← col0 m c t (y 1) _ e1, ← col1 m c t (y 1) _ e1, ← col2 m c t (y 1) _ e1, ← col3 m c t (y 1) _ e1, e0]
  rfl

/-- The taps gradient's array after the run. -/
theorem final_dw (c : Dev nD) : (dats m 0 c).arrAt 5 cfg0.N =
    dwArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold outsAt0
  dsimp only
  rw [out_dw]
  have e1 : ((((View.whole main_v0_1).slice (win0_5.rect t)).emb y) 1).val = t.val * 256 + (y 1).val := by
    blk_simp [idx t]
    first | done | omega
  have e0 : ((((View.whole main_v0_1).slice (win0_5.rect t)).emb y) 0).val = (y 0).val := by
    blk_simp [idx t]
    first | done | omega
  unfold dwArr
  rw [← col0 m c t (y 1) _ e1, ← col1 m c t (y 1) _ e1, ← col2 m c t (y 1) _ e1, ← col3 m c t (y 1) _ e1, e0]
  rfl

/-- The bias gradient's array after the run. -/
theorem final_db (c : Dev nD) : (dats m 0 c).arrAt 6 cfg0.N =
    dbArr (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  unfold outsAt0
  dsimp only
  rw [out_db]
  have e1 : ((((View.whole main_v0_2).slice (win0_6.rect t)).emb y) 1).val = t.val * 256 + (y 1).val := by
    blk_simp [idx t]
    first | done | omega
  unfold dbArr
  rw [← col0 m c t (y 1) _ e1, ← col1 m c t (y 1) _ e1, ← col2 m c t (y 1) _ e1, ← col3 m c t (y 1) _ e1]
  rfl

/-- The run: the three results at the gradients of the arguments, the arguments unchanged. -/
theorem run : θ_run defs (onTc (τ := τ) (main (F := Ideal))) ⟨m, fun _ => 0, ρ⟩ fun r => ∀ c : Dev nD,
      r.2.mem ((c : Thread nD τ).loc main_v0_0) = dxArr (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = dwArr (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = dbArr (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h⟩ := h c
    exact ⟨h0.trans (final_dx m c), h1.trans (final_dw m c), h2.trans (final_db m c), h⟩) (Cert.KernelIdeal.Value.run_blocks m ρ)

end Cert.Conv

end
-- ==== Proof.ConvRef.lean ====
/-
  What the reference's three results hold: the gradients of the convolution, element by element. The reference adds the four
  shifted products of the padded input, takes the cotangent back through SiLU (`cot_at`), and adds the four shifted products
  of that; each padded array is zero outside its rows.
-/
module

public import proofs.«01_k».proof.Proof.Gen.ReferenceIdeal.Read
public import proofs.«01_k».proof.Proof.ConvArray

@[expose] public section

set_option maxRecDepth 16384

noncomputable section

namespace Cert.Conv

open Cert.ReferenceIdeal Cert.ReferenceIdeal.Gen Cert.ReferenceIdeal.Read Idealize.ShloMosaic Idealize.ShloMosaic.Tactic

variable (x0 : FVec Ideal S2048x13312 .f32) (x1 : FVec Ideal S4x3072 .f32) (x2 : FVec Ideal S1x3072 .f32) (x3 : FVec Ideal S2048x3072 .f32)

/-- The padded input of the reference has three rows of zeros in front. -/
theorem pad_at (r : Fin 2051) (k : Fin 3072) : val_main_v2 (F := Ideal) x0 (ix2 r k) = cx x0 k (29 + r.val) := by
  unfold val_main_v2 val_main_v1 val_main_v0 val_main_cst
  pointwise
  unfold cx xcol
  by_cases h : r.val < 3
  · rw [dif_pos h, dif_neg (by omega)]
  · have hr := r.isLt
    rw [dif_neg h, dif_pos (by omega)]
    exact congrArg (fun t => x0 (ix2 t _)) (Fin.ext (by show r.val - 3 = 29 + r.val - 32; omega))

/-- SiLU's argument. -/
theorem arg_at (t : Fin 2048) (k : Fin 3072) :
    val_main_v34 (F := Ideal) x0 x1 x2 (ix2 t k) = pre (cx x0 k) (fun j => x1 (ix2 j k)) (x2 (ix2 0 k)) t.val := by
  unfold val_main_v34
  have e (r : Fin 2051) (k : Fin 3072) := pad_at x0 r k
  unfold val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_cst_1
  generalize val_main_v2 (F := Ideal) x0 = X at e ⊢
  pointwise
  rw [e, e, e, e]
  unfold pre
  have a1 : 29 + (1 + t.val) = 30 + t.val := by omega
  have a2 : 29 + (2 + t.val) = 31 + t.val := by omega
  have a3 : 29 + (3 + t.val) = 32 + t.val := by omega
  simp only [a1, a2, a3]
  rw [add_comm]
  simp only [add_assoc]

/-- The cotangent taken back through SiLU, where it is real. -/
theorem cot_at (hd : ∀ i, ∃ r : ℝ, x3 i = r) (t : Fin 2048) (k : Fin 3072) :
    val_main_v36 (F := Ideal) x0 x1 x2 x3 (ix2 t k) =
      dcol (cx x0 k) (fun j => x1 (ix2 j k)) (x2 (ix2 0 k)) (fun t => x3 (ix2 t k)) t.val := by
  unfold val_main_v36 val_main_call1_v1 val_main_call1_v2 val_main_call1_v0 val_main_v35_1 val_main_call0_v7 val_main_v35_2 val_main_call0_v6 val_main_call0_v3 val_main_call0_v4 val_main_call0_v2 val_main_call0_v1 val_main_call0_v0 val_main_call0_cst_1 val_main_call0_cst_0 val_main_call0_cst
  have e := arg_at x0 x1 x2 t k
  generalize val_main_v34 (F := Ideal) x0 x1 x2 = P at e ⊢
  pointwise
  rw [e]
  unfold dcol
  rw [dif_pos t.isLt]
  obtain ⟨d, h⟩ := hd (ix2 t k)
  simp only [Fin.eta]
  rw [h, dval_eq]
  rfl

/-- The bias's gradient. -/
theorem ref_db (hd : ∀ i, ∃ r : ℝ, x3 i = r) : val_main_v38 (F := Ideal) x0 x1 x2 x3 = dbArr x0 x1 x2 x3 := by
  funext i
  unfold val_main_v38 val_main_v37 val_main_cst_2
  have e := cot_at x0 x1 x2 x3 hd
  generalize val_main_v36 (F := Ideal) x0 x1 x2 x3 = D at e ⊢
  pointwise
  exact (Finset.sum_congr rfl fun t _ => e t (i 1)).trans
    (Fin.sum_univ_eq_sum_range (fun t => dcol (cx x0 (i 1)) (fun j => x1 (ix2 j (i 1))) (x2 (ix2 0 (i 1))) (fun t => x3 (ix2 t (i 1))) t) 2048)

/-- The taps' gradient. -/
theorem ref_dw (hd : ∀ i, ∃ r : ℝ, x3 i = r) : val_main_v80 (F := Ideal) x0 x1 x2 x3 = dwArr x0 x1 x2 x3 := by
  funext i
  have e := cot_at x0 x1 x2 x3 hd
  have e2 := pad_at x0
  simp only [val_main_cst_2, val_main_v37, val_main_v38, val_main_v39, val_main_v40, val_main_v41, val_main_cst_3, val_main_v42, val_main_v43, val_main_cst_4, val_main_v44, val_main_cst_5, val_main_v45, val_main_v46, val_main_cst_6, val_main_v47, val_main_v48, val_main_v49, val_main_v50, val_main_cst_7, val_main_v51, val_main_v52, val_main_cst_8, val_main_v53, val_main_cst_9, val_main_v54, val_main_v55, val_main_v56, val_main_cst_10, val_main_v57, val_main_v58, val_main_v59, val_main_v60, val_main_v61, val_main_cst_11, val_main_v62, val_main_v63, val_main_cst_12, val_main_v64, val_main_cst_13, val_main_v65, val_main_v66, val_main_v67, val_main_cst_14, val_main_v68, val_main_v69, val_main_v70, val_main_v71, val_main_v72, val_main_cst_15, val_main_v73, val_main_v74, val_main_cst_16, val_main_v75, val_main_cst_17, val_main_v76, val_main_v77, val_main_v78, val_main_cst_18, val_main_v79, val_main_v80, val_main_v81, val_main_v82, val_main_v83, val_main_v28, val_main_v21, val_main_v14, val_main_v6]
  generalize val_main_v36 (F := Ideal) x0 x1 x2 x3 = D at e ⊢
  generalize val_main_v2 (F := Ideal) x0 = X at e2 ⊢
  pointwise
  unfold dwArr gdw
  have hi : (i 0).val < 4 := (i 0).isLt
  generalize (i 1 : Fin 3072) = k
  have f (o : ℕ) (h : ∀ t : Fin 2048, o + t.val < 2051) : (∑ _x : Fin 1, ∑ t : Fin 2048, D (ix2 t k) * X (ix2 ⟨o + t.val, h t⟩ k)) =
      ∑ t ∈ Finset.range 2048, dcol (cx x0 k) (fun j => x1 (ix2 j k)) (x2 (ix2 0 k)) (fun t => x3 (ix2 t k)) t * cx x0 k (29 + o + t) := by
    rw [Fin.sum_univ_one]
    refine (Finset.sum_congr rfl fun t _ => ?_).trans (Fin.sum_univ_eq_sum_range
      (fun t => dcol (cx x0 k) (fun j => x1 (ix2 j k)) (x2 (ix2 0 k)) (fun t => x3 (ix2 t k)) t * cx x0 k (29 + o + t)) 2048)
    rw [add_assoc]
    exact congrArg₂ (· * ·) (e t k) (e2 _ k)
  have hv : (i 0).val = 0 ∨ (i 0).val = 1 ∨ (i 0).val = 2 ∨ (i 0).val = 3 := by omega
  rcases hv with hv | hv | hv | hv
  · rw [dif_neg (by omega), dif_neg (by omega), dif_neg (by omega), dif_pos (by omega), hv]
    simp only [zero_add]
    simpa only [zero_add] using f 0 (fun t => by have := t.isLt; omega)
  · rw [dif_neg (by omega), dif_neg (by omega), dif_pos (by omega), dif_neg (by omega), hv]
    simp only [zero_add, add_zero]
    exact f 1 (fun t => by have := t.isLt; omega)
  · rw [dif_neg (by omega), dif_pos (by omega), dif_neg (by omega), dif_neg (by omega), hv]
    simp only [zero_add, add_zero]
    exact f 2 (fun t => by have := t.isLt; omega)
  · rw [dif_pos (by omega), dif_neg (by omega), dif_neg (by omega), dif_neg (by omega), hv]
    simp only [add_zero]
    exact f 3 (fun t => by have := t.isLt; omega)

/-- The input's gradient. -/
theorem ref_dx (hd : ∀ i, ∃ r : ℝ, x3 i = r) : val_main_v83 (F := Ideal) x0 x1 x2 x3 = dxArr x0 x1 x2 x3 := by
  funext i
  have e := cot_at x0 x1 x2 x3 hd
  simp only [val_main_cst_2, val_main_v37, val_main_v38, val_main_v39, val_main_v40, val_main_v41, val_main_cst_3, val_main_v42, val_main_v43, val_main_cst_4, val_main_v44, val_main_cst_5, val_main_v45, val_main_v46, val_main_cst_6, val_main_v47, val_main_v48, val_main_v49, val_main_v50, val_main_cst_7, val_main_v51, val_main_v52, val_main_cst_8, val_main_v53, val_main_cst_9, val_main_v54, val_main_v55, val_main_v56, val_main_cst_10, val_main_v57, val_main_v58, val_main_v59, val_main_v60, val_main_v61, val_main_cst_11, val_main_v62, val_main_v63, val_main_cst_12, val_main_v64, val_main_cst_13, val_main_v65, val_main_v66, val_main_v67, val_main_cst_14, val_main_v68, val_main_v69, val_main_v70, val_main_v71, val_main_v72, val_main_cst_15, val_main_v73, val_main_v74, val_main_cst_16, val_main_v75, val_main_cst_17, val_main_v76, val_main_v77, val_main_v78, val_main_cst_18, val_main_v79, val_main_v80, val_main_v81, val_main_v82, val_main_v83, val_main_v28, val_main_v21, val_main_v14, val_main_v6]
  generalize val_main_v36 (F := Ideal) x0 x1 x2 x3 = D at e ⊢
  unfold val_main_v29 val_main_v27 val_main_v26 val_main_v22 val_main_v20 val_main_v19 val_main_v15 val_main_v13 val_main_v12 val_main_v7 val_main_v5 val_main_v4
  pointwise
  obtain ⟨t, k, rfl⟩ : ∃ (t : Fin 2048) (k : Fin 3072), i = ix2 t k := ⟨i 0, i 1, eq_ix2 i⟩
  show (((x1 (ix2 3 k) * D (ix2 t k) + if h : 2 ≤ 3 + t.val ∧ 3 + t.val - 2 < 2048 then x1 (ix2 2 k) * D (ix2 ⟨3 + t.val - 2, h.2⟩ k) else 0) +
    if h : 1 ≤ 3 + t.val ∧ 3 + t.val - 1 < 2048 then x1 (ix2 1 k) * D (ix2 ⟨3 + t.val - 1, h.2⟩ k) else 0) +
      if h : 3 + t.val < 2048 then x1 (ix2 0 k) * D (ix2 ⟨3 + t.val, h⟩ k) else 0) =
    gdx (cx x0 k) (fun j => x1 (ix2 j k)) (x2 (ix2 0 k)) (fun t => x3 (ix2 t k)) t.val
  unfold gdx
  have g (o : ℕ) (ho : 2048 ≤ o) : dcol (cx x0 k) (fun j => x1 (ix2 j k)) (x2 (ix2 0 k)) (fun t => x3 (ix2 t k)) o = 0 := by
    unfold dcol
    rw [dif_neg (by omega)]
  have e2 : (if h : 2 ≤ 3 + t.val ∧ 3 + t.val - 2 < 2048 then x1 (ix2 2 k) * D (ix2 ⟨3 + t.val - 2, h.2⟩ k) else 0) =
      x1 (ix2 2 k) * dcol (cx x0 k) (fun j => x1 (ix2 j k)) (x2 (ix2 0 k)) (fun t => x3 (ix2 t k)) (1 + t.val) := by
    by_cases h : 1 + t.val < 2048
    · rw [dif_pos (by omega), e]
      exact congrArg (fun r => x1 (ix2 2 k) * dcol (cx x0 k) (fun j => x1 (ix2 j k)) (x2 (ix2 0 k)) (fun t => x3 (ix2 t k)) r) (by show 3 + t.val - 2 = 1 + t.val; omega)
    · rw [dif_neg (by omega), g _ (by omega), mul_zero]
  have e1 : (if h : 1 ≤ 3 + t.val ∧ 3 + t.val - 1 < 2048 then x1 (ix2 1 k) * D (ix2 ⟨3 + t.val - 1, h.2⟩ k) else 0) =
      x1 (ix2 1 k) * dcol (cx x0 k) (fun j => x1 (ix2 j k)) (x2 (ix2 0 k)) (fun t => x3 (ix2 t k)) (2 + t.val) := by
    by_cases h : 2 + t.val < 2048
    · rw [dif_pos (by omega), e]
      exact congrArg (fun r => x1 (ix2 1 k) * dcol (cx x0 k) (fun j => x1 (ix2 j k)) (x2 (ix2 0 k)) (fun t => x3 (ix2 t k)) r) (by show 3 + t.val - 1 = 2 + t.val; omega)
    · rw [dif_neg (by omega), g _ (by omega), mul_zero]
  have e0 : (if h : 3 + t.val < 2048 then x1 (ix2 0 k) * D (ix2 ⟨3 + t.val, h⟩ k) else 0) =
      x1 (ix2 0 k) * dcol (cx x0 k) (fun j => x1 (ix2 j k)) (x2 (ix2 0 k)) (fun t => x3 (ix2 t k)) (3 + t.val) := by
    by_cases h : 3 + t.val < 2048
    · rw [dif_pos h, e]
    · rw [dif_neg h, g _ (by omega), mul_zero]
  rw [e, e2, e1, e0]
  generalize dcol (cx x0 k) (fun j => x1 (ix2 j k)) (x2 (ix2 0 k)) (fun t => x3 (ix2 t k)) = G
  dsimp only
  generalize x1 (ix2 0 k) * G (3 + t.val) = a0
  generalize x1 (ix2 1 k) * G (2 + t.val) = a1
  generalize x1 (ix2 2 k) * G (1 + t.val) = a2
  generalize x1 (ix2 3 k) * G t.val = a3
  abel

end Cert.Conv

end
-- ==== Proof.ConvClaim.lean ====
/-
  The claims about the convolution's gradient: the kernel and the reference end with the same three arrays, where every entry
  of the cotangent is a real number.
-/
module

public import proofs.«01_k».proof.Defs
public import proofs.«01_k».proof.Proof.Gen.Kernel.Frame
public import proofs.«01_k».proof.Proof.Gen.KernelIdeal.Frame
public import proofs.«01_k».proof.Proof.ConvRef

@[expose] public section

noncomputable section

namespace Cert.Conv

open Idealize.ShloMosaic Idealize.ShloMosaic.Tactic Idealize.ShloMosaic.TcCoe Idealize.SL.Sem

instance preFacts : Cert.Pre_cotangent_real.Facts := ⟨by decide⟩

/-- What the precondition says of the cotangent: every entry is a real number. -/
theorem real_of_pre (x0 : FVec Ideal ⟨2, ![2048, 13312]⟩ .f32) (x1 : FVec Ideal ⟨2, ![4, 3072]⟩ .f32) (x2 : FVec Ideal ⟨2, ![1, 3072]⟩ .f32) (x3 : FVec Ideal ⟨2, ![2048, 3072]⟩ .f32)
    (h : Cert.Pre_cotangent_real.fn (F := Ideal) x0 x1 x2 x3 = fun _ => 1#1) (i : (⟨2, ![2048, 3072]⟩ : Shape).Idx) : ∃ r : ℝ, x3 i = r := by
  have e := congrFun h i
  refine exists_real _ ?_
  revert e
  unfold Cert.Pre_cotangent_real.fn
  pointwise
  intro e
  by_contra hn
  rw [decide_eq_false hn] at e
  exact absurd e (by decide)

/-- The reference's frame: its run leaves its arguments, and it has no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The kernel's three results are the reference's. -/
theorem algebraic : Cert.algebraic_KernelIdeal_ReferenceIdeal_pre_cotangent_real := by
  intro m g m' g' hp hargs
  refine ⟨_, _, _, run m g, (θ_run _ _ _).mono (fun r h c => ?_) (Cert.ReferenceIdeal.Value.run m' g')⟩
  obtain ⟨h0, h1, h2, h⟩ := h c
  obtain ⟨a0, a1, a2, a3⟩ := hargs c
  have hd := real_of_pre _ _ _ _ (hp c)
  refine ⟨h0.trans ?_, h1.trans ?_, h2.trans ?_, h⟩
  · rw [Cert.ReferenceIdeal.Read.val_main_v83_eq, a0, a1, a2, a3]
    exact ref_dx _ _ _ _ hd
  · rw [Cert.ReferenceIdeal.Read.val_main_v80_eq, a0, a1, a2, a3]
    exact ref_dw _ _ _ _ hd
  · rw [Cert.ReferenceIdeal.Read.val_main_v38_eq, a0, a1, a2, a3]
    exact ref_db _ _ _ _ hd

end Cert.Conv

end
-- ==== Proof.Gate.lean ====
/-
  The gate product: the result's array after the run is the reference's product, its blocks read off the blocks of rows and of columns.
-/
module

public import proofs.«01_k».proof.Defs
public import proofs.«01_k».proof.Proof.Gen.Kernel2.Frame
public import proofs.«01_k».proof.Proof.Gen.Reference2Ideal.Run
public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

namespace Cert.Gate

open Cert.Kernel2Ideal Cert.Kernel2Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val / 4, 0] ∧ win0_1.index t = ![t.val % 4, 0, 0, 0] ∧ win0_2.index t = ![t.val / 4, t.val % 4] :=
  (by decide +kernel : ∀ t : Fin grid0.N, win0_0.index t = ![t.val / 4, 0] ∧ win0_1.index t = ![t.val % 4, 0, 0, 0] ∧ win0_2.index t = ![t.val / 4, t.val % 4]) t

/-- The result's array after the run. -/
theorem final (c : Dev nD) : (dats m 0 c).arrAt 2 cfg0.N =
    Cert.Reference2Ideal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Cert.Reference2Ideal.Read.val_main_v2 Cert.Reference2Ideal.Read.val_main_v1 Cert.Reference2Ideal.Read.val_main_v0
  pointwise [k0_pay1]
  blk_point [iblk, V, idx t]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v4) =
        Cert.Reference2Ideal.Read.val_main_v2 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel2Ideal.Value.run_blocks m ρ)

/-- The reference's frame: its run leaves its arguments, and it has no semaphore. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel ends with the reference's result, its arguments kept. -/
theorem algebraic : Cert.algebraic_Kernel2Ideal_Reference2Ideal := by
  intro m g m' g' _ hargs
  refine ⟨_, run m g, (θ_run _ _ _).mono (fun r h c => ?_) (Cert.Reference2Ideal.Value.run m' g')⟩
  obtain ⟨h0, h⟩ := h c
  obtain ⟨a0, a1⟩ := hargs c
  refine ⟨h0.trans ?_, h⟩
  · rw [Cert.Reference2Ideal.Read.val_main_v2_eq, a0, a1]

end Cert.Gate

end
-- ==== Proof.Down.lean ====
/-
  SwiGLU and the down product: the result's array after the run is the reference's product, the four chips' rows summed one after another.
-/
module

public import proofs.«01_k».proof.Defs
public import proofs.«01_k».proof.Proof.Gen.Kernel3.Frame
public import proofs.«01_k».proof.Proof.Gen.Reference3Ideal.Run
public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ReadBack

@[expose] public section

set_option maxRecDepth 16384

noncomputable section

namespace Cert.Down

open Cert.Kernel3Ideal Cert.Kernel3Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val / 8, t.val % 4] ∧ win0_1.index t = ![t.val / 8, t.val % 4] ∧ win0_2.index t = ![t.val % 4, 0, 0, t.val / 4 % 2] ∧ win0_3.index t = ![t.val / 8, t.val / 4 % 2] :=
  (by decide +kernel : ∀ t : Fin grid0.N, win0_0.index t = ![t.val / 8, t.val % 4] ∧ win0_1.index t = ![t.val / 8, t.val % 4] ∧ win0_2.index t = ![t.val % 4, 0, 0, t.val / 4 % 2] ∧ win0_3.index t = ![t.val / 8, t.val / 4 % 2]) t

/-- The product of one block of SwiGLU with one block of the down weights. -/
def part (g : FVec Ideal S512x1408 .bf16) (u : FVec Ideal S512x1408 .bf16) (w : FVec Ideal S1x1x1408x1024 .bf16) (j : S512x1024.Idx) : EReal :=
  ∑ k : Fin 1408, g (ix2 (j 0) k) * Ideal.div 1 (1 + Ideal.exp (-g (ix2 (j 0) k))) * u (ix2 (j 0) k) * w (ix4 0 0 k (j 1))

/-- What the first point of a run of 4 leaves. -/
theorem pay1 (g : FVec Ideal S512x1408 .bf16) (u : FVec Ideal S512x1408 .bf16) (w : FVec Ideal S1x1x1408x1024 .bf16) (j : S512x1024.Idx) :
    k0_pay1 (F := Ideal) g u w j = 0 + part g u w j := by
  unfold part
  rw [zero_add]
  pointwise [k0_pay1, Ideal.logistic]

/-- What a middle point of a run adds. -/
theorem pay2 (acc : FVec Ideal S512x1024 .f32) (g : FVec Ideal S512x1408 .bf16) (u : FVec Ideal S512x1408 .bf16) (w : FVec Ideal S1x1x1408x1024 .bf16) (j : S512x1024.Idx) :
    k0_pay2 (F := Ideal) acc g u w j = acc j + part g u w j := by
  unfold part
  pointwise [k0_pay2, Ideal.logistic]

/-- What the last point of a run adds. -/
theorem pay3 (acc : FVec Ideal S512x1024 .f32) (g : FVec Ideal S512x1408 .bf16) (u : FVec Ideal S512x1408 .bf16) (w : FVec Ideal S1x1x1408x1024 .bf16) (j : S512x1024.Idx) :
    k0_pay3 (F := Ideal) acc g u w j = acc j + part g u w j := by
  unfold part
  pointwise [k0_pay3, Ideal.logistic]

/-- The sum a point leaves: in the result's block at the last of its run, in the scratch before. -/
def acc (c : Dev nD) (n : ℕ) (h : n < cfg0.N) : S512x1024.Idx → EReal :=
  if n % 4 = 3 then (outsAt0 m c n h).1 else (outsAt0 m c n h).2

theorem acc_first (c : Dev nD) (t : Fin cfg0.N) (h : t.val % 4 = 0) (j : S512x1024.Idx) :
    acc m c t.val t.isLt j = 0 + part (iblk m c 0 t) (iblk m c 1 t) (iblk m c 2 t) j := by
  unfold acc
  rw [if_neg (by omega), outsAt0_A m c t h (by omega) (by omega)]
  frame_out
  exact pay1 _ _ _ _

theorem acc_next (c : Dev nD) (t : Fin cfg0.N) (h : ¬t.val % 4 = 0) (j : S512x1024.Idx) :
    acc m c t.val t.isLt j = acc m c (t.val - 1) (Nat.lt_of_le_of_lt (Nat.sub_le _ _) t.isLt) j + part (iblk m c 0 t) (iblk m c 1 t) (iblk m c 2 t) j := by
  unfold acc
  rw [if_neg (c := (t.val - 1) % 4 = 3) (by omega)]
  by_cases h3 : t.val % 4 = 3
  · rw [if_pos h3, outsAt0_C m c t h (by omega) h3]
    frame_out
    simp only [read_unread_whole]
    exact pay3 _ _ _ _ _
  · rw [if_neg h3, outsAt0_B m c t h (by omega) h3]
    frame_out
    simp only [read_unread_whole]
    exact pay2 _ _ _ _ _

/-- The result's array after the run. -/
theorem final (c : Dev nD) : (dats m 0 c).arrAt 3 cfg0.N =
    Cert.Reference3Ideal.Read.val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hm : t.val % 4 = 3 := (flush0_3 t).mp hf
  blk_simp
  rw [after0_3]
  have e := Pipeline.eq_sum_fin_of_reset_step_apply_of_flush (fun n h => acc m c n h) 4 (fun _ => 0) (fun t j => part (iblk m c 0 t) (iblk m c 1 t) (iblk m c 2 t) j)
    (acc_first m c) (acc_next m c) t hm y
  simp only [acc, if_pos hm, zero_add] at e
  refine Eq.trans e ?_
  clear e
  unfold part Cert.Reference3Ideal.Read.val_main_v4 Cert.Reference3Ideal.Read.val_main_v3 Cert.Reference3Ideal.Read.val_main_v2 Cert.Reference3Ideal.Read.val_main_v1 Cert.Reference3Ideal.Read.val_main_v0 Cert.Reference3Ideal.Read.val_main_call0_v5 Cert.Reference3Ideal.Read.val_main_call0_v4 Cert.Reference3Ideal.Read.val_main_call0_cst_0 Cert.Reference3Ideal.Read.val_main_call0_v3 Cert.Reference3Ideal.Read.val_main_call0_v2 Cert.Reference3Ideal.Read.val_main_call0_cst Cert.Reference3Ideal.Read.val_main_call0_v1 Cert.Reference3Ideal.Read.val_main_call0_v0
  pointwise [Ideal.logistic]
  refine Fin.sum_mul_add_congr fun s k hl => ?_
  blk_point [iblk, V, idx t, idx ⟨_, Pipeline.run_point_lt_of_flush t hm s⟩]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v2) =
        Cert.Reference3Ideal.Read.val_main_v4 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by
    obtain ⟨h0, h⟩ := h c
    exact ⟨h0.trans (final m c), h⟩) (Cert.Kernel3Ideal.Value.run_blocks m ρ)

/-- The reference's frame: its run leaves its arguments, and it has no semaphore. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel ends with the reference's result, its arguments kept. -/
theorem algebraic : Cert.algebraic_Kernel3Ideal_Reference3Ideal := by
  intro m g m' g' _ hargs
  refine ⟨_, run m g, (θ_run _ _ _).mono (fun r h c => ?_) (Cert.Reference3Ideal.Value.run m' g')⟩
  obtain ⟨h0, h⟩ := h c
  obtain ⟨a0, a1, a2⟩ := hargs c
  refine ⟨h0.trans ?_, h⟩
  · rw [Cert.Reference3Ideal.Read.val_main_v4_eq, a0, a1, a2]

end Cert.Down

end
-- ==== Proof.DownDx.lean ====
/-
  The gradients by the gate and the up pre-activations: each result's array after the run is the product of the cotangent with the down weights, taken back through SwiGLU.
-/
module

public import proofs.«01_k».proof.Defs
public import proofs.«01_k».proof.Proof.Gen.Kernel4.Frame
public import proofs.«01_k».proof.Proof.Gen.Reference4Ideal.Run
public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

namespace Cert.DownDx

open Cert.Kernel4Ideal Cert.Kernel4Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val / 4, 0] ∧ win0_1.index t = ![t.val % 4, 0, 0, 0] ∧ win0_2.index t = ![t.val / 4, t.val % 4] ∧ win0_3.index t = ![t.val / 4, t.val % 4] ∧ win0_4.index t = ![t.val / 4, t.val % 4] ∧ win0_5.index t = ![t.val / 4, t.val % 4] :=
  (by decide +kernel : ∀ t : Fin grid0.N, win0_0.index t = ![t.val / 4, 0] ∧ win0_1.index t = ![t.val % 4, 0, 0, 0] ∧ win0_2.index t = ![t.val / 4, t.val % 4] ∧ win0_3.index t = ![t.val / 4, t.val % 4] ∧ win0_4.index t = ![t.val / 4, t.val % 4] ∧ win0_5.index t = ![t.val / 4, t.val % 4]) t

/-- The array of the gate pre-activation's gradient after the run. -/
theorem final4 (c : Dev nD) : (dats m 0 c).arrAt 4 cfg0.N =
    Cert.Reference4Ideal.Read.val_main_v12 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  unfold Cert.Reference4Ideal.Read.val_main_v12 Cert.Reference4Ideal.Read.val_main_v11 Cert.Reference4Ideal.Read.val_main_call1_v2 Cert.Reference4Ideal.Read.val_main_call1_v1 Cert.Reference4Ideal.Read.val_main_call1_v0 Cert.Reference4Ideal.Read.val_main_v10 Cert.Reference4Ideal.Read.val_main_v8 Cert.Reference4Ideal.Read.val_main_v5 Cert.Reference4Ideal.Read.val_main_v2_1 Cert.Reference4Ideal.Read.val_main_call0_v7 Cert.Reference4Ideal.Read.val_main_call0_v6 Cert.Reference4Ideal.Read.val_main_call0_cst_1 Cert.Reference4Ideal.Read.val_main_v2_2 Cert.Reference4Ideal.Read.val_main_call0_v4 Cert.Reference4Ideal.Read.val_main_call0_cst_0 Cert.Reference4Ideal.Read.val_main_call0_v3 Cert.Reference4Ideal.Read.val_main_call0_v2 Cert.Reference4Ideal.Read.val_main_call0_cst Cert.Reference4Ideal.Read.val_main_call0_v1 Cert.Reference4Ideal.Read.val_main_call0_v0 Cert.Reference4Ideal.Read.val_main_v1 Cert.Reference4Ideal.Read.val_main_v0
  pointwise [k0_pay4, k0_pay3, k0_pay2, k0_pay1, Ideal.logistic]

  blk_point [iblk, V, idx t]

/-- The array of the up pre-activation's gradient after the run. -/
theorem final5 (c : Dev nD) : (dats m 0 c).arrAt 5 cfg0.N =
    Cert.Reference4Ideal.Read.val_main_v13 (F := Ideal) (m ((c : Thread nD τ).loc main_arg0)) (m ((c : Thread nD τ).loc main_arg2)) (m ((c : Thread nD τ).loc main_arg3)) := by
  refine (dats m 0 c).arrAt_eq_of_covers 5 _ (by decide +kernel) fun t hf y => ?_
  blk_simp
  rw [after0_5]
  frame_out
  unfold Cert.Reference4Ideal.Read.val_main_v13 Cert.Reference4Ideal.Read.val_main_v9 Cert.Reference4Ideal.Read.val_main_v8 Cert.Reference4Ideal.Read.val_main_v5 Cert.Reference4Ideal.Read.val_main_v2_0 Cert.Reference4Ideal.Read.val_main_v2_2 Cert.Reference4Ideal.Read.val_main_call0_v4 Cert.Reference4Ideal.Read.val_main_call0_cst_0 Cert.Reference4Ideal.Read.val_main_call0_v3 Cert.Reference4Ideal.Read.val_main_call0_v2 Cert.Reference4Ideal.Read.val_main_call0_cst Cert.Reference4Ideal.Read.val_main_call0_v1 Cert.Reference4Ideal.Read.val_main_call0_v0 Cert.Reference4Ideal.Read.val_main_v0
  pointwise [k0_pay5, k0_pay3, k0_pay2, k0_pay1, Ideal.logistic]

  blk_point [iblk, V, idx t]

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v2_0) =
        Cert.Reference4Ideal.Read.val_main_v12 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v2_1) =
        Cert.Reference4Ideal.Read.val_main_v13 (F := Ideal) (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h⟩ := h c
    exact ⟨h0.trans (final4 m c), h1.trans (final5 m c), h⟩) (Cert.Kernel4Ideal.Value.run_blocks m ρ)

/-- The reference's frame: its run leaves its arguments, and it has no semaphore. -/
theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The kernel ends with the reference's results, its arguments kept. -/
theorem algebraic : Cert.algebraic_Kernel4Ideal_Reference4Ideal := by
  intro m g m' g' _ hargs
  refine ⟨_, _, run m g, (θ_run _ _ _).mono (fun r h c => ?_) (Cert.Reference4Ideal.Value.run m' g')⟩
  obtain ⟨h0, h1, h⟩ := h c
  obtain ⟨a0, a1, a2, a3⟩ := hargs c
  refine ⟨h0.trans ?_, h1.trans ?_, h⟩
  · rw [Cert.Reference4Ideal.Read.val_main_v12_eq, a0, a1, a2, a3]
  · rw [Cert.Reference4Ideal.Read.val_main_v13_eq, a0, a2, a3]

end Cert.DownDx

end
-- ==== Proof.DownDw.lean ====
/-
  The down product's gradient by its weights: the result's array after the run is the transposed product of the reference, cut into the chips' rows, the two halves of the sequence summed one after the other.
-/
module

public import proofs.«01_k».proof.Defs
public import proofs.«01_k».proof.Proof.Gen.Kernel5.Frame
public import proofs.«01_k».proof.Proof.Gen.Reference5Ideal.Run
public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack

@[expose] public section

set_option maxRecDepth 16384

noncomputable section

namespace Cert.DownDw

open Cert.Kernel5Ideal Cert.Kernel5Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val % 2, t.val / 4] ∧ win0_1.index t = ![t.val % 2, t.val / 4] ∧ win0_2.index t = ![t.val % 2, t.val / 2 % 2] ∧ win0_3.index t = ![t.val / 4, 0, t.val / 2 % 2] :=
  (by decide +kernel : ∀ t : Fin grid0.N, win0_0.index t = ![t.val % 2, t.val / 4] ∧ win0_1.index t = ![t.val % 2, t.val / 4] ∧ win0_2.index t = ![t.val % 2, t.val / 2 % 2] ∧ win0_3.index t = ![t.val / 4, 0, t.val / 2 % 2]) t

/-- The transposed product of one block of SwiGLU with one block of the cotangent. -/
def part (g : FVec Ideal S1024x1408 .bf16) (u : FVec Ideal S1024x1408 .bf16) (d : FVec Ideal S1024x1024 .bf16) (j : S1408x1024.Idx) : EReal :=
  ∑ k : Fin 1024, g (ix2 k (j 0)) * Ideal.div 1 (1 + Ideal.exp (-g (ix2 k (j 0)))) * u (ix2 k (j 0)) * d (ix2 k (j 1))

/-- What the first point of a run of 2 leaves. -/
theorem pay1 (g : FVec Ideal S1024x1408 .bf16) (u : FVec Ideal S1024x1408 .bf16) (d : FVec Ideal S1024x1024 .bf16) (j : S1408x1024.Idx) :
    k0_pay1 (F := Ideal) g u d j = 0 + part g u d j := by
  unfold part
  rw [zero_add]
  pointwise [k0_pay1, Ideal.logistic]

/-- What the last point of a run adds. -/
theorem pay2 (acc : FVec Ideal S1408x1024 .f32) (g : FVec Ideal S1024x1408 .bf16) (u : FVec Ideal S1024x1408 .bf16) (d : FVec Ideal S1024x1024 .bf16) (j : S1408x1024.Idx) :
    k0_pay2 (F := Ideal) acc g u d (ix3 0 (j 0) (j 1)) = acc j + part g u d j := by
  unfold part
  pointwise [k0_pay2, Ideal.logistic]

/-- The sum a point leaves: in the result's block at the last of its run, in the scratch before. -/
def acc (c : Dev nD) (n : ℕ) (h : n < cfg0.N) : S1408x1024.Idx → EReal :=
  if n % 2 = 1 then fun j => (outsAt0 m c n h).1 (ix3 0 (j 0) (j 1)) else (outsAt0 m c n h).2

theorem acc_first (c : Dev nD) (t : Fin cfg0.N) (h : t.val % 2 = 0) (j : S1408x1024.Idx) :
    acc m c t.val t.isLt j = 0 + part (iblk m c 0 t) (iblk m c 1 t) (iblk m c 2 t) j := by
  unfold acc
  rw [if_neg (by omega), outsAt0_A m c t h (by omega)]
  frame_out
  exact pay1 _ _ _ _

theorem acc_next (c : Dev nD) (t : Fin cfg0.N) (h : ¬t.val % 2 = 0) (j : S1408x1024.Idx) :
    acc m c t.val t.isLt j = acc m c (t.val - 1) (Nat.lt_of_le_of_lt (Nat.sub_le _ _) t.isLt) j + part (iblk m c 0 t) (iblk m c 1 t) (iblk m c 2 t) j := by
  unfold acc
  rw [if_neg (c := (t.val - 1) % 2 = 1) (by omega)]
  have h1 : t.val % 2 = 1 := by omega
  rw [if_pos h1, outsAt0_B m c t h h1]
  frame_out
  simp only [read_unread_whole]
  exact pay2 _ _ _ _ _

/-- The result's array after the run. -/
theorem final (c : Dev nD) : (dats m 0 c).arrAt 3 cfg0.N =
    Cert.Reference5Ideal.Read.val_main_v10 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hm : t.val % 2 = 1 := (flush0_3 t).mp hf
  blk_simp
  rw [after0_3]
  have e := Pipeline.eq_sum_fin_of_reset_step_apply_of_flush (fun n h => acc m c n h) 2 (fun _ => 0) (fun t j => part (iblk m c 0 t) (iblk m c 1 t) (iblk m c 2 t) j)
    (acc_first m c) (acc_next m c) t hm (ix2 (y 1) (y 2))
  simp only [acc, if_pos hm, zero_add] at e
  have hy : y = ix3 0 (y 1) (y 2) := (eq_ix3 y).trans (congrArg (fun z => ix3 z (y 1) (y 2)) (Subsingleton.elim (α := Fin 1) _ _))
  refine Eq.trans ((congrArg _ hy).trans e) ?_
  clear e
  unfold part Cert.Reference5Ideal.Read.val_main_v10 Cert.Reference5Ideal.Read.val_main_v9 Cert.Reference5Ideal.Read.val_main_v8 Cert.Reference5Ideal.Read.val_main_v7 Cert.Reference5Ideal.Read.val_main_v6 Cert.Reference5Ideal.Read.val_main_v4 Cert.Reference5Ideal.Read.val_main_v3 Cert.Reference5Ideal.Read.val_main_v2 Cert.Reference5Ideal.Read.val_main_v1 Cert.Reference5Ideal.Read.val_main_call0_v5 Cert.Reference5Ideal.Read.val_main_call0_v4 Cert.Reference5Ideal.Read.val_main_call0_cst_0 Cert.Reference5Ideal.Read.val_main_call0_v3 Cert.Reference5Ideal.Read.val_main_call0_v2 Cert.Reference5Ideal.Read.val_main_call0_cst Cert.Reference5Ideal.Read.val_main_call0_v1 Cert.Reference5Ideal.Read.val_main_call0_v0
  pointwise [Ideal.logistic]
  refine Fin.sum_mul_add_congr fun s k hl => ?_
  refine Eq.trans ?_ (mul_comm (G := EReal) _ _)
  blk_point [iblk, V, idx t, idx ⟨_, Pipeline.run_point_lt_of_flush t hm s⟩]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v0) =
        Cert.Reference5Ideal.Read.val_main_v10 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by
    obtain ⟨h0, h⟩ := h c
    exact ⟨h0.trans (final m c), h⟩) (Cert.Kernel5Ideal.Value.run_blocks m ρ)

/-- The reference's frame: its run leaves its arguments, and it has no semaphore. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel ends with the reference's result, its arguments kept. -/
theorem algebraic : Cert.algebraic_Kernel5Ideal_Reference5Ideal := by
  intro m g m' g' _ hargs
  refine ⟨_, run m g, (θ_run _ _ _).mono (fun r h c => ?_) (Cert.Reference5Ideal.Value.run m' g')⟩
  obtain ⟨h0, h⟩ := h c
  obtain ⟨a0, a1, a2⟩ := hargs c
  refine ⟨h0.trans ?_, h⟩
  · rw [Cert.Reference5Ideal.Read.val_main_v10_eq, a0, a1, a2]

end Cert.DownDw

end
-- ==== Proof.GateDx.lean ====
/-
  The gate product's gradient by its input: the result's array after the run is the reference's product, the four chips' columns summed one after another.
-/
module

public import proofs.«01_k».proof.Defs
public import proofs.«01_k».proof.Proof.Gen.Kernel6.Frame
public import proofs.«01_k».proof.Proof.Gen.Reference6Ideal.Run
public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack

@[expose] public section

set_option maxRecDepth 16384

noncomputable section

namespace Cert.GateDx

open Cert.Kernel6Ideal Cert.Kernel6Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val / 8, t.val % 4] ∧ win0_1.index t = ![t.val % 4, 0, t.val / 4 % 2, 0] ∧ win0_2.index t = ![t.val / 8, t.val / 4 % 2] :=
  (by decide +kernel : ∀ t : Fin grid0.N, win0_0.index t = ![t.val / 8, t.val % 4] ∧ win0_1.index t = ![t.val % 4, 0, t.val / 4 % 2, 0] ∧ win0_2.index t = ![t.val / 8, t.val / 4 % 2]) t

/-- The product of one block of rows with one block of columns. -/
def part (a : FVec Ideal S1024x1408 .bf16) (b : FVec Ideal S1x1x1024x1408 .bf16) (j : S1024x1024.Idx) : EReal :=
  ∑ k : Fin 1408, a (ix2 (j 0) k) * b (ix4 0 0 (j 1) k)

/-- What the first point of a run of 4 leaves. -/
theorem pay1 (a : FVec Ideal S1024x1408 .bf16) (b : FVec Ideal S1x1x1024x1408 .bf16) (j : S1024x1024.Idx) :
    k0_pay1 (F := Ideal) a b j = 0 + part a b j := by
  unfold part
  rw [zero_add]
  pointwise [k0_pay1]

/-- What a middle point of a run adds. -/
theorem pay2 (acc : FVec Ideal S1024x1024 .f32) (a : FVec Ideal S1024x1408 .bf16) (b : FVec Ideal S1x1x1024x1408 .bf16) (j : S1024x1024.Idx) :
    k0_pay2 (F := Ideal) acc a b j = acc j + part a b j := by
  unfold part
  pointwise [k0_pay2]

/-- What the last point of a run adds. -/
theorem pay3 (acc : FVec Ideal S1024x1024 .f32) (a : FVec Ideal S1024x1408 .bf16) (b : FVec Ideal S1x1x1024x1408 .bf16) (j : S1024x1024.Idx) :
    k0_pay3 (F := Ideal) acc a b j = acc j + part a b j := by
  unfold part
  pointwise [k0_pay3]

/-- The sum a point leaves: in the result's block at the last of its run, in the scratch before. -/
def acc (c : Dev nD) (n : ℕ) (h : n < cfg0.N) : S1024x1024.Idx → EReal :=
  if n % 4 = 3 then (outsAt0 m c n h).1 else (outsAt0 m c n h).2

theorem acc_first (c : Dev nD) (t : Fin cfg0.N) (h : t.val % 4 = 0) (j : S1024x1024.Idx) :
    acc m c t.val t.isLt j = 0 + part (iblk m c 0 t) (iblk m c 1 t) j := by
  unfold acc
  rw [if_neg (by omega), outsAt0_A m c t h (by omega) (by omega)]
  frame_out
  exact pay1 _ _ _

theorem acc_next (c : Dev nD) (t : Fin cfg0.N) (h : ¬t.val % 4 = 0) (j : S1024x1024.Idx) :
    acc m c t.val t.isLt j = acc m c (t.val - 1) (Nat.lt_of_le_of_lt (Nat.sub_le _ _) t.isLt) j + part (iblk m c 0 t) (iblk m c 1 t) j := by
  unfold acc
  rw [if_neg (c := (t.val - 1) % 4 = 3) (by omega)]
  by_cases h3 : t.val % 4 = 3
  · rw [if_pos h3, outsAt0_C m c t h (by omega) h3]
    frame_out
    simp only [read_unread_whole]
    exact pay3 _ _ _ _
  · rw [if_neg h3, outsAt0_B m c t h (by omega) h3]
    frame_out
    simp only [read_unread_whole]
    exact pay2 _ _ _ _

/-- The result's array after the run. -/
theorem final (c : Dev nD) : (dats m 0 c).arrAt 2 cfg0.N =
    Cert.Reference6Ideal.Read.val_main_v3 (F := Ideal) (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  blk_simp
  rw [after0_2]
  have e := Pipeline.eq_sum_fin_of_reset_step_apply_of_flush (fun n h => acc m c n h) 4 (fun _ => 0) (fun t j => part (iblk m c 0 t) (iblk m c 1 t) j)
    (acc_first m c) (acc_next m c) t hm y
  simp only [acc, if_pos hm, zero_add] at e
  refine Eq.trans e ?_
  clear e
  unfold part Cert.Reference6Ideal.Read.val_main_v3 Cert.Reference6Ideal.Read.val_main_v2
  pointwise
  refine Fin.sum_mul_add_congr fun s k hl => ?_
  blk_point [iblk, V, idx t, idx ⟨_, Pipeline.run_point_lt_of_flush t hm s⟩]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v4) =
        Cert.Reference6Ideal.Read.val_main_v3 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel6Ideal.Value.run_blocks m ρ)

/-- The reference's frame: its run leaves its arguments, and it has no semaphore. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel ends with the reference's result, its arguments kept. -/
theorem algebraic : Cert.algebraic_Kernel6Ideal_Reference6Ideal := by
  intro m g m' g' _ hargs
  refine ⟨_, run m g, (θ_run _ _ _).mono (fun r h c => ?_) (Cert.Reference6Ideal.Value.run m' g')⟩
  obtain ⟨h0, h⟩ := h c
  obtain ⟨a0, a1⟩ := hargs c
  refine ⟨h0.trans ?_, h⟩
  · rw [Cert.Reference6Ideal.Read.val_main_v3_eq, a0, a1]

end Cert.GateDx

end
-- ==== Proof.GateDw.lean ====
/-
  The gate product's gradient by its weights: the result's array after the run is the transposed product of the reference, cut into the chips' columns.
-/
module

public import proofs.«01_k».proof.Defs
public import proofs.«01_k».proof.Proof.Gen.Kernel7.Frame
public import proofs.«01_k».proof.Proof.Gen.Reference7Ideal.Run
public import proofs.«01_k».proof.Proof.Gen.Kernel7Ideal.Value
public import proofs.«01_k».proof.Proof.Gen.Reference7Ideal.Read
public import Idealize.ShloMosaic.Lib.Pipeline.ValueKit

@[expose] public section

set_option maxRecDepth 16384

noncomputable section

namespace Cert.GateDw

open Cert.Kernel7Ideal Cert.Kernel7Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![0, t.val / 4] ∧ win0_1.index t = ![0, t.val % 4] ∧ win0_2.index t = ![t.val % 4, t.val / 4, 0] :=
  (by decide +kernel : ∀ t : Fin grid0.N, win0_0.index t = ![0, t.val / 4] ∧ win0_1.index t = ![0, t.val % 4] ∧ win0_2.index t = ![t.val % 4, t.val / 4, 0]) t

/-- The result's array after the run. -/
theorem final (c : Dev nD) : (dats m 0 c).arrAt 2 cfg0.N =
    Cert.Reference7Ideal.Read.val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Cert.Reference7Ideal.Read.val_main_v8 Cert.Reference7Ideal.Read.val_main_v7 Cert.Reference7Ideal.Read.val_main_v6 Cert.Reference7Ideal.Read.val_main_v5 Cert.Reference7Ideal.Read.val_main_v4 Cert.Reference7Ideal.Read.val_main_v3 Cert.Reference7Ideal.Read.val_main_v1
  pointwise [k0_pay1]
  refine (Finset.sum_congr (M := EReal) rfl fun k _ => mul_comm (G := EReal) _ _).trans ?_
  blk_point [iblk, V, idx t]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v0) =
        Cert.Reference7Ideal.Read.val_main_v8 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel7Ideal.Value.run_blocks m ρ)

/-- The reference's frame: its run leaves its arguments, and it has no semaphore. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The kernel ends with the reference's result, its arguments kept. -/
theorem algebraic : Cert.algebraic_Kernel7Ideal_Reference7Ideal := by
  intro m g m' g' _ hargs
  refine ⟨_, run m g, (θ_run _ _ _).mono (fun r h c => ?_) (Cert.Reference7Ideal.Value.run m' g')⟩
  obtain ⟨h0, h⟩ := h c
  obtain ⟨a0, a1⟩ := hargs c
  refine ⟨h0.trans ?_, h⟩
  · rw [Cert.Reference7Ideal.Read.val_main_v8_eq, a0, a1]

end Cert.GateDw

end
-- ==== Proof.InProj.lean ====
/-
  The mixer's input projection: the result's array after the run is the reference's product.
-/
module

public import proofs.«01_k».proof.Defs
public import proofs.«01_k».proof.Proof.Gen.Kernel8.Frame
public import proofs.«01_k».proof.Proof.Gen.Reference8Ideal.Run
public import proofs.«01_k».proof.Proof.Gen.Kernel8Ideal.Value
public import proofs.«01_k».proof.Proof.Gen.Reference8Ideal.Read
public import Idealize.ShloMosaic.Lib.Pipeline.ValueKit

@[expose] public section

set_option maxRecDepth 16384

noncomputable section

namespace Cert.InProj

open Cert.Kernel8Ideal Cert.Kernel8Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val / 13, 0] ∧ win0_1.index t = ![0, 0, 0, t.val % 13] ∧ win0_2.index t = ![t.val / 13, t.val % 13] :=
  (by decide +kernel : ∀ t : Fin grid0.N, win0_0.index t = ![t.val / 13, 0] ∧ win0_1.index t = ![0, 0, 0, t.val % 13] ∧ win0_2.index t = ![t.val / 13, t.val % 13]) t

/-- The result's array after the run. -/
theorem final (c : Dev nD) : (dats m 0 c).arrAt 2 cfg0.N =
    Cert.Reference8Ideal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Cert.Reference8Ideal.Read.val_main_v1 Cert.Reference8Ideal.Read.val_main_v0
  pointwise [k0_pay1]
  blk_point [iblk, V, idx t]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v2) =
        Cert.Reference8Ideal.Read.val_main_v1 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel8Ideal.Value.run_blocks m ρ)

/-- The reference's frame: its run leaves its arguments, and it has no semaphore. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The kernel ends with the reference's result, its arguments kept. -/
theorem algebraic : Cert.algebraic_Kernel8Ideal_Reference8Ideal := by
  intro m g m' g' _ hargs
  refine ⟨_, run m g, (θ_run _ _ _).mono (fun r h c => ?_) (Cert.Reference8Ideal.Value.run m' g')⟩
  obtain ⟨h0, h⟩ := h c
  obtain ⟨a0, a1⟩ := hargs c
  refine ⟨h0.trans ?_, h⟩
  · rw [Cert.Reference8Ideal.Read.val_main_v1_eq, a0, a1]

end Cert.InProj

end
-- ==== Proof.InProjDx.lean ====
/-
  The input projection's gradient by its input: the result's array after the run is the reference's product, the eight blocks of columns summed one after another.
-/
module

public import proofs.«01_k».proof.Defs
public import proofs.«01_k».proof.Proof.Gen.Kernel9.Frame
public import proofs.«01_k».proof.Proof.Gen.Reference9Ideal.Run
public import proofs.«01_k».proof.Proof.Gen.Kernel9Ideal.Value
public import proofs.«01_k».proof.Proof.Gen.Reference9Ideal.Read
public import Idealize.ShloMosaic.Lib.Pipeline.ValueKit
public import Idealize.ShloMosaic.Lib.Pipeline.ReadBack

@[expose] public section

set_option maxRecDepth 16384

noncomputable section

namespace Cert.InProjDx

open Cert.Kernel9Ideal Cert.Kernel9Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val / 16, t.val % 8] ∧ win0_1.index t = ![0, 0, t.val / 8 % 2, t.val % 8] ∧ win0_2.index t = ![t.val / 16, t.val / 8 % 2] :=
  (by decide +kernel : ∀ t : Fin grid0.N, win0_0.index t = ![t.val / 16, t.val % 8] ∧ win0_1.index t = ![0, 0, t.val / 8 % 2, t.val % 8] ∧ win0_2.index t = ![t.val / 16, t.val / 8 % 2]) t

/-- The product of one block of rows with one block of columns. -/
def part (a : FVec Ideal S1024x1664 .bf16) (b : FVec Ideal S1x1x1024x1664 .bf16) (j : S1024x1024.Idx) : EReal :=
  ∑ k : Fin 1664, a (ix2 (j 0) k) * b (ix4 0 0 (j 1) k)

/-- What the first point of a run of 8 leaves. -/
theorem pay1 (a : FVec Ideal S1024x1664 .bf16) (b : FVec Ideal S1x1x1024x1664 .bf16) (j : S1024x1024.Idx) :
    k0_pay1 (F := Ideal) a b j = 0 + part a b j := by
  unfold part
  rw [zero_add]
  pointwise [k0_pay1]

/-- What a middle point of a run adds. -/
theorem pay2 (acc : FVec Ideal S1024x1024 .f32) (a : FVec Ideal S1024x1664 .bf16) (b : FVec Ideal S1x1x1024x1664 .bf16) (j : S1024x1024.Idx) :
    k0_pay2 (F := Ideal) acc a b j = acc j + part a b j := by
  unfold part
  pointwise [k0_pay2]

/-- What the last point of a run adds. -/
theorem pay3 (acc : FVec Ideal S1024x1024 .f32) (a : FVec Ideal S1024x1664 .bf16) (b : FVec Ideal S1x1x1024x1664 .bf16) (j : S1024x1024.Idx) :
    k0_pay3 (F := Ideal) acc a b j = acc j + part a b j := by
  unfold part
  pointwise [k0_pay3]

/-- The sum a point leaves: in the result's block at the last of its run, in the scratch before. -/
def acc (c : Dev nD) (n : ℕ) (h : n < cfg0.N) : S1024x1024.Idx → EReal :=
  if n % 8 = 7 then (outsAt0 m c n h).1 else (outsAt0 m c n h).2

theorem acc_first (c : Dev nD) (t : Fin cfg0.N) (h : t.val % 8 = 0) (j : S1024x1024.Idx) :
    acc m c t.val t.isLt j = 0 + part (iblk m c 0 t) (iblk m c 1 t) j := by
  unfold acc
  rw [if_neg (by omega), outsAt0_A m c t h (by omega) (by omega)]
  frame_out
  exact pay1 _ _ _

theorem acc_next (c : Dev nD) (t : Fin cfg0.N) (h : ¬t.val % 8 = 0) (j : S1024x1024.Idx) :
    acc m c t.val t.isLt j = acc m c (t.val - 1) (Nat.lt_of_le_of_lt (Nat.sub_le _ _) t.isLt) j + part (iblk m c 0 t) (iblk m c 1 t) j := by
  unfold acc
  rw [if_neg (c := (t.val - 1) % 8 = 7) (by omega)]
  by_cases h3 : t.val % 8 = 7
  · rw [if_pos h3, outsAt0_C m c t h (by omega) h3]
    frame_out
    simp only [read_unread_whole]
    exact pay3 _ _ _ _
  · rw [if_neg h3, outsAt0_B m c t h (by omega) h3]
    frame_out
    simp only [read_unread_whole]
    exact pay2 _ _ _ _

/-- The result's array after the run. -/
theorem final (c : Dev nD) : (dats m 0 c).arrAt 2 cfg0.N =
    Cert.Reference9Ideal.Read.val_main_v3 (F := Ideal) (m ((c : Thread nD τ).loc main_arg0)) (m ((c : Thread nD τ).loc main_arg1)) := by
  refine (dats m 0 c).arrAt_eq_of_covers 2 _ (by decide +kernel) fun t hf y => ?_
  have hm : t.val % 8 = 7 := (flush0_2 t).mp hf
  blk_simp
  rw [after0_2]
  have e := Pipeline.eq_sum_fin_of_reset_step_apply_of_flush (fun n h => acc m c n h) 8 (fun _ => 0) (fun t j => part (iblk m c 0 t) (iblk m c 1 t) j)
    (acc_first m c) (acc_next m c) t hm y
  simp only [acc, if_pos hm, zero_add] at e
  refine Eq.trans e ?_
  clear e
  unfold part Cert.Reference9Ideal.Read.val_main_v3 Cert.Reference9Ideal.Read.val_main_v2
  pointwise
  refine Fin.sum_mul_add_congr fun s k hl => ?_
  blk_point [iblk, V, idx t, idx ⟨_, Pipeline.run_point_lt_of_flush t hm s⟩]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v2) =
        Cert.Reference9Ideal.Read.val_main_v3 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel9Ideal.Value.run_blocks m ρ)

/-- The reference's frame: its run leaves its arguments, and it has no semaphore. -/
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The kernel ends with the reference's result, its arguments kept. -/
theorem algebraic : Cert.algebraic_Kernel9Ideal_Reference9Ideal := by
  intro m g m' g' _ hargs
  refine ⟨_, run m g, (θ_run _ _ _).mono (fun r h c => ?_) (Cert.Reference9Ideal.Value.run m' g')⟩
  obtain ⟨h0, h⟩ := h c
  obtain ⟨a0, a1⟩ := hargs c
  refine ⟨h0.trans ?_, h⟩
  · rw [Cert.Reference9Ideal.Read.val_main_v3_eq, a0, a1]

end Cert.InProjDx

end
-- ==== Proof.InProjDw.lean ====
/-
  The input projection's gradient by its weights: the result's array after the run is the transposed product of the reference.
-/
module

public import proofs.«01_k».proof.Defs
public import proofs.«01_k».proof.Proof.Gen.Kernel10.Frame
public import proofs.«01_k».proof.Proof.Gen.Reference10Ideal.Run
public import proofs.«01_k».proof.Proof.Gen.Kernel10Ideal.Value
public import proofs.«01_k».proof.Proof.Gen.Reference10Ideal.Read
public import Idealize.ShloMosaic.Lib.Pipeline.ValueKit

@[expose] public section

set_option maxRecDepth 16384

noncomputable section

namespace Cert.InProjDw

open Cert.Kernel10Ideal Cert.Kernel10Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![0, t.val / 13] ∧ win0_1.index t = ![0, t.val % 13] ∧ win0_2.index t = ![0, t.val / 13, t.val % 13] :=
  (by decide +kernel : ∀ t : Fin grid0.N, win0_0.index t = ![0, t.val / 13] ∧ win0_1.index t = ![0, t.val % 13] ∧ win0_2.index t = ![0, t.val / 13, t.val % 13]) t

/-- The result's array after the run. -/
theorem final (c : Dev nD) : (dats m 0 c).arrAt 2 cfg0.N =
    Cert.Reference10Ideal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Cert.Reference10Ideal.Read.val_main_v7 Cert.Reference10Ideal.Read.val_main_v6 Cert.Reference10Ideal.Read.val_main_v5 Cert.Reference10Ideal.Read.val_main_v4 Cert.Reference10Ideal.Read.val_main_v3 Cert.Reference10Ideal.Read.val_main_v1
  pointwise [k0_pay1]
  refine (Finset.sum_congr (M := EReal) rfl fun k _ => mul_comm (G := EReal) _ _).trans ?_
  blk_point [iblk, V, idx t]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v0) =
        Cert.Reference10Ideal.Read.val_main_v7 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel10Ideal.Value.run_blocks m ρ)

/-- The reference's frame: its run leaves its arguments, and it has no semaphore. -/
theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The kernel ends with the reference's result, its arguments kept. -/
theorem algebraic : Cert.algebraic_Kernel10Ideal_Reference10Ideal := by
  intro m g m' g' _ hargs
  refine ⟨_, run m g, (θ_run _ _ _).mono (fun r h c => ?_) (Cert.Reference10Ideal.Value.run m' g')⟩
  obtain ⟨h0, h⟩ := h c
  obtain ⟨a0, a1⟩ := hargs c
  refine ⟨h0.trans ?_, h⟩
  · rw [Cert.Reference10Ideal.Read.val_main_v7_eq, a0, a1]

end Cert.InProjDw

end
-- ==== Proof.AdamGain.lean ====
/-
  The optimiser's step of the four gains of the norms around the mixers and the feed-forward layers: each result's array is, entry by entry, the reference's.
-/
module

public import proofs.«01_k».proof.Defs
public import proofs.«01_k».proof.Proof.Gen.Kernel11.Frame
public import proofs.«01_k».proof.Proof.Gen.Reference11Ideal.Run
public import proofs.«01_k».proof.Proof.Gen.Kernel11Ideal.Value
public import proofs.«01_k».proof.Proof.Gen.Reference11Ideal.Read
public import Idealize.ShloMosaic.Lib.Pipeline.ValueKit

@[expose] public section

set_option maxRecDepth 16384

noncomputable section

namespace Cert.AdamGain

open Cert.Kernel11Ideal Cert.Kernel11Ideal.Gen Idealize.ShloMosaic Idealize.ShloMosaic.Tactic Idealize.ShloMosaic.TcCoe Idealize.SL.Sem

variable (m : (ℓ : Loc nD τ sig) → Buf (Elt Ideal) ℓ)

/-- The array of the step after the run. -/
theorem final4 (c : Dev nD) : (dats m 0 c).arrAt 4 cfg0.N =
    Cert.Reference11Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3]
  rfl

/-- The array of the first moment after the run. -/
theorem final5 (c : Dev nD) : (dats m 0 c).arrAt 5 cfg0.N =
    Cert.Reference11Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3]
  rfl

/-- The array of the second moment after the run. -/
theorem final6 (c : Dev nD) : (dats m 0 c).arrAt 6 cfg0.N =
    Cert.Reference11Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3]
  rfl

/-- The array of the gradient, passed on after the run. -/
theorem final7 (c : Dev nD) : (dats m 0 c).arrAt 7 cfg0.N =
    m ((c : Thread nD τ).loc main_arg1) := by
  refine (dats m 0 c).arrAt_eq_of_covers 7 _ (by decide +kernel) fun t hf y => ?_
  blk_simp
  rw [after0_7]
  frame_out
  rfl

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v0_0) =
        Cert.Reference11Ideal.Read.val_main_v23 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v0_1) =
        Cert.Reference11Ideal.Read.val_main_v4 (F := Ideal) (m ((c : Thread nD τ).loc main_arg1)) (m ((c : Thread nD τ).loc main_arg2))
      ∧ r.2.mem ((c : Thread nD τ).loc main_v0_2) =
        Cert.Reference11Ideal.Read.val_main_v10 (F := Ideal) (m ((c : Thread nD τ).loc main_arg1)) (m ((c : Thread nD τ).loc main_arg3))
      ∧ r.2.mem ((c : Thread nD τ).loc main_v0_3) =
        m ((c : Thread nD τ).loc main_arg1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, h⟩ := h c
    exact ⟨h0.trans (final4 m c), h1.trans (final5 m c), h2.trans (final6 m c), h3.trans (final7 m c), h⟩) (Cert.Kernel11Ideal.Value.run_blocks m ρ)

/-- The reference's frame: its run leaves its arguments, and it has no semaphore. -/
theorem frame_reference : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

/-- The kernel ends with the reference's results, its arguments kept. -/
theorem algebraic : Cert.algebraic_Kernel11Ideal_Reference11Ideal := by
  intro m g m' g' _ hargs
  refine ⟨_, _, _, _, run m g, (θ_run _ _ _).mono (fun r h c => ?_) (Cert.Reference11Ideal.Value.run m' g')⟩
  obtain ⟨h0, h1, h2, h3, h⟩ := h c
  obtain ⟨a0, a1, a2, a3⟩ := hargs c
  refine ⟨h0.trans ?_, h1.trans ?_, h2.trans ?_, h3.trans ?_, h⟩
  · rw [Cert.Reference11Ideal.Read.val_main_v23_eq, a0, a1, a2, a3]
  · rw [Cert.Reference11Ideal.Read.val_main_v4_eq, a1, a2]
  · rw [Cert.Reference11Ideal.Read.val_main_v10_eq, a1, a3]
  · rw [a1]

end Cert.AdamGain

end
-- ==== Proof.AdamMixGain.lean ====
/-
  The optimiser's step of the HGRN lower bounds and the gains of the HGRN and SSD norms: each result's array is, entry by entry, the reference's.
-/
module

public import proofs.«01_k».proof.Defs
public import proofs.«01_k».proof.Proof.Gen.Kernel12.Frame
public import proofs.«01_k».proof.Proof.Gen.Reference12Ideal.Run
public import proofs.«01_k».proof.Proof.Gen.Kernel12Ideal.Value
public import proofs.«01_k».proof.Proof.Gen.Reference12Ideal.Read
public import Idealize.ShloMosaic.Lib.Pipeline.ValueKit

@[expose] public section

set_option maxRecDepth 16384

noncomputable section

namespace Cert.AdamMixGain

open Cert.Kernel12Ideal Cert.Kernel12Ideal.Gen Idealize.ShloMosaic Idealize.ShloMosaic.Tactic Idealize.ShloMosaic.TcCoe Idealize.SL.Sem

variable (m : (ℓ : Loc nD τ sig) → Buf (Elt Ideal) ℓ)

/-- The array of the step after the run. -/
theorem final4 (c : Dev nD) : (dats m 0 c).arrAt 4 cfg0.N =
    Cert.Reference12Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3]
  rfl

/-- The array of the first moment after the run. -/
theorem final5 (c : Dev nD) : (dats m 0 c).arrAt 5 cfg0.N =
    Cert.Reference12Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3]
  rfl

/-- The array of the second moment after the run. -/
theorem final6 (c : Dev nD) : (dats m 0 c).arrAt 6 cfg0.N =
    Cert.Reference12Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3]
  rfl

/-- The array of the gradient, passed on after the run. -/
theorem final7 (c : Dev nD) : (dats m 0 c).arrAt 7 cfg0.N =
    m ((c : Thread nD τ).loc main_arg1) := by
  refine (dats m 0 c).arrAt_eq_of_covers 7 _ (by decide +kernel) fun t hf y => ?_
  blk_simp
  rw [after0_7]
  frame_out
  rfl

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v0_0) =
        Cert.Reference12Ideal.Read.val_main_v23 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v0_1) =
        Cert.Reference12Ideal.Read.val_main_v4 (F := Ideal) (m ((c : Thread nD τ).loc main_arg1)) (m ((c : Thread nD τ).loc main_arg2))
      ∧ r.2.mem ((c : Thread nD τ).loc main_v0_2) =
        Cert.Reference12Ideal.Read.val_main_v10 (F := Ideal) (m ((c : Thread nD τ).loc main_arg1)) (m ((c : Thread nD τ).loc main_arg3))
      ∧ r.2.mem ((c : Thread nD τ).loc main_v0_3) =
        m ((c : Thread nD τ).loc main_arg1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, h⟩ := h c
    exact ⟨h0.trans (final4 m c), h1.trans (final5 m c), h2.trans (final6 m c), h3.trans (final7 m c), h⟩) (Cert.Kernel12Ideal.Value.run_blocks m ρ)

/-- The reference's frame: its run leaves its arguments, and it has no semaphore. -/
theorem frame_reference : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

/-- The kernel ends with the reference's results, its arguments kept. -/
theorem algebraic : Cert.algebraic_Kernel12Ideal_Reference12Ideal := by
  intro m g m' g' _ hargs
  refine ⟨_, _, _, _, run m g, (θ_run _ _ _).mono (fun r h c => ?_) (Cert.Reference12Ideal.Value.run m' g')⟩
  obtain ⟨h0, h1, h2, h3, h⟩ := h c
  obtain ⟨a0, a1, a2, a3⟩ := hargs c
  refine ⟨h0.trans ?_, h1.trans ?_, h2.trans ?_, h3.trans ?_, h⟩
  · rw [Cert.Reference12Ideal.Read.val_main_v23_eq, a0, a1, a2, a3]
  · rw [Cert.Reference12Ideal.Read.val_main_v4_eq, a1, a2]
  · rw [Cert.Reference12Ideal.Read.val_main_v10_eq, a1, a3]
  · rw [a1]

end Cert.AdamMixGain

end
-- ==== Proof.AdamEvenIn.lean ====
/-
  The optimiser's step of a chip's columns of `even_w_in`: each result's array is, entry by entry, the reference's.
-/
module

public import proofs.«01_k».proof.Defs
public import proofs.«01_k».proof.Proof.Gen.Kernel13.Frame
public import proofs.«01_k».proof.Proof.Gen.Reference13Ideal.Run
public import proofs.«01_k».proof.Proof.Gen.Kernel13Ideal.Value
public import proofs.«01_k».proof.Proof.Gen.Reference13Ideal.Read
public import Idealize.ShloMosaic.Lib.Pipeline.ValueKit

@[expose] public section

set_option maxRecDepth 16384

noncomputable section

namespace Cert.AdamEvenIn

open Cert.Kernel13Ideal Cert.Kernel13Ideal.Gen Idealize.ShloMosaic Idealize.ShloMosaic.Tactic Idealize.ShloMosaic.TcCoe Idealize.SL.Sem

variable (m : (ℓ : Loc nD τ sig) → Buf (Elt Ideal) ℓ)

/-- The array of the step after the run. -/
theorem final4 (c : Dev nD) : (dats m 0 c).arrAt 4 cfg0.N =
    Cert.Reference13Ideal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, k0_pay4]
  rfl

/-- The array of the first moment after the run. -/
theorem final5 (c : Dev nD) : (dats m 0 c).arrAt 5 cfg0.N =
    Cert.Reference13Ideal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3, k0_pay4]
  rfl

/-- The array of the second moment after the run. -/
theorem final6 (c : Dev nD) : (dats m 0 c).arrAt 6 cfg0.N =
    Cert.Reference13Ideal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, k0_pay4]
  rfl

/-- The array of the gradient, passed on after the run. -/
theorem final7 (c : Dev nD) : (dats m 0 c).arrAt 7 cfg0.N =
    Cert.Reference13Ideal.Read.val_main_v27 (F := Ideal) (m ((c : Thread nD τ).loc main_arg1)) := by
  refine (dats m 0 c).arrAt_eq_of_covers 7 _ (by decide +kernel) fun t hf y => ?_
  blk_simp
  rw [after0_7]
  frame_out
  pointwise [k0_pay1, k0_pay2, k0_pay3, k0_pay4]
  rfl

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v4_0) =
        Cert.Reference13Ideal.Read.val_main_v24 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v4_1) =
        Cert.Reference13Ideal.Read.val_main_v25 (F := Ideal) (m ((c : Thread nD τ).loc main_arg1)) (m ((c : Thread nD τ).loc main_arg2))
      ∧ r.2.mem ((c : Thread nD τ).loc main_v4_2) =
        Cert.Reference13Ideal.Read.val_main_v26 (F := Ideal) (m ((c : Thread nD τ).loc main_arg1)) (m ((c : Thread nD τ).loc main_arg3))
      ∧ r.2.mem ((c : Thread nD τ).loc main_v4_3) =
        Cert.Reference13Ideal.Read.val_main_v27 (F := Ideal) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, h⟩ := h c
    exact ⟨h0.trans (final4 m c), h1.trans (final5 m c), h2.trans (final6 m c), h3.trans (final7 m c), h⟩) (Cert.Kernel13Ideal.Value.run_blocks m ρ)

/-- The reference's frame: its run leaves its arguments, and it has no semaphore. -/
theorem frame_reference : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

/-- The kernel ends with the reference's results, its arguments kept. -/
theorem algebraic : Cert.algebraic_Kernel13Ideal_Reference13Ideal := by
  intro m g m' g' _ hargs
  refine ⟨_, _, _, _, run m g, (θ_run _ _ _).mono (fun r h c => ?_) (Cert.Reference13Ideal.Value.run m' g')⟩
  obtain ⟨h0, h1, h2, h3, h⟩ := h c
  obtain ⟨a0, a1, a2, a3⟩ := hargs c
  refine ⟨h0.trans ?_, h1.trans ?_, h2.trans ?_, h3.trans ?_, h⟩
  · rw [Cert.Reference13Ideal.Read.val_main_v24_eq, a0, a1, a2, a3]
  · rw [Cert.Reference13Ideal.Read.val_main_v25_eq, a1, a2]
  · rw [Cert.Reference13Ideal.Read.val_main_v26_eq, a1, a3]
  · rw [Cert.Reference13Ideal.Read.val_main_v27_eq, a1]

end Cert.AdamEvenIn

end
-- ==== Proof.AdamSsdConv.lean ====
/-
  The optimiser's step of a chip's channels of `ssd_conv_w`: each result's array is, entry by entry, the reference's.
-/
module

public import proofs.«01_k».proof.Defs
public import proofs.«01_k».proof.Proof.Gen.Kernel14.Frame
public import proofs.«01_k».proof.Proof.Gen.Reference14Ideal.Run
public import proofs.«01_k».proof.Proof.Gen.Kernel14Ideal.Value
public import proofs.«01_k».proof.Proof.Gen.Reference14Ideal.Read
public import Idealize.ShloMosaic.Lib.Pipeline.ValueKit

@[expose] public section

set_option maxRecDepth 16384

noncomputable section

namespace Cert.AdamSsdConv

open Cert.Kernel14Ideal Cert.Kernel14Ideal.Gen Idealize.ShloMosaic Idealize.ShloMosaic.Tactic Idealize.ShloMosaic.TcCoe Idealize.SL.Sem

variable (m : (ℓ : Loc nD τ sig) → Buf (Elt Ideal) ℓ)

/-- The array of the step after the run. -/
theorem final4 (c : Dev nD) : (dats m 0 c).arrAt 4 cfg0.N =
    Cert.Reference14Ideal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, k0_pay4]
  rfl

/-- The array of the first moment after the run. -/
theorem final5 (c : Dev nD) : (dats m 0 c).arrAt 5 cfg0.N =
    Cert.Reference14Ideal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3, k0_pay4]
  rfl

/-- The array of the second moment after the run. -/
theorem final6 (c : Dev nD) : (dats m 0 c).arrAt 6 cfg0.N =
    Cert.Reference14Ideal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, k0_pay4]
  rfl

/-- The array of the gradient, passed on after the run. -/
theorem final7 (c : Dev nD) : (dats m 0 c).arrAt 7 cfg0.N =
    Cert.Reference14Ideal.Read.val_main_v27 (F := Ideal) (m ((c : Thread nD τ).loc main_arg1)) := by
  refine (dats m 0 c).arrAt_eq_of_covers 7 _ (by decide +kernel) fun t hf y => ?_
  blk_simp
  rw [after0_7]
  frame_out
  pointwise [k0_pay1, k0_pay2, k0_pay3, k0_pay4]
  rfl

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v4_0) =
        Cert.Reference14Ideal.Read.val_main_v24 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v4_1) =
        Cert.Reference14Ideal.Read.val_main_v25 (F := Ideal) (m ((c : Thread nD τ).loc main_arg1)) (m ((c : Thread nD τ).loc main_arg2))
      ∧ r.2.mem ((c : Thread nD τ).loc main_v4_2) =
        Cert.Reference14Ideal.Read.val_main_v26 (F := Ideal) (m ((c : Thread nD τ).loc main_arg1)) (m ((c : Thread nD τ).loc main_arg3))
      ∧ r.2.mem ((c : Thread nD τ).loc main_v4_3) =
        Cert.Reference14Ideal.Read.val_main_v27 (F := Ideal) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, h⟩ := h c
    exact ⟨h0.trans (final4 m c), h1.trans (final5 m c), h2.trans (final6 m c), h3.trans (final7 m c), h⟩) (Cert.Kernel14Ideal.Value.run_blocks m ρ)

/-- The reference's frame: its run leaves its arguments, and it has no semaphore. -/
theorem frame_reference : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

/-- The kernel ends with the reference's results, its arguments kept. -/
theorem algebraic : Cert.algebraic_Kernel14Ideal_Reference14Ideal := by
  intro m g m' g' _ hargs
  refine ⟨_, _, _, _, run m g, (θ_run _ _ _).mono (fun r h c => ?_) (Cert.Reference14Ideal.Value.run m' g')⟩
  obtain ⟨h0, h1, h2, h3, h⟩ := h c
  obtain ⟨a0, a1, a2, a3⟩ := hargs c
  refine ⟨h0.trans ?_, h1.trans ?_, h2.trans ?_, h3.trans ?_, h⟩
  · rw [Cert.Reference14Ideal.Read.val_main_v24_eq, a0, a1, a2, a3]
  · rw [Cert.Reference14Ideal.Read.val_main_v25_eq, a1, a2]
  · rw [Cert.Reference14Ideal.Read.val_main_v26_eq, a1, a3]
  · rw [Cert.Reference14Ideal.Read.val_main_v27_eq, a1]

end Cert.AdamSsdConv

end
-- ==== Proof.AdamSsdConvBias.lean ====
/-
  The optimiser's step of `ssd_conv_b`: each result's array is, entry by entry, the reference's.
-/
module

public import proofs.«01_k».proof.Defs
public import proofs.«01_k».proof.Proof.Gen.Kernel15.Frame
public import proofs.«01_k».proof.Proof.Gen.Reference15Ideal.Run
public import proofs.«01_k».proof.Proof.Gen.Kernel15Ideal.Value
public import proofs.«01_k».proof.Proof.Gen.Reference15Ideal.Read
public import Idealize.ShloMosaic.Lib.Pipeline.ValueKit

@[expose] public section

set_option maxRecDepth 16384

noncomputable section

namespace Cert.AdamSsdConvBias

open Cert.Kernel15Ideal Cert.Kernel15Ideal.Gen Idealize.ShloMosaic Idealize.ShloMosaic.Tactic Idealize.ShloMosaic.TcCoe Idealize.SL.Sem

variable (m : (ℓ : Loc nD τ sig) → Buf (Elt Ideal) ℓ)

/-- The array of the step after the run. -/
theorem final4 (c : Dev nD) : (dats m 0 c).arrAt 4 cfg0.N =
    Cert.Reference15Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3]
  rfl

/-- The array of the first moment after the run. -/
theorem final5 (c : Dev nD) : (dats m 0 c).arrAt 5 cfg0.N =
    Cert.Reference15Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3]
  rfl

/-- The array of the second moment after the run. -/
theorem final6 (c : Dev nD) : (dats m 0 c).arrAt 6 cfg0.N =
    Cert.Reference15Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3]
  rfl

/-- The array of the gradient, passed on after the run. -/
theorem final7 (c : Dev nD) : (dats m 0 c).arrAt 7 cfg0.N =
    m ((c : Thread nD τ).loc main_arg1) := by
  refine (dats m 0 c).arrAt_eq_of_covers 7 _ (by decide +kernel) fun t hf y => ?_
  blk_simp
  rw [after0_7]
  frame_out
  rfl

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v0_0) =
        Cert.Reference15Ideal.Read.val_main_v23 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v0_1) =
        Cert.Reference15Ideal.Read.val_main_v4 (F := Ideal) (m ((c : Thread nD τ).loc main_arg1)) (m ((c : Thread nD τ).loc main_arg2))
      ∧ r.2.mem ((c : Thread nD τ).loc main_v0_2) =
        Cert.Reference15Ideal.Read.val_main_v10 (F := Ideal) (m ((c : Thread nD τ).loc main_arg1)) (m ((c : Thread nD τ).loc main_arg3))
      ∧ r.2.mem ((c : Thread nD τ).loc main_v0_3) =
        m ((c : Thread nD τ).loc main_arg1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, h⟩ := h c
    exact ⟨h0.trans (final4 m c), h1.trans (final5 m c), h2.trans (final6 m c), h3.trans (final7 m c), h⟩) (Cert.Kernel15Ideal.Value.run_blocks m ρ)

/-- The reference's frame: its run leaves its arguments, and it has no semaphore. -/
theorem frame_reference : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

/-- The kernel ends with the reference's results, its arguments kept. -/
theorem algebraic : Cert.algebraic_Kernel15Ideal_Reference15Ideal := by
  intro m g m' g' _ hargs
  refine ⟨_, _, _, _, run m g, (θ_run _ _ _).mono (fun r h c => ?_) (Cert.Reference15Ideal.Value.run m' g')⟩
  obtain ⟨h0, h1, h2, h3, h⟩ := h c
  obtain ⟨a0, a1, a2, a3⟩ := hargs c
  refine ⟨h0.trans ?_, h1.trans ?_, h2.trans ?_, h3.trans ?_, h⟩
  · rw [Cert.Reference15Ideal.Read.val_main_v23_eq, a0, a1, a2, a3]
  · rw [Cert.Reference15Ideal.Read.val_main_v4_eq, a1, a2]
  · rw [Cert.Reference15Ideal.Read.val_main_v10_eq, a1, a3]
  · rw [a1]

end Cert.AdamSsdConvBias

end
-- ==== Proof.AdamSsdHead.lean ====
/-
  The optimiser's step of `ssd_dt_bias`, `ssd_a_log` and `ssd_d`: each result's array is, entry by entry, the reference's.
-/
module

public import proofs.«01_k».proof.Defs
public import proofs.«01_k».proof.Proof.Gen.Kernel16.Frame
public import proofs.«01_k».proof.Proof.Gen.Reference16Ideal.Run
public import proofs.«01_k».proof.Proof.Gen.Kernel16Ideal.Value
public import proofs.«01_k».proof.Proof.Gen.Reference16Ideal.Read
public import Idealize.ShloMosaic.Lib.Pipeline.ValueKit

@[expose] public section

set_option maxRecDepth 16384

noncomputable section

namespace Cert.AdamSsdHead

open Cert.Kernel16Ideal Cert.Kernel16Ideal.Gen Idealize.ShloMosaic Idealize.ShloMosaic.Tactic Idealize.ShloMosaic.TcCoe Idealize.SL.Sem

variable (m : (ℓ : Loc nD τ sig) → Buf (Elt Ideal) ℓ)

/-- The array of the step after the run. -/
theorem final4 (c : Dev nD) : (dats m 0 c).arrAt 4 cfg0.N =
    Cert.Reference16Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3]
  rfl

/-- The array of the first moment after the run. -/
theorem final5 (c : Dev nD) : (dats m 0 c).arrAt 5 cfg0.N =
    Cert.Reference16Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3]
  rfl

/-- The array of the second moment after the run. -/
theorem final6 (c : Dev nD) : (dats m 0 c).arrAt 6 cfg0.N =
    Cert.Reference16Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3]
  rfl

/-- The array of the gradient, passed on after the run. -/
theorem final7 (c : Dev nD) : (dats m 0 c).arrAt 7 cfg0.N =
    m ((c : Thread nD τ).loc main_arg1) := by
  refine (dats m 0 c).arrAt_eq_of_covers 7 _ (by decide +kernel) fun t hf y => ?_
  blk_simp
  rw [after0_7]
  frame_out
  rfl

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v0_0) =
        Cert.Reference16Ideal.Read.val_main_v23 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v0_1) =
        Cert.Reference16Ideal.Read.val_main_v4 (F := Ideal) (m ((c : Thread nD τ).loc main_arg1)) (m ((c : Thread nD τ).loc main_arg2))
      ∧ r.2.mem ((c : Thread nD τ).loc main_v0_2) =
        Cert.Reference16Ideal.Read.val_main_v10 (F := Ideal) (m ((c : Thread nD τ).loc main_arg1)) (m ((c : Thread nD τ).loc main_arg3))
      ∧ r.2.mem ((c : Thread nD τ).loc main_v0_3) =
        m ((c : Thread nD τ).loc main_arg1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, h⟩ := h c
    exact ⟨h0.trans (final4 m c), h1.trans (final5 m c), h2.trans (final6 m c), h3.trans (final7 m c), h⟩) (Cert.Kernel16Ideal.Value.run_blocks m ρ)

/-- The reference's frame: its run leaves its arguments, and it has no semaphore. -/
theorem frame_reference : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

/-- The kernel ends with the reference's results, its arguments kept. -/
theorem algebraic : Cert.algebraic_Kernel16Ideal_Reference16Ideal := by
  intro m g m' g' _ hargs
  refine ⟨_, _, _, _, run m g, (θ_run _ _ _).mono (fun r h c => ?_) (Cert.Reference16Ideal.Value.run m' g')⟩
  obtain ⟨h0, h1, h2, h3, h⟩ := h c
  obtain ⟨a0, a1, a2, a3⟩ := hargs c
  refine ⟨h0.trans ?_, h1.trans ?_, h2.trans ?_, h3.trans ?_, h⟩
  · rw [Cert.Reference16Ideal.Read.val_main_v23_eq, a0, a1, a2, a3]
  · rw [Cert.Reference16Ideal.Read.val_main_v4_eq, a1, a2]
  · rw [Cert.Reference16Ideal.Read.val_main_v10_eq, a1, a3]
  · rw [a1]

end Cert.AdamSsdHead

end
-- ==== Proof.AdamEvenOut.lean ====
/-
  The optimiser's step of a chip's rows of `even_w_out`: each result's array is, entry by entry, the reference's.
-/
module

public import proofs.«01_k».proof.Defs
public import proofs.«01_k».proof.Proof.Gen.Kernel17.Frame
public import proofs.«01_k».proof.Proof.Gen.Reference17Ideal.Run
public import proofs.«01_k».proof.Proof.Gen.Kernel17Ideal.Value
public import proofs.«01_k».proof.Proof.Gen.Reference17Ideal.Read
public import Idealize.ShloMosaic.Lib.Pipeline.ValueKit

@[expose] public section

set_option maxRecDepth 16384

noncomputable section

namespace Cert.AdamEvenOut

open Cert.Kernel17Ideal Cert.Kernel17Ideal.Gen Idealize.ShloMosaic Idealize.ShloMosaic.Tactic Idealize.ShloMosaic.TcCoe Idealize.SL.Sem

variable (m : (ℓ : Loc nD τ sig) → Buf (Elt Ideal) ℓ)

/-- The array of the step after the run. -/
theorem final4 (c : Dev nD) : (dats m 0 c).arrAt 4 cfg0.N =
    Cert.Reference17Ideal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, k0_pay4]
  rfl

/-- The array of the first moment after the run. -/
theorem final5 (c : Dev nD) : (dats m 0 c).arrAt 5 cfg0.N =
    Cert.Reference17Ideal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3, k0_pay4]
  rfl

/-- The array of the second moment after the run. -/
theorem final6 (c : Dev nD) : (dats m 0 c).arrAt 6 cfg0.N =
    Cert.Reference17Ideal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, k0_pay4]
  rfl

/-- The array of the gradient, passed on after the run. -/
theorem final7 (c : Dev nD) : (dats m 0 c).arrAt 7 cfg0.N =
    Cert.Reference17Ideal.Read.val_main_v27 (F := Ideal) (m ((c : Thread nD τ).loc main_arg1)) := by
  refine (dats m 0 c).arrAt_eq_of_covers 7 _ (by decide +kernel) fun t hf y => ?_
  blk_simp
  rw [after0_7]
  frame_out
  pointwise [k0_pay1, k0_pay2, k0_pay3, k0_pay4]
  rfl

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v4_0) =
        Cert.Reference17Ideal.Read.val_main_v24 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v4_1) =
        Cert.Reference17Ideal.Read.val_main_v25 (F := Ideal) (m ((c : Thread nD τ).loc main_arg1)) (m ((c : Thread nD τ).loc main_arg2))
      ∧ r.2.mem ((c : Thread nD τ).loc main_v4_2) =
        Cert.Reference17Ideal.Read.val_main_v26 (F := Ideal) (m ((c : Thread nD τ).loc main_arg1)) (m ((c : Thread nD τ).loc main_arg3))
      ∧ r.2.mem ((c : Thread nD τ).loc main_v4_3) =
        Cert.Reference17Ideal.Read.val_main_v27 (F := Ideal) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, h⟩ := h c
    exact ⟨h0.trans (final4 m c), h1.trans (final5 m c), h2.trans (final6 m c), h3.trans (final7 m c), h⟩) (Cert.Kernel17Ideal.Value.run_blocks m ρ)

/-- The reference's frame: its run leaves its arguments, and it has no semaphore. -/
theorem frame_reference : Cert.quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)

/-- The kernel ends with the reference's results, its arguments kept. -/
theorem algebraic : Cert.algebraic_Kernel17Ideal_Reference17Ideal := by
  intro m g m' g' _ hargs
  refine ⟨_, _, _, _, run m g, (θ_run _ _ _).mono (fun r h c => ?_) (Cert.Reference17Ideal.Value.run m' g')⟩
  obtain ⟨h0, h1, h2, h3, h⟩ := h c
  obtain ⟨a0, a1, a2, a3⟩ := hargs c
  refine ⟨h0.trans ?_, h1.trans ?_, h2.trans ?_, h3.trans ?_, h⟩
  · rw [Cert.Reference17Ideal.Read.val_main_v24_eq, a0, a1, a2, a3]
  · rw [Cert.Reference17Ideal.Read.val_main_v25_eq, a1, a2]
  · rw [Cert.Reference17Ideal.Read.val_main_v26_eq, a1, a3]
  · rw [Cert.Reference17Ideal.Read.val_main_v27_eq, a1]

end Cert.AdamEvenOut

end
-- ==== Proof.AdamConfIn.lean ====
/-
  The optimiser's step of a chip's columns of `conf_w1`: each result's array is, entry by entry, the reference's.
-/
module

public import proofs.«01_k».proof.Defs
public import proofs.«01_k».proof.Proof.Gen.Kernel18.Frame
public import proofs.«01_k».proof.Proof.Gen.Reference18Ideal.Run
public import proofs.«01_k».proof.Proof.Gen.Kernel18Ideal.Value
public import proofs.«01_k».proof.Proof.Gen.Reference18Ideal.Read
public import Idealize.ShloMosaic.Lib.Pipeline.ValueKit

@[expose] public section

set_option maxRecDepth 16384

noncomputable section

namespace Cert.AdamConfIn

open Cert.Kernel18Ideal Cert.Kernel18Ideal.Gen Idealize.ShloMosaic Idealize.ShloMosaic.Tactic Idealize.ShloMosaic.TcCoe Idealize.SL.Sem

variable (m : (ℓ : Loc nD τ sig) → Buf (Elt Ideal) ℓ)

/-- The array of the step after the run. -/
theorem final4 (c : Dev nD) : (dats m 0 c).arrAt 4 cfg0.N =
    Cert.Reference18Ideal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, k0_pay4]
  rfl

/-- The array of the first moment after the run. -/
theorem final5 (c : Dev nD) : (dats m 0 c).arrAt 5 cfg0.N =
    Cert.Reference18Ideal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3, k0_pay4]
  rfl

/-- The array of the second moment after the run. -/
theorem final6 (c : Dev nD) : (dats m 0 c).arrAt 6 cfg0.N =
    Cert.Reference18Ideal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, k0_pay4]
  rfl

/-- The array of the gradient, passed on after the run. -/
theorem final7 (c : Dev nD) : (dats m 0 c).arrAt 7 cfg0.N =
    Cert.Reference18Ideal.Read.val_main_v27 (F := Ideal) (m ((c : Thread nD τ).loc main_arg1)) := by
  refine (dats m 0 c).arrAt_eq_of_covers 7 _ (by decide +kernel) fun t hf y => ?_
  blk_simp
  rw [after0_7]
  frame_out
  pointwise [k0_pay1, k0_pay2, k0_pay3, k0_pay4]
  rfl

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v4_0) =
        Cert.Reference18Ideal.Read.val_main_v24 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v4_1) =
        Cert.Reference18Ideal.Read.val_main_v25 (F := Ideal) (m ((c : Thread nD τ).loc main_arg1)) (m ((c : Thread nD τ).loc main_arg2))
      ∧ r.2.mem ((c : Thread nD τ).loc main_v4_2) =
        Cert.Reference18Ideal.Read.val_main_v26 (F := Ideal) (m ((c : Thread nD τ).loc main_arg1)) (m ((c : Thread nD τ).loc main_arg3))
      ∧ r.2.mem ((c : Thread nD τ).loc main_v4_3) =
        Cert.Reference18Ideal.Read.val_main_v27 (F := Ideal) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, h⟩ := h c
    exact ⟨h0.trans (final4 m c), h1.trans (final5 m c), h2.trans (final6 m c), h3.trans (final7 m c), h⟩) (Cert.Kernel18Ideal.Value.run_blocks m ρ)

/-- The reference's frame: its run leaves its arguments, and it has no semaphore. -/
theorem frame_reference : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

/-- The kernel ends with the reference's results, its arguments kept. -/
theorem algebraic : Cert.algebraic_Kernel18Ideal_Reference18Ideal := by
  intro m g m' g' _ hargs
  refine ⟨_, _, _, _, run m g, (θ_run _ _ _).mono (fun r h c => ?_) (Cert.Reference18Ideal.Value.run m' g')⟩
  obtain ⟨h0, h1, h2, h3, h⟩ := h c
  obtain ⟨a0, a1, a2, a3⟩ := hargs c
  refine ⟨h0.trans ?_, h1.trans ?_, h2.trans ?_, h3.trans ?_, h⟩
  · rw [Cert.Reference18Ideal.Read.val_main_v24_eq, a0, a1, a2, a3]
  · rw [Cert.Reference18Ideal.Read.val_main_v25_eq, a1, a2]
  · rw [Cert.Reference18Ideal.Read.val_main_v26_eq, a1, a3]
  · rw [Cert.Reference18Ideal.Read.val_main_v27_eq, a1]

end Cert.AdamConfIn

end
-- ==== Proof.AdamConfInBias.lean ====
/-
  The optimiser's step of a chip's part of `conf_b1`: each result's array is, entry by entry, the reference's.
-/
module

public import proofs.«01_k».proof.Defs
public import proofs.«01_k».proof.Proof.Gen.Kernel19.Frame
public import proofs.«01_k».proof.Proof.Gen.Reference19Ideal.Run
public import proofs.«01_k».proof.Proof.Gen.Kernel19Ideal.Value
public import proofs.«01_k».proof.Proof.Gen.Reference19Ideal.Read
public import Idealize.ShloMosaic.Lib.Pipeline.ValueKit

@[expose] public section

set_option maxRecDepth 16384

noncomputable section

namespace Cert.AdamConfInBias

open Cert.Kernel19Ideal Cert.Kernel19Ideal.Gen Idealize.ShloMosaic Idealize.ShloMosaic.Tactic Idealize.ShloMosaic.TcCoe Idealize.SL.Sem

variable (m : (ℓ : Loc nD τ sig) → Buf (Elt Ideal) ℓ)

/-- The array of the step after the run. -/
theorem final4 (c : Dev nD) : (dats m 0 c).arrAt 4 cfg0.N =
    Cert.Reference19Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3]
  rfl

/-- The array of the first moment after the run. -/
theorem final5 (c : Dev nD) : (dats m 0 c).arrAt 5 cfg0.N =
    Cert.Reference19Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3]
  rfl

/-- The array of the second moment after the run. -/
theorem final6 (c : Dev nD) : (dats m 0 c).arrAt 6 cfg0.N =
    Cert.Reference19Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3]
  rfl

/-- The array of the gradient, passed on after the run. -/
theorem final7 (c : Dev nD) : (dats m 0 c).arrAt 7 cfg0.N =
    m ((c : Thread nD τ).loc main_arg1) := by
  refine (dats m 0 c).arrAt_eq_of_covers 7 _ (by decide +kernel) fun t hf y => ?_
  blk_simp
  rw [after0_7]
  frame_out
  rfl

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v0_0) =
        Cert.Reference19Ideal.Read.val_main_v23 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v0_1) =
        Cert.Reference19Ideal.Read.val_main_v4 (F := Ideal) (m ((c : Thread nD τ).loc main_arg1)) (m ((c : Thread nD τ).loc main_arg2))
      ∧ r.2.mem ((c : Thread nD τ).loc main_v0_2) =
        Cert.Reference19Ideal.Read.val_main_v10 (F := Ideal) (m ((c : Thread nD τ).loc main_arg1)) (m ((c : Thread nD τ).loc main_arg3))
      ∧ r.2.mem ((c : Thread nD τ).loc main_v0_3) =
        m ((c : Thread nD τ).loc main_arg1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, h⟩ := h c
    exact ⟨h0.trans (final4 m c), h1.trans (final5 m c), h2.trans (final6 m c), h3.trans (final7 m c), h⟩) (Cert.Kernel19Ideal.Value.run_blocks m ρ)

/-- The reference's frame: its run leaves its arguments, and it has no semaphore. -/
theorem frame_reference : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

/-- The kernel ends with the reference's results, its arguments kept. -/
theorem algebraic : Cert.algebraic_Kernel19Ideal_Reference19Ideal := by
  intro m g m' g' _ hargs
  refine ⟨_, _, _, _, run m g, (θ_run _ _ _).mono (fun r h c => ?_) (Cert.Reference19Ideal.Value.run m' g')⟩
  obtain ⟨h0, h1, h2, h3, h⟩ := h c
  obtain ⟨a0, a1, a2, a3⟩ := hargs c
  refine ⟨h0.trans ?_, h1.trans ?_, h2.trans ?_, h3.trans ?_, h⟩
  · rw [Cert.Reference19Ideal.Read.val_main_v23_eq, a0, a1, a2, a3]
  · rw [Cert.Reference19Ideal.Read.val_main_v4_eq, a1, a2]
  · rw [Cert.Reference19Ideal.Read.val_main_v10_eq, a1, a3]
  · rw [a1]

end Cert.AdamConfInBias

end
-- ==== Proof.AdamConfConv.lean ====
/-
  The optimiser's step of a chip's channels of `conf_dw_w`: each result's array is, entry by entry, the reference's.
-/
module

public import proofs.«01_k».proof.Defs
public import proofs.«01_k».proof.Proof.Gen.Kernel20.Frame
public import proofs.«01_k».proof.Proof.Gen.Reference20Ideal.Run
public import proofs.«01_k».proof.Proof.Gen.Kernel20Ideal.Value
public import proofs.«01_k».proof.Proof.Gen.Reference20Ideal.Read
public import Idealize.ShloMosaic.Lib.Pipeline.ValueKit

@[expose] public section

set_option maxRecDepth 16384

noncomputable section

namespace Cert.AdamConfConv

open Cert.Kernel20Ideal Cert.Kernel20Ideal.Gen Idealize.ShloMosaic Idealize.ShloMosaic.Tactic Idealize.ShloMosaic.TcCoe Idealize.SL.Sem

variable (m : (ℓ : Loc nD τ sig) → Buf (Elt Ideal) ℓ)

/-- The array of the step after the run. -/
theorem final4 (c : Dev nD) : (dats m 0 c).arrAt 4 cfg0.N =
    Cert.Reference20Ideal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, k0_pay4]
  rfl

/-- The array of the first moment after the run. -/
theorem final5 (c : Dev nD) : (dats m 0 c).arrAt 5 cfg0.N =
    Cert.Reference20Ideal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3, k0_pay4]
  rfl

/-- The array of the second moment after the run. -/
theorem final6 (c : Dev nD) : (dats m 0 c).arrAt 6 cfg0.N =
    Cert.Reference20Ideal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, k0_pay4]
  rfl

/-- The array of the gradient, passed on after the run. -/
theorem final7 (c : Dev nD) : (dats m 0 c).arrAt 7 cfg0.N =
    Cert.Reference20Ideal.Read.val_main_v27 (F := Ideal) (m ((c : Thread nD τ).loc main_arg1)) := by
  refine (dats m 0 c).arrAt_eq_of_covers 7 _ (by decide +kernel) fun t hf y => ?_
  blk_simp
  rw [after0_7]
  frame_out
  pointwise [k0_pay1, k0_pay2, k0_pay3, k0_pay4]
  rfl

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v4_0) =
        Cert.Reference20Ideal.Read.val_main_v24 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v4_1) =
        Cert.Reference20Ideal.Read.val_main_v25 (F := Ideal) (m ((c : Thread nD τ).loc main_arg1)) (m ((c : Thread nD τ).loc main_arg2))
      ∧ r.2.mem ((c : Thread nD τ).loc main_v4_2) =
        Cert.Reference20Ideal.Read.val_main_v26 (F := Ideal) (m ((c : Thread nD τ).loc main_arg1)) (m ((c : Thread nD τ).loc main_arg3))
      ∧ r.2.mem ((c : Thread nD τ).loc main_v4_3) =
        Cert.Reference20Ideal.Read.val_main_v27 (F := Ideal) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, h⟩ := h c
    exact ⟨h0.trans (final4 m c), h1.trans (final5 m c), h2.trans (final6 m c), h3.trans (final7 m c), h⟩) (Cert.Kernel20Ideal.Value.run_blocks m ρ)

/-- The reference's frame: its run leaves its arguments, and it has no semaphore. -/
theorem frame_reference : Cert.quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

/-- The kernel ends with the reference's results, its arguments kept. -/
theorem algebraic : Cert.algebraic_Kernel20Ideal_Reference20Ideal := by
  intro m g m' g' _ hargs
  refine ⟨_, _, _, _, run m g, (θ_run _ _ _).mono (fun r h c => ?_) (Cert.Reference20Ideal.Value.run m' g')⟩
  obtain ⟨h0, h1, h2, h3, h⟩ := h c
  obtain ⟨a0, a1, a2, a3⟩ := hargs c
  refine ⟨h0.trans ?_, h1.trans ?_, h2.trans ?_, h3.trans ?_, h⟩
  · rw [Cert.Reference20Ideal.Read.val_main_v24_eq, a0, a1, a2, a3]
  · rw [Cert.Reference20Ideal.Read.val_main_v25_eq, a1, a2]
  · rw [Cert.Reference20Ideal.Read.val_main_v26_eq, a1, a3]
  · rw [Cert.Reference20Ideal.Read.val_main_v27_eq, a1]

end Cert.AdamConfConv

end
-- ==== Proof.AdamConfRow.lean ====
/-
  The optimiser's step of a chip's part of `conf_dw_b`, `conf_ln_g`, `conf_ln_b` and `conf_b2`: each result's array is, entry by entry, the reference's.
-/
module

public import proofs.«01_k».proof.Defs
public import proofs.«01_k».proof.Proof.Gen.Kernel21.Frame
public import proofs.«01_k».proof.Proof.Gen.Reference21Ideal.Run
public import proofs.«01_k».proof.Proof.Gen.Kernel21Ideal.Value
public import proofs.«01_k».proof.Proof.Gen.Reference21Ideal.Read
public import Idealize.ShloMosaic.Lib.Pipeline.ValueKit

@[expose] public section

set_option maxRecDepth 16384

noncomputable section

namespace Cert.AdamConfRow

open Cert.Kernel21Ideal Cert.Kernel21Ideal.Gen Idealize.ShloMosaic Idealize.ShloMosaic.Tactic Idealize.ShloMosaic.TcCoe Idealize.SL.Sem

variable (m : (ℓ : Loc nD τ sig) → Buf (Elt Ideal) ℓ)

/-- The array of the step after the run. -/
theorem final4 (c : Dev nD) : (dats m 0 c).arrAt 4 cfg0.N =
    Cert.Reference21Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3]
  rfl

/-- The array of the first moment after the run. -/
theorem final5 (c : Dev nD) : (dats m 0 c).arrAt 5 cfg0.N =
    Cert.Reference21Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3]
  rfl

/-- The array of the second moment after the run. -/
theorem final6 (c : Dev nD) : (dats m 0 c).arrAt 6 cfg0.N =
    Cert.Reference21Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3]
  rfl

/-- The array of the gradient, passed on after the run. -/
theorem final7 (c : Dev nD) : (dats m 0 c).arrAt 7 cfg0.N =
    m ((c : Thread nD τ).loc main_arg1) := by
  refine (dats m 0 c).arrAt_eq_of_covers 7 _ (by decide +kernel) fun t hf y => ?_
  blk_simp
  rw [after0_7]
  frame_out
  rfl

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v0_0) =
        Cert.Reference21Ideal.Read.val_main_v23 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v0_1) =
        Cert.Reference21Ideal.Read.val_main_v4 (F := Ideal) (m ((c : Thread nD τ).loc main_arg1)) (m ((c : Thread nD τ).loc main_arg2))
      ∧ r.2.mem ((c : Thread nD τ).loc main_v0_2) =
        Cert.Reference21Ideal.Read.val_main_v10 (F := Ideal) (m ((c : Thread nD τ).loc main_arg1)) (m ((c : Thread nD τ).loc main_arg3))
      ∧ r.2.mem ((c : Thread nD τ).loc main_v0_3) =
        m ((c : Thread nD τ).loc main_arg1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, h⟩ := h c
    exact ⟨h0.trans (final4 m c), h1.trans (final5 m c), h2.trans (final6 m c), h3.trans (final7 m c), h⟩) (Cert.Kernel21Ideal.Value.run_blocks m ρ)

/-- The reference's frame: its run leaves its arguments, and it has no semaphore. -/
theorem frame_reference : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

/-- The kernel ends with the reference's results, its arguments kept. -/
theorem algebraic : Cert.algebraic_Kernel21Ideal_Reference21Ideal := by
  intro m g m' g' _ hargs
  refine ⟨_, _, _, _, run m g, (θ_run _ _ _).mono (fun r h c => ?_) (Cert.Reference21Ideal.Value.run m' g')⟩
  obtain ⟨h0, h1, h2, h3, h⟩ := h c
  obtain ⟨a0, a1, a2, a3⟩ := hargs c
  refine ⟨h0.trans ?_, h1.trans ?_, h2.trans ?_, h3.trans ?_, h⟩
  · rw [Cert.Reference21Ideal.Read.val_main_v23_eq, a0, a1, a2, a3]
  · rw [Cert.Reference21Ideal.Read.val_main_v4_eq, a1, a2]
  · rw [Cert.Reference21Ideal.Read.val_main_v10_eq, a1, a3]
  · rw [a1]

end Cert.AdamConfRow

end
-- ==== Proof.AdamConfOut.lean ====
/-
  The optimiser's step of a chip's rows of `conf_w2`: each result's array is, entry by entry, the reference's.
-/
module

public import proofs.«01_k».proof.Defs
public import proofs.«01_k».proof.Proof.Gen.Kernel22.Frame
public import proofs.«01_k».proof.Proof.Gen.Reference22Ideal.Run
public import proofs.«01_k».proof.Proof.Gen.Kernel22Ideal.Value
public import proofs.«01_k».proof.Proof.Gen.Reference22Ideal.Read
public import Idealize.ShloMosaic.Lib.Pipeline.ValueKit

@[expose] public section

set_option maxRecDepth 16384

noncomputable section

namespace Cert.AdamConfOut

open Cert.Kernel22Ideal Cert.Kernel22Ideal.Gen Idealize.ShloMosaic Idealize.ShloMosaic.Tactic Idealize.ShloMosaic.TcCoe Idealize.SL.Sem

variable (m : (ℓ : Loc nD τ sig) → Buf (Elt Ideal) ℓ)

/-- The array of the step after the run. -/
theorem final4 (c : Dev nD) : (dats m 0 c).arrAt 4 cfg0.N =
    Cert.Reference22Ideal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, k0_pay4]
  rfl

/-- The array of the first moment after the run. -/
theorem final5 (c : Dev nD) : (dats m 0 c).arrAt 5 cfg0.N =
    Cert.Reference22Ideal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3, k0_pay4]
  rfl

/-- The array of the second moment after the run. -/
theorem final6 (c : Dev nD) : (dats m 0 c).arrAt 6 cfg0.N =
    Cert.Reference22Ideal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, k0_pay4]
  rfl

/-- The array of the gradient, passed on after the run. -/
theorem final7 (c : Dev nD) : (dats m 0 c).arrAt 7 cfg0.N =
    Cert.Reference22Ideal.Read.val_main_v27 (F := Ideal) (m ((c : Thread nD τ).loc main_arg1)) := by
  refine (dats m 0 c).arrAt_eq_of_covers 7 _ (by decide +kernel) fun t hf y => ?_
  blk_simp
  rw [after0_7]
  frame_out
  pointwise [k0_pay1, k0_pay2, k0_pay3, k0_pay4]
  rfl

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v4_0) =
        Cert.Reference22Ideal.Read.val_main_v24 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v4_1) =
        Cert.Reference22Ideal.Read.val_main_v25 (F := Ideal) (m ((c : Thread nD τ).loc main_arg1)) (m ((c : Thread nD τ).loc main_arg2))
      ∧ r.2.mem ((c : Thread nD τ).loc main_v4_2) =
        Cert.Reference22Ideal.Read.val_main_v26 (F := Ideal) (m ((c : Thread nD τ).loc main_arg1)) (m ((c : Thread nD τ).loc main_arg3))
      ∧ r.2.mem ((c : Thread nD τ).loc main_v4_3) =
        Cert.Reference22Ideal.Read.val_main_v27 (F := Ideal) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, h⟩ := h c
    exact ⟨h0.trans (final4 m c), h1.trans (final5 m c), h2.trans (final6 m c), h3.trans (final7 m c), h⟩) (Cert.Kernel22Ideal.Value.run_blocks m ρ)

/-- The reference's frame: its run leaves its arguments, and it has no semaphore. -/
theorem frame_reference : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

/-- The kernel ends with the reference's results, its arguments kept. -/
theorem algebraic : Cert.algebraic_Kernel22Ideal_Reference22Ideal := by
  intro m g m' g' _ hargs
  refine ⟨_, _, _, _, run m g, (θ_run _ _ _).mono (fun r h c => ?_) (Cert.Reference22Ideal.Value.run m' g')⟩
  obtain ⟨h0, h1, h2, h3, h⟩ := h c
  obtain ⟨a0, a1, a2, a3⟩ := hargs c
  refine ⟨h0.trans ?_, h1.trans ?_, h2.trans ?_, h3.trans ?_, h⟩
  · rw [Cert.Reference22Ideal.Read.val_main_v24_eq, a0, a1, a2, a3]
  · rw [Cert.Reference22Ideal.Read.val_main_v25_eq, a1, a2]
  · rw [Cert.Reference22Ideal.Read.val_main_v26_eq, a1, a3]
  · rw [Cert.Reference22Ideal.Read.val_main_v27_eq, a1]

end Cert.AdamConfOut

end
-- ==== Proof.AdamFfnIn.lean ====
/-
  The optimiser's step of a chip's columns of `ffn_w_gate` and `ffn_w_up`: each result's array is, entry by entry, the reference's.
-/
module

public import proofs.«01_k».proof.Defs
public import proofs.«01_k».proof.Proof.Gen.Kernel23.Frame
public import proofs.«01_k».proof.Proof.Gen.Reference23Ideal.Run
public import proofs.«01_k».proof.Proof.Gen.Kernel23Ideal.Value
public import proofs.«01_k».proof.Proof.Gen.Reference23Ideal.Read
public import Idealize.ShloMosaic.Lib.Pipeline.ValueKit

@[expose] public section

set_option maxRecDepth 16384

noncomputable section

namespace Cert.AdamFfnIn

open Cert.Kernel23Ideal Cert.Kernel23Ideal.Gen Idealize.ShloMosaic Idealize.ShloMosaic.Tactic Idealize.ShloMosaic.TcCoe Idealize.SL.Sem

variable (m : (ℓ : Loc nD τ sig) → Buf (Elt Ideal) ℓ)

/-- The array of the step after the run. -/
theorem final4 (c : Dev nD) : (dats m 0 c).arrAt 4 cfg0.N =
    Cert.Reference23Ideal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, k0_pay4]
  rfl

/-- The array of the first moment after the run. -/
theorem final5 (c : Dev nD) : (dats m 0 c).arrAt 5 cfg0.N =
    Cert.Reference23Ideal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3, k0_pay4]
  rfl

/-- The array of the second moment after the run. -/
theorem final6 (c : Dev nD) : (dats m 0 c).arrAt 6 cfg0.N =
    Cert.Reference23Ideal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, k0_pay4]
  rfl

/-- The array of the gradient, passed on after the run. -/
theorem final7 (c : Dev nD) : (dats m 0 c).arrAt 7 cfg0.N =
    Cert.Reference23Ideal.Read.val_main_v27 (F := Ideal) (m ((c : Thread nD τ).loc main_arg1)) := by
  refine (dats m 0 c).arrAt_eq_of_covers 7 _ (by decide +kernel) fun t hf y => ?_
  blk_simp
  rw [after0_7]
  frame_out
  pointwise [k0_pay1, k0_pay2, k0_pay3, k0_pay4]
  rfl

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v4_0) =
        Cert.Reference23Ideal.Read.val_main_v24 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v4_1) =
        Cert.Reference23Ideal.Read.val_main_v25 (F := Ideal) (m ((c : Thread nD τ).loc main_arg1)) (m ((c : Thread nD τ).loc main_arg2))
      ∧ r.2.mem ((c : Thread nD τ).loc main_v4_2) =
        Cert.Reference23Ideal.Read.val_main_v26 (F := Ideal) (m ((c : Thread nD τ).loc main_arg1)) (m ((c : Thread nD τ).loc main_arg3))
      ∧ r.2.mem ((c : Thread nD τ).loc main_v4_3) =
        Cert.Reference23Ideal.Read.val_main_v27 (F := Ideal) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, h⟩ := h c
    exact ⟨h0.trans (final4 m c), h1.trans (final5 m c), h2.trans (final6 m c), h3.trans (final7 m c), h⟩) (Cert.Kernel23Ideal.Value.run_blocks m ρ)

/-- The reference's frame: its run leaves its arguments, and it has no semaphore. -/
theorem frame_reference : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)

/-- The kernel ends with the reference's results, its arguments kept. -/
theorem algebraic : Cert.algebraic_Kernel23Ideal_Reference23Ideal := by
  intro m g m' g' _ hargs
  refine ⟨_, _, _, _, run m g, (θ_run _ _ _).mono (fun r h c => ?_) (Cert.Reference23Ideal.Value.run m' g')⟩
  obtain ⟨h0, h1, h2, h3, h⟩ := h c
  obtain ⟨a0, a1, a2, a3⟩ := hargs c
  refine ⟨h0.trans ?_, h1.trans ?_, h2.trans ?_, h3.trans ?_, h⟩
  · rw [Cert.Reference23Ideal.Read.val_main_v24_eq, a0, a1, a2, a3]
  · rw [Cert.Reference23Ideal.Read.val_main_v25_eq, a1, a2]
  · rw [Cert.Reference23Ideal.Read.val_main_v26_eq, a1, a3]
  · rw [Cert.Reference23Ideal.Read.val_main_v27_eq, a1]

end Cert.AdamFfnIn

end
-- ==== Proof.AdamFfnOut.lean ====
/-
  The optimiser's step of a chip's rows of `ffn_w_down`: each result's array is, entry by entry, the reference's.
-/
module

public import proofs.«01_k».proof.Defs
public import proofs.«01_k».proof.Proof.Gen.Kernel24.Frame
public import proofs.«01_k».proof.Proof.Gen.Reference24Ideal.Run
public import proofs.«01_k».proof.Proof.Gen.Kernel24Ideal.Value
public import proofs.«01_k».proof.Proof.Gen.Reference24Ideal.Read
public import Idealize.ShloMosaic.Lib.Pipeline.ValueKit

@[expose] public section

set_option maxRecDepth 16384

noncomputable section

namespace Cert.AdamFfnOut

open Cert.Kernel24Ideal Cert.Kernel24Ideal.Gen Idealize.ShloMosaic Idealize.ShloMosaic.Tactic Idealize.ShloMosaic.TcCoe Idealize.SL.Sem

variable (m : (ℓ : Loc nD τ sig) → Buf (Elt Ideal) ℓ)

/-- The array of the step after the run. -/
theorem final4 (c : Dev nD) : (dats m 0 c).arrAt 4 cfg0.N =
    Cert.Reference24Ideal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, k0_pay4]
  rfl

/-- The array of the first moment after the run. -/
theorem final5 (c : Dev nD) : (dats m 0 c).arrAt 5 cfg0.N =
    Cert.Reference24Ideal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3, k0_pay4]
  rfl

/-- The array of the second moment after the run. -/
theorem final6 (c : Dev nD) : (dats m 0 c).arrAt 6 cfg0.N =
    Cert.Reference24Ideal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, k0_pay4]
  rfl

/-- The array of the gradient, passed on after the run. -/
theorem final7 (c : Dev nD) : (dats m 0 c).arrAt 7 cfg0.N =
    Cert.Reference24Ideal.Read.val_main_v27 (F := Ideal) (m ((c : Thread nD τ).loc main_arg1)) := by
  refine (dats m 0 c).arrAt_eq_of_covers 7 _ (by decide +kernel) fun t hf y => ?_
  blk_simp
  rw [after0_7]
  frame_out
  pointwise [k0_pay1, k0_pay2, k0_pay3, k0_pay4]
  rfl

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v4_0) =
        Cert.Reference24Ideal.Read.val_main_v24 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v4_1) =
        Cert.Reference24Ideal.Read.val_main_v25 (F := Ideal) (m ((c : Thread nD τ).loc main_arg1)) (m ((c : Thread nD τ).loc main_arg2))
      ∧ r.2.mem ((c : Thread nD τ).loc main_v4_2) =
        Cert.Reference24Ideal.Read.val_main_v26 (F := Ideal) (m ((c : Thread nD τ).loc main_arg1)) (m ((c : Thread nD τ).loc main_arg3))
      ∧ r.2.mem ((c : Thread nD τ).loc main_v4_3) =
        Cert.Reference24Ideal.Read.val_main_v27 (F := Ideal) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3, h⟩ := h c
    exact ⟨h0.trans (final4 m c), h1.trans (final5 m c), h2.trans (final6 m c), h3.trans (final7 m c), h⟩) (Cert.Kernel24Ideal.Value.run_blocks m ρ)

/-- The reference's frame: its run leaves its arguments, and it has no semaphore. -/
theorem frame_reference : Cert.quiescent_Reference24Ideal := fun m ρ _ =>
  (θ_run Cert.Reference24Ideal.defs _ _).mono (fun r h => ⟨fun c => (h c).2.2.2.2, sem_eq_zero_of_no_sems (by decide) r.2⟩)
    (Cert.Reference24Ideal.Value.run (F := Ideal) m ρ)

/-- The kernel ends with the reference's results, its arguments kept. -/
theorem algebraic : Cert.algebraic_Kernel24Ideal_Reference24Ideal := by
  intro m g m' g' _ hargs
  refine ⟨_, _, _, _, run m g, (θ_run _ _ _).mono (fun r h c => ?_) (Cert.Reference24Ideal.Value.run m' g')⟩
  obtain ⟨h0, h1, h2, h3, h⟩ := h c
  obtain ⟨a0, a1, a2, a3⟩ := hargs c
  refine ⟨h0.trans ?_, h1.trans ?_, h2.trans ?_, h3.trans ?_, h⟩
  · rw [Cert.Reference24Ideal.Read.val_main_v24_eq, a0, a1, a2, a3]
  · rw [Cert.Reference24Ideal.Read.val_main_v25_eq, a1, a2]
  · rw [Cert.Reference24Ideal.Read.val_main_v26_eq, a1, a3]
  · rw [Cert.Reference24Ideal.Read.val_main_v27_eq, a1]

end Cert.AdamFfnOut

end
-- ==== Proof.Loss.lean ====
/-
  The loss of one device's examples, summed over the blocks of rows, and its derivative by the last layer's result.
-/
module

public import proofs.«01_k».proof.Defs
public import proofs.«01_k».proof.Proof.Gen.Kernel25.Frame
public import proofs.«01_k».proof.Proof.Gen.Reference25Ideal.Run
public import proofs.«01_k».proof.Proof.Gen.Kernel25Ideal.Value
public import proofs.«01_k».proof.Proof.Gen.Reference25Ideal.Read
public import Idealize.ShloMosaic.Lib.Pipeline.ValueKit
public import Idealize.ShloMosaic.Lib.Pipeline.ReadBack

@[expose] public section

set_option maxRecDepth 16384

noncomputable section

namespace Cert.Loss

open Cert.Kernel25Ideal Cert.Kernel25Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val, 0] ∧ win0_1.index t = ![t.val, 0] ∧ win0_2.index t = ![t.val, 0] ∧ win0_3.index t = ![0, 0] :=
  (by decide +kernel : ∀ t : Fin grid0.N, win0_0.index t = ![t.val, 0] ∧ win0_1.index t = ![t.val, 0] ∧ win0_2.index t = ![t.val, 0] ∧ win0_3.index t = ![0, 0]) t

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_width : Ideal.ofBits .f32 0x45000000#32 = ((2048 : ℝ) : EReal) := by
  simp [Ideal.ofBits, Ideal.ieee, -EReal.coe_mul]; norm_num

theorem ofBits_part : Ideal.ofBits .f32 0x3A000000#32 = ((1 / 2048 : ℝ) : EReal) := by
  simp [Ideal.ofBits, Ideal.ieee, -EReal.coe_mul]; norm_num

theorem ofBits_half_part : Ideal.ofBits .f32 0x39800000#32 = ((1 / 4096 : ℝ) : EReal) := by
  simp [Ideal.ofBits, Ideal.ieee, -EReal.coe_mul]; norm_num

/-- The derivative's factor: a half over the width, times two. -/
theorem scale (x : EReal) : x * Ideal.ofBits .f32 0x3A000000#32 =
    Ideal.div (Ideal.ofBits .f32 0x3F000000#32) (Ideal.ofBits .f32 0x45000000#32) * (Ideal.ofBits .f32 0x40000000#32 * x) := by
  rw [ofBits_part, ofBits_half, ofBits_width, ofBits_two, Ideal.div_coe (by norm_num), ← mul_assoc, ← EReal.coe_mul, ← EReal.coe_mul, mul_comm]
  norm_num

/-- A real factor that is not negative goes into a sum. -/
theorem sum_mul_real {n : ℕ} (f : Fin n → EReal) (r : ℝ) (hr : 0 ≤ r) : (∑ k, f k) * (r : EReal) = ∑ k, f k * (r : EReal) :=
  map_sum (⟨⟨fun x : EReal => x * (r : EReal), zero_mul _⟩, fun a b =>
    EReal.right_distrib_of_nonneg_of_ne_top (EReal.coe_nonneg.mpr hr) (EReal.coe_ne_top r) a b⟩ : EReal →+ EReal) f Finset.univ

/-- The block's factor goes into its sum over rows. -/
theorem sum_scale {n : ℕ} (f : Fin n → EReal) : (∑ k, f k) * Ideal.ofBits .f32 0x39800000#32 = ∑ k, f k * Ideal.ofBits .f32 0x39800000#32 := by
  rw [ofBits_half_part]
  exact sum_mul_real f _ (by norm_num)

/-- Half of the sum of the rows' means is the sum of the rows, each with the factor. -/
theorem mean_half {n : ℕ} (f : Fin n → EReal) : Ideal.ofBits .f32 0x3F000000#32 * ∑ k, Ideal.div (f k) (Ideal.ofBits .f32 0x45000000#32) =
    ∑ k, f k * Ideal.ofBits .f32 0x39800000#32 := by
  rw [ofBits_half, ofBits_width, ofBits_half_part, mul_comm, sum_mul_real _ _ (by norm_num)]
  refine Finset.sum_congr rfl fun k _ => ?_
  rw [Ideal.div_coe (by norm_num), mul_assoc, ← EReal.coe_mul]
  norm_num

/-- What a point leaves in the block of the derivative. -/
theorem out2 (c : Dev nD) (t : Fin cfg0.N) : (outsAt0 m c t.val t.isLt).1 =
    k0_pay3 (F := Ideal) (iblk m c 0 t) (iblk m c 1 t) := by
  by_cases h0 : t.val % 16 = 0
  · rw [outsAt0_A m c t h0]
    frame_out
  · rw [outsAt0_B m c t h0]
    frame_out

/-- The derivative: its array after the run. -/
theorem final2 (c : Dev nD) : (dats m 0 c).arrAt 2 cfg0.N =
    Cert.Reference25Ideal.Read.val_main_v14 (F := Ideal) (m ((c : Thread nD τ).loc main_arg0)) (m ((c : Thread nD τ).loc main_arg1)) := by
  refine (dats m 0 c).arrAt_eq_of_covers 2 _ (by decide +kernel) fun t hf y => ?_
  blk_simp
  rw [after0_2, out2]
  unfold Cert.Reference25Ideal.Read.val_main_v14 Cert.Reference25Ideal.Read.val_main_v13 Cert.Reference25Ideal.Read.val_main_v12 Cert.Reference25Ideal.Read.val_main_v11 Cert.Reference25Ideal.Read.val_main_cst_6 Cert.Reference25Ideal.Read.val_main_v10 Cert.Reference25Ideal.Read.val_main_v9 Cert.Reference25Ideal.Read.val_main_cst_5 Cert.Reference25Ideal.Read.val_main_cst_4 Cert.Reference25Ideal.Read.val_main_v3 Cert.Reference25Ideal.Read.val_main_v2 Cert.Reference25Ideal.Read.val_main_cst Cert.Reference25Ideal.Read.val_main_v0
  pointwise [k0_pay3, k0_pay2]
  refine (scale _).trans ?_
  blk_point [iblk, V, idx t]

/-- What one block of 128 rows adds to the loss. -/
def part (a b : FVec Ideal S128x2048 .f32) : EReal :=
  (∑ k : Fin 128, ∑ l : Fin 2048, (a (ix2 k l) - b (ix2 k l)) * (a (ix2 k l) - b (ix2 k l))) * Ideal.ofBits .f32 0x39800000#32

/-- A point adds its block's part to the sum before it. -/
theorem pay4 (a b : FVec Ideal S128x2048 .f32) (acc : FVec Ideal S8x128 .f32) (j : S8x128.Idx) :
    k0_pay4 (F := Ideal) a b acc j = acc j + part a b := by
  unfold part
  pointwise [k0_pay4, k0_pay2]

/-- The first point's sum starts at zero. -/
theorem pay1 (j : S8x128.Idx) : k0_pay1 (F := Ideal) j = 0 := by
  pointwise [k0_pay1]

theorem acc_first (c : Dev nD) (t : Fin cfg0.N) (h : t.val % 16 = 0) (j : S8x128.Idx) :
    (outsAt0 m c t.val t.isLt).2 j = 0 + part (iblk m c 0 t) (iblk m c 1 t) := by
  rw [outsAt0_A m c t h]
  frame_out
  rw [pay4, pay1]

theorem acc_next (c : Dev nD) (t : Fin cfg0.N) (h : ¬t.val % 16 = 0) (j : S8x128.Idx) :
    (outsAt0 m c t.val t.isLt).2 j = (outsAt0 m c (t.val - 1) (Nat.lt_of_le_of_lt (Nat.sub_le _ _) t.isLt)).2 j + part (iblk m c 0 t) (iblk m c 1 t) := by
  rw [outsAt0_B m c t h]
  frame_out
  exact pay4 _ _ _ _

/-- The loss: its array after the run. -/
theorem final3 (c : Dev nD) : (dats m 0 c).arrAt 3 cfg0.N =
    Cert.Reference25Ideal.Read.val_main_v15 (F := Ideal) (m ((c : Thread nD τ).loc main_arg0)) (m ((c : Thread nD τ).loc main_arg1)) := by
  refine (dats m 0 c).arrAt_eq_of_covers 3 _ (by decide +kernel) fun t hf y => ?_
  have hm : t.val % 16 = 15 := (flush0_3 t).mp hf
  blk_simp
  rw [after0_3]
  refine (Pipeline.eq_sum_fin_of_reset_step_apply_of_flush (fun n h => (outsAt0 m c n h).2) 16 (fun _ => 0) (fun t _ => part (iblk m c 0 t) (iblk m c 1 t))
    (acc_first m c) (acc_next m c) t hm y).trans ?_
  simp only [zero_add]
  unfold part Cert.Reference25Ideal.Read.val_main_v15 Cert.Reference25Ideal.Read.val_main_v8 Cert.Reference25Ideal.Read.val_main_cst_3 Cert.Reference25Ideal.Read.val_main_v7 Cert.Reference25Ideal.Read.val_main_cst_2 Cert.Reference25Ideal.Read.val_main_v6 Cert.Reference25Ideal.Read.val_main_v5 Cert.Reference25Ideal.Read.val_main_cst_1 Cert.Reference25Ideal.Read.val_main_v4 Cert.Reference25Ideal.Read.val_main_cst_0 Cert.Reference25Ideal.Read.val_main_v1 Cert.Reference25Ideal.Read.val_main_v0
  pointwise
  refine (Finset.sum_congr (M := EReal) rfl fun s _ => sum_scale _).trans (Eq.trans ?_ (mean_half _).symm)
  refine Fin.sum_mul_add_congr fun s k hl => ?_
  blk_point [iblk, V, idx t, idx ⟨_, Pipeline.run_point_lt_of_flush t hm s⟩]

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v0_0) =
        Cert.Reference25Ideal.Read.val_main_v14 (F := Ideal) (m ((c : Thread nD τ).loc main_arg0)) (m ((c : Thread nD τ).loc main_arg1))
      ∧ r.2.mem ((c : Thread nD τ).loc main_v0_1) =
        Cert.Reference25Ideal.Read.val_main_v15 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h1, h⟩ := h c
    exact ⟨h0.trans (final2 m c), h1.trans (final3 m c), h⟩) (Cert.Kernel25Ideal.Value.run_blocks m ρ)

/-- The reference's frame: its run leaves its arguments, and it has no semaphore. -/
theorem frame_reference : Cert.quiescent_Reference25Ideal := fun m ρ _ =>
  (θ_run Cert.Reference25Ideal.defs _ _).mono (fun r h => ⟨fun c => (h c).2.2, sem_eq_zero_of_no_sems (by decide) r.2⟩)
    (Cert.Reference25Ideal.Value.run (F := Ideal) m ρ)

/-- The kernel ends with the reference's results, its arguments kept. -/
theorem algebraic : Cert.algebraic_Kernel25Ideal_Reference25Ideal := by
  intro m g m' g' _ hargs
  refine ⟨_, _, run m g, (θ_run _ _ _).mono (fun r h c => ?_) (Cert.Reference25Ideal.Value.run m' g')⟩
  obtain ⟨h0, h1, h⟩ := h c
  obtain ⟨a0, a1⟩ := hargs c
  refine ⟨h0.trans ?_, h1.trans ?_, h⟩
  · rw [Cert.Reference25Ideal.Read.val_main_v14_eq, a0, a1]
  · rw [Cert.Reference25Ideal.Read.val_main_v15_eq, a0, a1]

end Cert.Loss

end
-- ==== Proof.NormDx.lean ====
/-
  The backward pass of the first layer's norm beside its residual: the gradient by the step's input, and by the norm's gain, summed over the blocks of rows.
-/
module

public import proofs.«01_k».proof.Defs
public import proofs.«01_k».proof.Proof.Gen.Kernel26.Frame
public import proofs.«01_k».proof.Proof.Gen.Reference26Ideal.Run
public import proofs.«01_k».proof.Proof.Gen.Kernel26Ideal.Value
public import proofs.«01_k».proof.Proof.Gen.Reference26Ideal.Read
public import Idealize.ShloMosaic.Lib.Pipeline.ValueKit
public import Idealize.ShloMosaic.Lib.Pipeline.ReadBack

@[expose] public section

set_option maxRecDepth 16384

noncomputable section

namespace Cert.NormDx

open Cert.Kernel26Ideal Cert.Kernel26Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val, 0] ∧ win0_1.index t = ![t.val, 0] ∧ win0_2.index t = ![t.val, 0] ∧ win0_3.index t = ![t.val, 0] ∧ win0_4.index t = ![0, 0] ∧ win0_5.index t = ![t.val, 0] ∧ win0_6.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![0, 0] ∧ win0_5.index t = ![t.val, 0] ∧ win0_6.index t = ![0, 0]) t

/-- What a point leaves in the block of the gradient by the input. -/
theorem out5 (c : Dev nD) (t : Fin cfg0.N) : (outsAt0 m c t.val t.isLt).1 =
    k0_pay7 (F := Ideal) (iblk m c 0 t) (iblk m c 1 t) (iblk m c 2 t) (iblk m c 3 t) (iblk m c 4 t) := by
  by_cases h0 : t.val % 16 = 0
  · rw [outsAt0_A m c t h0]
    frame_out
  · rw [outsAt0_B m c t h0]
    frame_out

/-- The gradient by the input: its array after the run. -/
theorem final5 (c : Dev nD) : (dats m 0 c).arrAt 5 cfg0.N =
    Cert.Reference26Ideal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, out5]
  unfold Cert.Reference26Ideal.Read.val_main_v39 Cert.Reference26Ideal.Read.val_main_v38 Cert.Reference26Ideal.Read.val_main_v37 Cert.Reference26Ideal.Read.val_main_v36 Cert.Reference26Ideal.Read.val_main_v35 Cert.Reference26Ideal.Read.val_main_v34 Cert.Reference26Ideal.Read.val_main_cst_7 Cert.Reference26Ideal.Read.val_main_v33 Cert.Reference26Ideal.Read.val_main_v32 Cert.Reference26Ideal.Read.val_main_cst_6 Cert.Reference26Ideal.Read.val_main_v31 Cert.Reference26Ideal.Read.val_main_v30 Cert.Reference26Ideal.Read.val_main_v29 Cert.Reference26Ideal.Read.val_main_v28 Cert.Reference26Ideal.Read.val_main_v27 Cert.Reference26Ideal.Read.val_main_v26 Cert.Reference26Ideal.Read.val_main_cst_5 Cert.Reference26Ideal.Read.val_main_v25 Cert.Reference26Ideal.Read.val_main_v22 Cert.Reference26Ideal.Read.val_main_v21 Cert.Reference26Ideal.Read.val_main_v17 Cert.Reference26Ideal.Read.val_main_v14 Cert.Reference26Ideal.Read.val_main_v13 Cert.Reference26Ideal.Read.val_main_v10 Cert.Reference26Ideal.Read.val_main_v9 Cert.Reference26Ideal.Read.val_main_cst_2 Cert.Reference26Ideal.Read.val_main_v8 Cert.Reference26Ideal.Read.val_main_v7 Cert.Reference26Ideal.Read.val_main_v6 Cert.Reference26Ideal.Read.val_main_v5 Cert.Reference26Ideal.Read.val_main_cst_1 Cert.Reference26Ideal.Read.val_main_v4 Cert.Reference26Ideal.Read.val_main_v3 Cert.Reference26Ideal.Read.val_main_cst_0 Cert.Reference26Ideal.Read.val_main_v2 Cert.Reference26Ideal.Read.val_main_v1 Cert.Reference26Ideal.Read.val_main_cst Cert.Reference26Ideal.Read.val_main_v0
  pointwise [k0_pay7, k0_pay5, k0_pay4, k0_pay3]
  blk_point [iblk, V, idx t]

/-- What one block of 128 rows adds to the gain's gradient. -/
def part (x a b : FVec Ideal S128x2048 .f32) (j : S1x2048.Idx) : EReal :=
  ∑ k : Fin 128, x (ix2 k (j 1)) * Ideal.rsqrt (Ideal.div (∑ l : Fin 2048, x (ix2 k l) * x (ix2 k l)) (Ideal.ofBits .f32 0x45000000#32) + Ideal.ofBits .f32 0x358637BD#32) * (a (ix2 k (j 1)) + b (ix2 k (j 1)))

/-- A point adds its block's part to the sum before it. -/
theorem pay2 (x a b : FVec Ideal S128x2048 .f32) (acc : FVec Ideal S1x2048 .f32) (j : S1x2048.Idx) :
    k0_pay2 (F := Ideal) (k0_pay6 x a b) acc j = acc j + part x a b j := by
  unfold part
  pointwise [k0_pay2, k0_pay6, k0_pay5, k0_pay4, k0_pay3]

/-- The first point's sum starts at zero. -/
theorem pay1 (j : S1x2048.Idx) : k0_pay1 (F := Ideal) j = 0 := by
  pointwise [k0_pay1]

theorem acc_first (c : Dev nD) (t : Fin cfg0.N) (h : t.val % 16 = 0) (j : S1x2048.Idx) :
    (outsAt0 m c t.val t.isLt).2 j = 0 + part (iblk m c 0 t) (iblk m c 2 t) (iblk m c 3 t) j := by
  rw [outsAt0_A m c t h]
  frame_out
  rw [pay2, pay1]

theorem acc_next (c : Dev nD) (t : Fin cfg0.N) (h : ¬t.val % 16 = 0) (j : S1x2048.Idx) :
    (outsAt0 m c t.val t.isLt).2 j = (outsAt0 m c (t.val - 1) (Nat.lt_of_le_of_lt (Nat.sub_le _ _) t.isLt)).2 j + part (iblk m c 0 t) (iblk m c 2 t) (iblk m c 3 t) j := by
  rw [outsAt0_B m c t h]
  frame_out
  exact pay2 _ _ _ _ _

/-- The gradient by the gain: its array after the run. -/
theorem final6 (c : Dev nD) : (dats m 0 c).arrAt 6 cfg0.N =
    Cert.Reference26Ideal.Read.val_main_v24 (F := Ideal) (m ((c : Thread nD τ).loc main_arg0)) (m ((c : Thread nD τ).loc main_arg3)) (m ((c : Thread nD τ).loc main_arg4)) := by
  refine (dats m 0 c).arrAt_eq_of_covers 6 _ (by decide +kernel) fun t hf y => ?_
  have hm : t.val % 16 = 15 := (flush0_6 t).mp hf
  blk_simp
  rw [after0_6]
  refine (Pipeline.eq_sum_fin_of_reset_step_apply_of_flush (fun n h => (outsAt0 m c n h).2) 16 (fun _ => 0) (fun t j => part (iblk m c 0 t) (iblk m c 2 t) (iblk m c 3 t) j)
    (acc_first m c) (acc_next m c) t hm y).trans ?_
  simp only [zero_add]
  unfold part Cert.Reference26Ideal.Read.val_main_v24 Cert.Reference26Ideal.Read.val_main_v23 Cert.Reference26Ideal.Read.val_main_cst_4 Cert.Reference26Ideal.Read.val_main_v20 Cert.Reference26Ideal.Read.val_main_v19 Cert.Reference26Ideal.Read.val_main_cst_3 Cert.Reference26Ideal.Read.val_main_v18 Cert.Reference26Ideal.Read.val_main_v17 Cert.Reference26Ideal.Read.val_main_v12 Cert.Reference26Ideal.Read.val_main_v11 Cert.Reference26Ideal.Read.val_main_v7 Cert.Reference26Ideal.Read.val_main_v6 Cert.Reference26Ideal.Read.val_main_v5 Cert.Reference26Ideal.Read.val_main_cst_1 Cert.Reference26Ideal.Read.val_main_v4 Cert.Reference26Ideal.Read.val_main_v3 Cert.Reference26Ideal.Read.val_main_cst_0 Cert.Reference26Ideal.Read.val_main_v2 Cert.Reference26Ideal.Read.val_main_v1 Cert.Reference26Ideal.Read.val_main_cst Cert.Reference26Ideal.Read.val_main_v0
  pointwise
  refine Eq.trans ?_ (Fin.sum_univ_one (M := EReal) _).symm
  refine Fin.sum_mul_add_congr fun s k hl => ?_
  blk_point [iblk, V, idx t, idx ⟨_, Pipeline.run_point_lt_of_flush t hm s⟩]

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v0_0) =
        Cert.Reference26Ideal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) =
        Cert.Reference26Ideal.Read.val_main_v24 (F := Ideal) (m ((c : Thread nD τ).loc main_arg0)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h0, h1, h⟩ := h c
    exact ⟨h0.trans (final5 m c), h1.trans (final6 m c), h⟩) (Cert.Kernel26Ideal.Value.run_blocks m ρ)

/-- The reference's frame: its run leaves its arguments, and it has no semaphore. -/
theorem frame_reference : Cert.quiescent_Reference26Ideal := fun m ρ _ =>
  (θ_run Cert.Reference26Ideal.defs _ _).mono (fun r h => ⟨fun c => (h c).2.2, sem_eq_zero_of_no_sems (by decide) r.2⟩)
    (Cert.Reference26Ideal.Value.run (F := Ideal) m ρ)

/-- The kernel ends with the reference's results, its arguments kept. -/
theorem algebraic : Cert.algebraic_Kernel26Ideal_Reference26Ideal := by
  intro m g m' g' _ hargs
  refine ⟨_, _, run m g, (θ_run _ _ _).mono (fun r h c => ?_) (Cert.Reference26Ideal.Value.run m' g')⟩
  obtain ⟨h0, h1, h⟩ := h c
  obtain ⟨a0, a1, a2, a3, a4⟩ := hargs c
  refine ⟨h0.trans ?_, h1.trans ?_, h⟩
  · rw [Cert.Reference26Ideal.Read.val_main_v39_eq, a0, a1, a2, a3, a4]
  · rw [Cert.Reference26Ideal.Read.val_main_v24_eq, a0, a3, a4]

end Cert.NormDx

end
-- ==== Proof.MidNormDx.lean ====
/-
  The backward pass of a mixer's closing norm, the residual and the next norm: the gradients by the residual stream, by the mixer's result and by the two gains.
-/
module

public import proofs.«01_k».proof.Defs
public import proofs.«01_k».proof.Proof.Gen.Kernel27.Frame
public import proofs.«01_k».proof.Proof.Gen.Reference27Ideal.Run
public import proofs.«01_k».proof.Proof.Gen.Kernel27Ideal.Value
public import proofs.«01_k».proof.Proof.Gen.Reference27Ideal.Read
public import Idealize.ShloMosaic.Lib.Pipeline.ValueKit
public import Idealize.ShloMosaic.Lib.Pipeline.ReadBack

@[expose] public section

set_option maxRecDepth 16384

noncomputable section

namespace Cert.MidNormDx

open Cert.Kernel27Ideal Cert.Kernel27Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![t.val, 0] ∧ win0_8.index t = ![t.val, 0] ∧ win0_9.index t = ![0, 0] ∧ win0_10.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![t.val, 0] ∧ win0_8.index t = ![t.val, 0] ∧ win0_9.index t = ![0, 0] ∧ win0_10.index t = ![0, 0]) t

/-- What a point leaves in the block of the gradient by the residual stream. -/
theorem out7 (c : Dev nD) (t : Fin cfg0.N) : (outsAt0 m c t.val t.isLt).1 =
    k0_pay16 (F := Ideal) (iblk m c 2 t) (iblk m c 6 t) (k0_pay9 (iblk m c 0 t) (iblk m c 1 t) (iblk m c 5 t)) (k0_pay11 (iblk m c 0 t) (iblk m c 1 t) (iblk m c 5 t)) (k0_pay12 (iblk m c 0 t) (iblk m c 1 t) (iblk m c 5 t)) (k0_pay14 (iblk m c 3 t) (iblk m c 4 t)) := by
  by_cases h0 : t.val % 16 = 0
  · rw [outsAt0_A m c t h0]
    frame_out
  · rw [outsAt0_B m c t h0]
    frame_out

/-- The array of the gradient by the residual stream after the run. -/
theorem final7 (c : Dev nD) : (dats m 0 c).arrAt 7 cfg0.N =
    Cert.Reference27Ideal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7, out7]
  unfold Cert.Reference27Ideal.Read.val_main_v57 Cert.Reference27Ideal.Read.val_main_v56 Cert.Reference27Ideal.Read.val_main_v55 Cert.Reference27Ideal.Read.val_main_v54 Cert.Reference27Ideal.Read.val_main_v53 Cert.Reference27Ideal.Read.val_main_v52 Cert.Reference27Ideal.Read.val_main_cst_11 Cert.Reference27Ideal.Read.val_main_v51 Cert.Reference27Ideal.Read.val_main_v50 Cert.Reference27Ideal.Read.val_main_cst_10 Cert.Reference27Ideal.Read.val_main_v49 Cert.Reference27Ideal.Read.val_main_v48 Cert.Reference27Ideal.Read.val_main_v47 Cert.Reference27Ideal.Read.val_main_v46 Cert.Reference27Ideal.Read.val_main_v45 Cert.Reference27Ideal.Read.val_main_v44 Cert.Reference27Ideal.Read.val_main_cst_9 Cert.Reference27Ideal.Read.val_main_v43 Cert.Reference27Ideal.Read.val_main_v40 Cert.Reference27Ideal.Read.val_main_v39 Cert.Reference27Ideal.Read.val_main_v35 Cert.Reference27Ideal.Read.val_main_v32 Cert.Reference27Ideal.Read.val_main_v31 Cert.Reference27Ideal.Read.val_main_v28 Cert.Reference27Ideal.Read.val_main_v27 Cert.Reference27Ideal.Read.val_main_cst_6 Cert.Reference27Ideal.Read.val_main_v26 Cert.Reference27Ideal.Read.val_main_v25 Cert.Reference27Ideal.Read.val_main_v24 Cert.Reference27Ideal.Read.val_main_v23 Cert.Reference27Ideal.Read.val_main_cst_5 Cert.Reference27Ideal.Read.val_main_v22 Cert.Reference27Ideal.Read.val_main_v21 Cert.Reference27Ideal.Read.val_main_cst_4 Cert.Reference27Ideal.Read.val_main_v20 Cert.Reference27Ideal.Read.val_main_v19 Cert.Reference27Ideal.Read.val_main_cst_3 Cert.Reference27Ideal.Read.val_main_v18 Cert.Reference27Ideal.Read.val_main_v17 Cert.Reference27Ideal.Read.val_main_v16 Cert.Reference27Ideal.Read.val_main_v15 Cert.Reference27Ideal.Read.val_main_v14 Cert.Reference27Ideal.Read.val_main_v13 Cert.Reference27Ideal.Read.val_main_v12 Cert.Reference27Ideal.Read.val_main_v11 Cert.Reference27Ideal.Read.val_main_v7 Cert.Reference27Ideal.Read.val_main_v6 Cert.Reference27Ideal.Read.val_main_v5 Cert.Reference27Ideal.Read.val_main_cst_1 Cert.Reference27Ideal.Read.val_main_v4 Cert.Reference27Ideal.Read.val_main_v3 Cert.Reference27Ideal.Read.val_main_cst_0 Cert.Reference27Ideal.Read.val_main_v2 Cert.Reference27Ideal.Read.val_main_v1 Cert.Reference27Ideal.Read.val_main_cst Cert.Reference27Ideal.Read.val_main_v0
  pointwise [k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  blk_point [iblk, V, idx t]

/-- What a point leaves in the block of the gradient by the mixer's result. -/
theorem out8 (c : Dev nD) (t : Fin cfg0.N) : (outsAt0 m c t.val t.isLt).2.1 =
    k0_pay19 (F := Ideal) (iblk m c 1 t) (iblk m c 2 t) (iblk m c 5 t) (iblk m c 6 t) (k0_pay6 (iblk m c 1 t)) (k0_pay7 (iblk m c 1 t)) (k0_pay9 (iblk m c 0 t) (iblk m c 1 t) (iblk m c 5 t)) (k0_pay11 (iblk m c 0 t) (iblk m c 1 t) (iblk m c 5 t)) (k0_pay12 (iblk m c 0 t) (iblk m c 1 t) (iblk m c 5 t)) (k0_pay14 (iblk m c 3 t) (iblk m c 4 t)) := by
  by_cases h0 : t.val % 16 = 0
  · rw [outsAt0_A m c t h0]
    frame_out
  · rw [outsAt0_B m c t h0]
    frame_out

/-- The array of the gradient by the mixer's result after the run. -/
theorem final8 (c : Dev nD) : (dats m 0 c).arrAt 8 cfg0.N =
    Cert.Reference27Ideal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8, out8]
  unfold Cert.Reference27Ideal.Read.val_main_v80 Cert.Reference27Ideal.Read.val_main_v79 Cert.Reference27Ideal.Read.val_main_v78 Cert.Reference27Ideal.Read.val_main_v77 Cert.Reference27Ideal.Read.val_main_v76 Cert.Reference27Ideal.Read.val_main_v75 Cert.Reference27Ideal.Read.val_main_v74 Cert.Reference27Ideal.Read.val_main_cst_16 Cert.Reference27Ideal.Read.val_main_v73 Cert.Reference27Ideal.Read.val_main_v72 Cert.Reference27Ideal.Read.val_main_cst_15 Cert.Reference27Ideal.Read.val_main_v71 Cert.Reference27Ideal.Read.val_main_v70 Cert.Reference27Ideal.Read.val_main_v69 Cert.Reference27Ideal.Read.val_main_v68 Cert.Reference27Ideal.Read.val_main_v67 Cert.Reference27Ideal.Read.val_main_cst_14 Cert.Reference27Ideal.Read.val_main_v66 Cert.Reference27Ideal.Read.val_main_v63 Cert.Reference27Ideal.Read.val_main_v62 Cert.Reference27Ideal.Read.val_main_v58 Cert.Reference27Ideal.Read.val_main_v57 Cert.Reference27Ideal.Read.val_main_v56 Cert.Reference27Ideal.Read.val_main_v55 Cert.Reference27Ideal.Read.val_main_v54 Cert.Reference27Ideal.Read.val_main_v53 Cert.Reference27Ideal.Read.val_main_v52 Cert.Reference27Ideal.Read.val_main_cst_11 Cert.Reference27Ideal.Read.val_main_v51 Cert.Reference27Ideal.Read.val_main_v50 Cert.Reference27Ideal.Read.val_main_cst_10 Cert.Reference27Ideal.Read.val_main_v49 Cert.Reference27Ideal.Read.val_main_v48 Cert.Reference27Ideal.Read.val_main_v47 Cert.Reference27Ideal.Read.val_main_v46 Cert.Reference27Ideal.Read.val_main_v45 Cert.Reference27Ideal.Read.val_main_v44 Cert.Reference27Ideal.Read.val_main_cst_9 Cert.Reference27Ideal.Read.val_main_v43 Cert.Reference27Ideal.Read.val_main_v40 Cert.Reference27Ideal.Read.val_main_v39 Cert.Reference27Ideal.Read.val_main_v35 Cert.Reference27Ideal.Read.val_main_v32 Cert.Reference27Ideal.Read.val_main_v31 Cert.Reference27Ideal.Read.val_main_v28 Cert.Reference27Ideal.Read.val_main_v27 Cert.Reference27Ideal.Read.val_main_cst_6 Cert.Reference27Ideal.Read.val_main_v26 Cert.Reference27Ideal.Read.val_main_v25 Cert.Reference27Ideal.Read.val_main_v24 Cert.Reference27Ideal.Read.val_main_v23 Cert.Reference27Ideal.Read.val_main_cst_5 Cert.Reference27Ideal.Read.val_main_v22 Cert.Reference27Ideal.Read.val_main_v21 Cert.Reference27Ideal.Read.val_main_cst_4 Cert.Reference27Ideal.Read.val_main_v20 Cert.Reference27Ideal.Read.val_main_v19 Cert.Reference27Ideal.Read.val_main_cst_3 Cert.Reference27Ideal.Read.val_main_v18 Cert.Reference27Ideal.Read.val_main_v17 Cert.Reference27Ideal.Read.val_main_v16 Cert.Reference27Ideal.Read.val_main_v15 Cert.Reference27Ideal.Read.val_main_v14 Cert.Reference27Ideal.Read.val_main_v13 Cert.Reference27Ideal.Read.val_main_v12 Cert.Reference27Ideal.Read.val_main_v11 Cert.Reference27Ideal.Read.val_main_v10 Cert.Reference27Ideal.Read.val_main_v9 Cert.Reference27Ideal.Read.val_main_cst_2 Cert.Reference27Ideal.Read.val_main_v8 Cert.Reference27Ideal.Read.val_main_v7 Cert.Reference27Ideal.Read.val_main_v6 Cert.Reference27Ideal.Read.val_main_v5 Cert.Reference27Ideal.Read.val_main_cst_1 Cert.Reference27Ideal.Read.val_main_v4 Cert.Reference27Ideal.Read.val_main_v3 Cert.Reference27Ideal.Read.val_main_cst_0 Cert.Reference27Ideal.Read.val_main_v2 Cert.Reference27Ideal.Read.val_main_v1 Cert.Reference27Ideal.Read.val_main_cst Cert.Reference27Ideal.Read.val_main_v0
  pointwise [k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  blk_point [iblk, V, idx t]

/-- What a point's block adds to the gradient by the closing norm's gain. -/
def part9 (c : Dev nD) (t : Fin cfg0.N) : FVec Ideal S1x2048 .f32 :=
  k0_pay18 (iblk m c 2 t) (iblk m c 6 t) (k0_pay8 (iblk m c 1 t)) (k0_pay9 (iblk m c 0 t) (iblk m c 1 t) (iblk m c 5 t)) (k0_pay11 (iblk m c 0 t) (iblk m c 1 t) (iblk m c 5 t)) (k0_pay12 (iblk m c 0 t) (iblk m c 1 t) (iblk m c 5 t)) (k0_pay14 (iblk m c 3 t) (iblk m c 4 t))

theorem acc9_first (c : Dev nD) (t : Fin cfg0.N) (h : t.val % 16 = 0) (j : S1x2048.Idx) :
    (outsAt0 m c t.val t.isLt).2.2.1 j = 0 + part9 m c t j := by
  rw [outsAt0_A m c t h]
  frame_out
  unfold part9
  pointwise [k0_pay3, k0_pay1]

theorem acc9_next (c : Dev nD) (t : Fin cfg0.N) (h : ¬t.val % 16 = 0) (j : S1x2048.Idx) :
    (outsAt0 m c t.val t.isLt).2.2.1 j = (outsAt0 m c (t.val - 1) (Nat.lt_of_le_of_lt (Nat.sub_le _ _) t.isLt)).2.2.1 j + part9 m c t j := by
  rw [outsAt0_B m c t h]
  frame_out
  unfold part9
  pointwise [k0_pay3]

/-- The array of the gradient by the closing norm's gain after the run. -/
theorem final9 (c : Dev nD) : (dats m 0 c).arrAt 9 cfg0.N =
    Cert.Reference27Ideal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  have hm : t.val % 16 = 15 := (flush0_9 t).mp hf
  blk_simp
  rw [after0_9]
  refine (Pipeline.eq_sum_fin_of_reset_step_apply_of_flush (fun n h => (outsAt0 m c n h).2.2.1) 16 (fun _ => 0) (part9 m c)
    (acc9_first m c) (acc9_next m c) t hm y).trans ?_
  simp only [zero_add]
  unfold part9 Cert.Reference27Ideal.Read.val_main_v65 Cert.Reference27Ideal.Read.val_main_v64 Cert.Reference27Ideal.Read.val_main_cst_13 Cert.Reference27Ideal.Read.val_main_v61 Cert.Reference27Ideal.Read.val_main_v60 Cert.Reference27Ideal.Read.val_main_cst_12 Cert.Reference27Ideal.Read.val_main_v59 Cert.Reference27Ideal.Read.val_main_v58 Cert.Reference27Ideal.Read.val_main_v57 Cert.Reference27Ideal.Read.val_main_v56 Cert.Reference27Ideal.Read.val_main_v55 Cert.Reference27Ideal.Read.val_main_v54 Cert.Reference27Ideal.Read.val_main_v53 Cert.Reference27Ideal.Read.val_main_v52 Cert.Reference27Ideal.Read.val_main_cst_11 Cert.Reference27Ideal.Read.val_main_v51 Cert.Reference27Ideal.Read.val_main_v50 Cert.Reference27Ideal.Read.val_main_cst_10 Cert.Reference27Ideal.Read.val_main_v49 Cert.Reference27Ideal.Read.val_main_v48 Cert.Reference27Ideal.Read.val_main_v47 Cert.Reference27Ideal.Read.val_main_v46 Cert.Reference27Ideal.Read.val_main_v45 Cert.Reference27Ideal.Read.val_main_v44 Cert.Reference27Ideal.Read.val_main_cst_9 Cert.Reference27Ideal.Read.val_main_v43 Cert.Reference27Ideal.Read.val_main_v40 Cert.Reference27Ideal.Read.val_main_v39 Cert.Reference27Ideal.Read.val_main_v35 Cert.Reference27Ideal.Read.val_main_v32 Cert.Reference27Ideal.Read.val_main_v31 Cert.Reference27Ideal.Read.val_main_v28 Cert.Reference27Ideal.Read.val_main_v27 Cert.Reference27Ideal.Read.val_main_cst_6 Cert.Reference27Ideal.Read.val_main_v26 Cert.Reference27Ideal.Read.val_main_v25 Cert.Reference27Ideal.Read.val_main_v24 Cert.Reference27Ideal.Read.val_main_v23 Cert.Reference27Ideal.Read.val_main_cst_5 Cert.Reference27Ideal.Read.val_main_v22 Cert.Reference27Ideal.Read.val_main_v21 Cert.Reference27Ideal.Read.val_main_cst_4 Cert.Reference27Ideal.Read.val_main_v20 Cert.Reference27Ideal.Read.val_main_v19 Cert.Reference27Ideal.Read.val_main_cst_3 Cert.Reference27Ideal.Read.val_main_v18 Cert.Reference27Ideal.Read.val_main_v17 Cert.Reference27Ideal.Read.val_main_v16 Cert.Reference27Ideal.Read.val_main_v15 Cert.Reference27Ideal.Read.val_main_v14 Cert.Reference27Ideal.Read.val_main_v13 Cert.Reference27Ideal.Read.val_main_v12 Cert.Reference27Ideal.Read.val_main_v11 Cert.Reference27Ideal.Read.val_main_v7 Cert.Reference27Ideal.Read.val_main_v6 Cert.Reference27Ideal.Read.val_main_v5 Cert.Reference27Ideal.Read.val_main_cst_1 Cert.Reference27Ideal.Read.val_main_v4 Cert.Reference27Ideal.Read.val_main_v3 Cert.Reference27Ideal.Read.val_main_cst_0 Cert.Reference27Ideal.Read.val_main_v2 Cert.Reference27Ideal.Read.val_main_v1 Cert.Reference27Ideal.Read.val_main_cst Cert.Reference27Ideal.Read.val_main_v0
  pointwise [k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  refine Eq.trans ?_ (Fin.sum_univ_one (M := EReal) _).symm
  refine Fin.sum_mul_add_congr fun s k hl => ?_
  blk_point [iblk, V, idx t, idx ⟨_, Pipeline.run_point_lt_of_flush t hm s⟩]

/-- What a point's block adds to the gradient by the next norm's gain. -/
def part10 (c : Dev nD) (t : Fin cfg0.N) : FVec Ideal S1x2048 .f32 :=
  k0_pay15 (k0_pay13 (iblk m c 0 t) (iblk m c 1 t) (iblk m c 5 t)) (k0_pay14 (iblk m c 3 t) (iblk m c 4 t))

theorem acc10_first (c : Dev nD) (t : Fin cfg0.N) (h : t.val % 16 = 0) (j : S1x2048.Idx) :
    (outsAt0 m c t.val t.isLt).2.2.2 j = 0 + part10 m c t j := by
  rw [outsAt0_A m c t h]
  frame_out
  unfold part10
  pointwise [k0_pay4, k0_pay2]

theorem acc10_next (c : Dev nD) (t : Fin cfg0.N) (h : ¬t.val % 16 = 0) (j : S1x2048.Idx) :
    (outsAt0 m c t.val t.isLt).2.2.2 j = (outsAt0 m c (t.val - 1) (Nat.lt_of_le_of_lt (Nat.sub_le _ _) t.isLt)).2.2.2 j + part10 m c t j := by
  rw [outsAt0_B m c t h]
  frame_out
  unfold part10
  pointwise [k0_pay4]

/-- The array of the gradient by the next norm's gain after the run. -/
theorem final10 (c : Dev nD) : (dats m 0 c).arrAt 10 cfg0.N =
    Cert.Reference27Ideal.Read.val_main_v42 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 10 _ (by decide +kernel) fun t hf y => ?_
  have hm : t.val % 16 = 15 := (flush0_10 t).mp hf
  blk_simp
  rw [after0_10]
  refine (Pipeline.eq_sum_fin_of_reset_step_apply_of_flush (fun n h => (outsAt0 m c n h).2.2.2) 16 (fun _ => 0) (part10 m c)
    (acc10_first m c) (acc10_next m c) t hm y).trans ?_
  simp only [zero_add]
  unfold part10 Cert.Reference27Ideal.Read.val_main_v42 Cert.Reference27Ideal.Read.val_main_v41 Cert.Reference27Ideal.Read.val_main_cst_8 Cert.Reference27Ideal.Read.val_main_v38 Cert.Reference27Ideal.Read.val_main_v37 Cert.Reference27Ideal.Read.val_main_cst_7 Cert.Reference27Ideal.Read.val_main_v36 Cert.Reference27Ideal.Read.val_main_v35 Cert.Reference27Ideal.Read.val_main_v30 Cert.Reference27Ideal.Read.val_main_v29 Cert.Reference27Ideal.Read.val_main_v25 Cert.Reference27Ideal.Read.val_main_v24 Cert.Reference27Ideal.Read.val_main_v23 Cert.Reference27Ideal.Read.val_main_cst_5 Cert.Reference27Ideal.Read.val_main_v22 Cert.Reference27Ideal.Read.val_main_v21 Cert.Reference27Ideal.Read.val_main_cst_4 Cert.Reference27Ideal.Read.val_main_v20 Cert.Reference27Ideal.Read.val_main_v19 Cert.Reference27Ideal.Read.val_main_cst_3 Cert.Reference27Ideal.Read.val_main_v18 Cert.Reference27Ideal.Read.val_main_v17 Cert.Reference27Ideal.Read.val_main_v16 Cert.Reference27Ideal.Read.val_main_v15 Cert.Reference27Ideal.Read.val_main_v14 Cert.Reference27Ideal.Read.val_main_v13 Cert.Reference27Ideal.Read.val_main_v12 Cert.Reference27Ideal.Read.val_main_v11 Cert.Reference27Ideal.Read.val_main_v7 Cert.Reference27Ideal.Read.val_main_v6 Cert.Reference27Ideal.Read.val_main_v5 Cert.Reference27Ideal.Read.val_main_cst_1 Cert.Reference27Ideal.Read.val_main_v4 Cert.Reference27Ideal.Read.val_main_v3 Cert.Reference27Ideal.Read.val_main_cst_0 Cert.Reference27Ideal.Read.val_main_v2 Cert.Reference27Ideal.Read.val_main_v1 Cert.Reference27Ideal.Read.val_main_cst Cert.Reference27Ideal.Read.val_main_v0
  pointwise [k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  refine Eq.trans ?_ (Fin.sum_univ_one (M := EReal) _).symm
  refine Fin.sum_mul_add_congr fun s k hl => ?_
  blk_point [iblk, V, idx t, idx ⟨_, Pipeline.run_point_lt_of_flush t hm s⟩]

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v0_0) =
        Cert.Reference27Ideal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) =
        Cert.Reference27Ideal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_2) =
        Cert.Reference27Ideal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_3) =
        Cert.Reference27Ideal.Read.val_main_v42 (F := Ideal) (m ((c : Thread nD τ).loc main_arg0)) (m ((c : Thread nD τ).loc main_arg1)) (m ((c : Thread nD τ).loc main_arg2)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => by
    obtain ⟨h0, h1, h2, h3, h⟩ := h c
    exact ⟨h0.trans (final7 m c), h1.trans (final8 m c), h2.trans (final9 m c), h3.trans (final10 m c), h⟩) (Cert.Kernel27Ideal.Value.run_blocks m ρ)

/-- The reference's frame: its run leaves its arguments, and it has no semaphore. -/
theorem frame_reference : Cert.quiescent_Reference27Ideal := fun m ρ _ =>
  (θ_run Cert.Reference27Ideal.defs _ _).mono (fun r h => ⟨fun c => (h c).2.2.2.2, sem_eq_zero_of_no_sems (by decide) r.2⟩)
    (Cert.Reference27Ideal.Value.run (F := Ideal) m ρ)

/-- The kernel ends with the reference's results, its arguments kept. -/
theorem algebraic : Cert.algebraic_Kernel27Ideal_Reference27Ideal := by
  intro m g m' g' _ hargs
  refine ⟨_, _, _, _, run m g, (θ_run _ _ _).mono (fun r h c => ?_) (Cert.Reference27Ideal.Value.run m' g')⟩
  obtain ⟨h0, h1, h2, h3, h⟩ := h c
  obtain ⟨a0, a1, a2, a3, a4, a5, a6⟩ := hargs c
  refine ⟨h0.trans ?_, h1.trans ?_, h2.trans ?_, h3.trans ?_, h⟩
  · rw [Cert.Reference27Ideal.Read.val_main_v57_eq, a0, a1, a2, a3, a4, a5, a6]
  · rw [Cert.Reference27Ideal.Read.val_main_v80_eq, a0, a1, a2, a3, a4, a5, a6]
  · rw [Cert.Reference27Ideal.Read.val_main_v65_eq, a0, a1, a2, a3, a4, a5, a6]
  · rw [Cert.Reference27Ideal.Read.val_main_v42_eq, a0, a1, a2, a5, a6]

end Cert.MidNormDx

end
-- ==== Proof.LastNormDx.lean ====
/-
  The backward pass of the last layer's closing norm and residual: the gradients by the residual stream, by the layer's result and by the gain.
-/
module

public import proofs.«01_k».proof.Defs
public import proofs.«01_k».proof.Proof.Gen.Kernel28.Frame
public import proofs.«01_k».proof.Proof.Gen.Reference28Ideal.Run
public import proofs.«01_k».proof.Proof.Gen.Kernel28Ideal.Value
public import proofs.«01_k».proof.Proof.Gen.Reference28Ideal.Read
public import Idealize.ShloMosaic.Lib.Pipeline.ValueKit
public import Idealize.ShloMosaic.Lib.Pipeline.ReadBack

@[expose] public section

set_option maxRecDepth 16384

noncomputable section

namespace Cert.LastNormDx

open Cert.Kernel28Ideal Cert.Kernel28Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val, 0] ∧ win0_1.index t = ![t.val, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![t.val, 0] ∧ win0_2.index t = ![t.val, 0] ∧ win0_3.index t = ![0, 0] ∧ win0_4.index t = ![t.val, 0] ∧ win0_5.index t = ![t.val, 0] ∧ win0_6.index t = ![0, 0]) t

/-- What a point leaves in the block of the gradient by the residual stream. -/
theorem out4 (c : Dev nD) (t : Fin cfg0.N) : (outsAt0 m c t.val t.isLt).1 =
    (iblk m c 2 t) := by
  by_cases h0 : t.val % 16 = 0
  · rw [outsAt0_A m c t h0]
    frame_out
  · rw [outsAt0_B m c t h0]
    frame_out

/-- The array of the gradient by the residual stream after the run. -/
theorem final4 (c : Dev nD) : (dats m 0 c).arrAt 4 cfg0.N =
    m ((c : Thread nD τ).loc main_arg3) := by
  refine (dats m 0 c).arrAt_eq_of_covers 4 _ (by decide +kernel) fun t hf y => ?_
  blk_simp
  rw [after0_4, out4]
  blk_point [iblk, V, idx t]

/-- What a point leaves in the block of the gradient by the layer's result. -/
theorem out5 (c : Dev nD) (t : Fin cfg0.N) : (outsAt0 m c t.val t.isLt).2.1 =
    k0_pay7 (F := Ideal) (iblk m c 1 t) (iblk m c 2 t) (iblk m c 3 t) := by
  by_cases h0 : t.val % 16 = 0
  · rw [outsAt0_A m c t h0]
    frame_out
  · rw [outsAt0_B m c t h0]
    frame_out

/-- The array of the gradient by the layer's result after the run. -/
theorem final5 (c : Dev nD) : (dats m 0 c).arrAt 5 cfg0.N =
    Cert.Reference28Ideal.Read.val_main_v40 (F := Ideal) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, out5]
  unfold Cert.Reference28Ideal.Read.val_main_v40 Cert.Reference28Ideal.Read.val_main_v39 Cert.Reference28Ideal.Read.val_main_v38 Cert.Reference28Ideal.Read.val_main_v37 Cert.Reference28Ideal.Read.val_main_v36 Cert.Reference28Ideal.Read.val_main_v35 Cert.Reference28Ideal.Read.val_main_v34 Cert.Reference28Ideal.Read.val_main_cst_7 Cert.Reference28Ideal.Read.val_main_v33 Cert.Reference28Ideal.Read.val_main_v32 Cert.Reference28Ideal.Read.val_main_cst_6 Cert.Reference28Ideal.Read.val_main_v31 Cert.Reference28Ideal.Read.val_main_v30 Cert.Reference28Ideal.Read.val_main_v29 Cert.Reference28Ideal.Read.val_main_v28 Cert.Reference28Ideal.Read.val_main_v27 Cert.Reference28Ideal.Read.val_main_cst_5 Cert.Reference28Ideal.Read.val_main_v26 Cert.Reference28Ideal.Read.val_main_v23 Cert.Reference28Ideal.Read.val_main_v22 Cert.Reference28Ideal.Read.val_main_v18 Cert.Reference28Ideal.Read.val_main_v14 Cert.Reference28Ideal.Read.val_main_v13 Cert.Reference28Ideal.Read.val_main_v10 Cert.Reference28Ideal.Read.val_main_v9 Cert.Reference28Ideal.Read.val_main_cst_2 Cert.Reference28Ideal.Read.val_main_v8 Cert.Reference28Ideal.Read.val_main_v7 Cert.Reference28Ideal.Read.val_main_v6 Cert.Reference28Ideal.Read.val_main_v5 Cert.Reference28Ideal.Read.val_main_cst_1 Cert.Reference28Ideal.Read.val_main_v4 Cert.Reference28Ideal.Read.val_main_v3 Cert.Reference28Ideal.Read.val_main_cst_0 Cert.Reference28Ideal.Read.val_main_v2 Cert.Reference28Ideal.Read.val_main_v1 Cert.Reference28Ideal.Read.val_main_cst Cert.Reference28Ideal.Read.val_main_v0
  pointwise [k0_pay7, k0_pay6, k0_pay5, k0_pay4, k0_pay3, k0_pay2, k0_pay1]
  blk_point [iblk, V, idx t]

/-- What a point's block adds to the gradient by the gain. -/
def part6 (c : Dev nD) (t : Fin cfg0.N) : FVec Ideal S1x2048 .f32 :=
  k0_pay6 (iblk m c 1 t) (iblk m c 2 t)

theorem acc6_first (c : Dev nD) (t : Fin cfg0.N) (h : t.val % 16 = 0) (j : S1x2048.Idx) :
    (outsAt0 m c t.val t.isLt).2.2 j = 0 + part6 m c t j := by
  rw [outsAt0_A m c t h]
  frame_out
  unfold part6
  pointwise [k0_pay2, k0_pay1]

theorem acc6_next (c : Dev nD) (t : Fin cfg0.N) (h : ¬t.val % 16 = 0) (j : S1x2048.Idx) :
    (outsAt0 m c t.val t.isLt).2.2 j = (outsAt0 m c (t.val - 1) (Nat.lt_of_le_of_lt (Nat.sub_le _ _) t.isLt)).2.2 j + part6 m c t j := by
  rw [outsAt0_B m c t h]
  frame_out
  unfold part6
  pointwise [k0_pay2]

/-- The array of the gradient by the gain after the run. -/
theorem final6 (c : Dev nD) : (dats m 0 c).arrAt 6 cfg0.N =
    Cert.Reference28Ideal.Read.val_main_v25 (F := Ideal) (m ((c : Thread nD τ).loc main_arg1)) (m ((c : Thread nD τ).loc main_arg3)) := by
  refine (dats m 0 c).arrAt_eq_of_covers 6 _ (by decide +kernel) fun t hf y => ?_
  have hm : t.val % 16 = 15 := (flush0_6 t).mp hf
  blk_simp
  rw [after0_6]
  refine (Pipeline.eq_sum_fin_of_reset_step_apply_of_flush (fun n h => (outsAt0 m c n h).2.2) 16 (fun _ => 0) (part6 m c)
    (acc6_first m c) (acc6_next m c) t hm y).trans ?_
  simp only [zero_add]
  unfold part6 Cert.Reference28Ideal.Read.val_main_v25 Cert.Reference28Ideal.Read.val_main_v24 Cert.Reference28Ideal.Read.val_main_cst_4 Cert.Reference28Ideal.Read.val_main_v21 Cert.Reference28Ideal.Read.val_main_v20 Cert.Reference28Ideal.Read.val_main_cst_3 Cert.Reference28Ideal.Read.val_main_v19 Cert.Reference28Ideal.Read.val_main_v18 Cert.Reference28Ideal.Read.val_main_v12 Cert.Reference28Ideal.Read.val_main_v11 Cert.Reference28Ideal.Read.val_main_v7 Cert.Reference28Ideal.Read.val_main_v6 Cert.Reference28Ideal.Read.val_main_v5 Cert.Reference28Ideal.Read.val_main_cst_1 Cert.Reference28Ideal.Read.val_main_v4 Cert.Reference28Ideal.Read.val_main_v3 Cert.Reference28Ideal.Read.val_main_cst_0 Cert.Reference28Ideal.Read.val_main_v2 Cert.Reference28Ideal.Read.val_main_v1 Cert.Reference28Ideal.Read.val_main_cst Cert.Reference28Ideal.Read.val_main_v0
  pointwise [k0_pay7, k0_pay6, k0_pay5, k0_pay4, k0_pay3, k0_pay2, k0_pay1]
  refine Eq.trans ?_ (Fin.sum_univ_one (M := EReal) _).symm
  refine Fin.sum_mul_add_congr fun s k hl => ?_
  blk_point [iblk, V, idx t, idx ⟨_, Pipeline.run_point_lt_of_flush t hm s⟩]

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v0_0) =
        m ((c : Thread nD τ).loc main_arg3)
      ∧ r.2.mem ((c : Thread nD τ).loc main_v0_1) =
        Cert.Reference28Ideal.Read.val_main_v40 (F := Ideal) (m ((c : Thread nD τ).loc main_arg1)) (m ((c : Thread nD τ).loc main_arg2)) (m ((c : Thread nD τ).loc main_arg3))
      ∧ r.2.mem ((c : Thread nD τ).loc main_v0_2) =
        Cert.Reference28Ideal.Read.val_main_v25 (F := Ideal) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h⟩ := h c
    exact ⟨h0.trans (final4 m c), h1.trans (final5 m c), h2.trans (final6 m c), h⟩) (Cert.Kernel28Ideal.Value.run_blocks m ρ)

/-- The reference's frame: its run leaves its arguments, and it has no semaphore. -/
theorem frame_reference : Cert.quiescent_Reference28Ideal := fun m ρ _ =>
  (θ_run Cert.Reference28Ideal.defs _ _).mono (fun r h => ⟨fun c => (h c).2.2.2, sem_eq_zero_of_no_sems (by decide) r.2⟩)
    (Cert.Reference28Ideal.Value.run (F := Ideal) m ρ)

/-- The kernel ends with the reference's results, its arguments kept. -/
theorem algebraic : Cert.algebraic_Kernel28Ideal_Reference28Ideal := by
  intro m g m' g' _ hargs
  refine ⟨_, _, _, run m g, (θ_run _ _ _).mono (fun r h c => ?_) (Cert.Reference28Ideal.Value.run m' g')⟩
  obtain ⟨h0, h1, h2, h⟩ := h c
  obtain ⟨a0, a1, a2, a3⟩ := hargs c
  refine ⟨h0.trans ?_, h1.trans ?_, h2.trans ?_, h⟩
  · rw [a3]
  · rw [Cert.Reference28Ideal.Read.val_main_v40_eq, a1, a2, a3]
  · exact (Cert.Reference28Ideal.Read.val_main_v25_eq _ _).trans (by rw [a1, a3])

end Cert.LastNormDx

end
-- ==== Proof.LayerNormDx.lean ====
/-
  The backward pass of the Conformer module's layer norm and SiLU: the gradients by the input, by the gain and by the shift.
-/
module

public import proofs.«01_k».proof.Defs
public import proofs.«01_k».proof.Proof.Gen.Kernel29.Frame
public import proofs.«01_k».proof.Proof.Gen.Reference29Ideal.Run
public import proofs.«01_k».proof.Proof.Gen.Kernel29Ideal.Value
public import proofs.«01_k».proof.Proof.Gen.Reference29Ideal.Read
public import Idealize.ShloMosaic.Lib.Pipeline.ValueKit
public import Idealize.ShloMosaic.Lib.Pipeline.ReadBack

@[expose] public section

set_option maxRecDepth 16384

noncomputable section

namespace Cert.LayerNormDx

open Cert.Kernel29Ideal Cert.Kernel29Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val, 0] ∧ win0_1.index t = ![t.val, 0] ∧ win0_2.index t = ![0, 0] ∧ win0_3.index t = ![0, 0] ∧ win0_4.index t = ![t.val, 0] ∧ win0_5.index t = ![0, 0] ∧ win0_6.index t = ![0, 0] :=
  (by decide +kernel : ∀ t : Fin grid0.N, win0_0.index t = ![t.val, 0] ∧ win0_1.index t = ![t.val, 0] ∧ win0_2.index t = ![0, 0] ∧ win0_3.index t = ![0, 0] ∧ win0_4.index t = ![t.val, 0] ∧ win0_5.index t = ![0, 0] ∧ win0_6.index t = ![0, 0]) t

/-- What a point leaves in the block of the gradient by the input. -/
theorem out4 (c : Dev nD) (t : Fin cfg0.N) : (outsAt0 m c t.val t.isLt).1 =
    k0_pay10 (F := Ideal) (k0_pay1 (iblk m c 0 t)) (k0_pay3 (iblk m c 0 t)) (k0_pay4 (iblk m c 0 t)) (k0_pay9 (iblk m c 0 t) (iblk m c 1 t) (iblk m c 2 t) (iblk m c 3 t)) := by
  by_cases h0 : t.val % 16 = 0
  · rw [outsAt0_A m c t h0]
    frame_out
  · rw [outsAt0_B m c t h0]
    frame_out

/-- The array of the gradient by the input after the run. -/
theorem final4 (c : Dev nD) : (dats m 0 c).arrAt 4 cfg0.N =
    Cert.Reference29Ideal.Read.val_main_v61 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, out4]
  unfold Cert.Reference29Ideal.Read.val_main_v61 Cert.Reference29Ideal.Read.val_main_v60 Cert.Reference29Ideal.Read.val_main_v59 Cert.Reference29Ideal.Read.val_main_cst_14 Cert.Reference29Ideal.Read.val_main_v58 Cert.Reference29Ideal.Read.val_main_v57 Cert.Reference29Ideal.Read.val_main_cst_13 Cert.Reference29Ideal.Read.val_main_v56 Cert.Reference29Ideal.Read.val_main_v55 Cert.Reference29Ideal.Read.val_main_cst_12 Cert.Reference29Ideal.Read.val_main_v54 Cert.Reference29Ideal.Read.val_main_v53 Cert.Reference29Ideal.Read.val_main_v52 Cert.Reference29Ideal.Read.val_main_v51 Cert.Reference29Ideal.Read.val_main_v50 Cert.Reference29Ideal.Read.val_main_v49 Cert.Reference29Ideal.Read.val_main_v48 Cert.Reference29Ideal.Read.val_main_cst_11 Cert.Reference29Ideal.Read.val_main_v47 Cert.Reference29Ideal.Read.val_main_v46 Cert.Reference29Ideal.Read.val_main_cst_10 Cert.Reference29Ideal.Read.val_main_v45 Cert.Reference29Ideal.Read.val_main_v44 Cert.Reference29Ideal.Read.val_main_v43 Cert.Reference29Ideal.Read.val_main_v42 Cert.Reference29Ideal.Read.val_main_v41 Cert.Reference29Ideal.Read.val_main_cst_9 Cert.Reference29Ideal.Read.val_main_v40 Cert.Reference29Ideal.Read.val_main_v37 Cert.Reference29Ideal.Read.val_main_v36 Cert.Reference29Ideal.Read.val_main_v28 Cert.Reference29Ideal.Read.val_main_call1_v2 Cert.Reference29Ideal.Read.val_main_call1_v1 Cert.Reference29Ideal.Read.val_main_call1_v0 Cert.Reference29Ideal.Read.val_main_v27_1 Cert.Reference29Ideal.Read.val_main_call0_v7 Cert.Reference29Ideal.Read.val_main_call0_v6 Cert.Reference29Ideal.Read.val_main_call0_cst_1 Cert.Reference29Ideal.Read.val_main_v27_2 Cert.Reference29Ideal.Read.val_main_call0_v4 Cert.Reference29Ideal.Read.val_main_call0_cst_0 Cert.Reference29Ideal.Read.val_main_call0_v3 Cert.Reference29Ideal.Read.val_main_call0_v2 Cert.Reference29Ideal.Read.val_main_call0_cst Cert.Reference29Ideal.Read.val_main_call0_v1 Cert.Reference29Ideal.Read.val_main_call0_v0 Cert.Reference29Ideal.Read.val_main_v26 Cert.Reference29Ideal.Read.val_main_v25 Cert.Reference29Ideal.Read.val_main_v24 Cert.Reference29Ideal.Read.val_main_v23 Cert.Reference29Ideal.Read.val_main_v22 Cert.Reference29Ideal.Read.val_main_v21 Cert.Reference29Ideal.Read.val_main_v20 Cert.Reference29Ideal.Read.val_main_v19 Cert.Reference29Ideal.Read.val_main_v18 Cert.Reference29Ideal.Read.val_main_v17 Cert.Reference29Ideal.Read.val_main_v16 Cert.Reference29Ideal.Read.val_main_v15 Cert.Reference29Ideal.Read.val_main_cst_4 Cert.Reference29Ideal.Read.val_main_v14 Cert.Reference29Ideal.Read.val_main_v13 Cert.Reference29Ideal.Read.val_main_v12 Cert.Reference29Ideal.Read.val_main_v11 Cert.Reference29Ideal.Read.val_main_cst_3 Cert.Reference29Ideal.Read.val_main_v10 Cert.Reference29Ideal.Read.val_main_v9 Cert.Reference29Ideal.Read.val_main_cst_2 Cert.Reference29Ideal.Read.val_main_v8 Cert.Reference29Ideal.Read.val_main_v7 Cert.Reference29Ideal.Read.val_main_cst_1 Cert.Reference29Ideal.Read.val_main_v6 Cert.Reference29Ideal.Read.val_main_v5 Cert.Reference29Ideal.Read.val_main_v4 Cert.Reference29Ideal.Read.val_main_v3 Cert.Reference29Ideal.Read.val_main_v2 Cert.Reference29Ideal.Read.val_main_cst_0 Cert.Reference29Ideal.Read.val_main_v1 Cert.Reference29Ideal.Read.val_main_v0 Cert.Reference29Ideal.Read.val_main_cst
  pointwise [k0_pay14, k0_pay13, k0_pay12, k0_pay11, k0_pay10, k0_pay9, k0_pay8, k0_pay7, k0_pay6, k0_pay5, k0_pay4, k0_pay3, k0_pay2, k0_pay1, Ideal.logistic]
  simp only [zero_sub (G := EReal)]
  blk_point [iblk, V, idx t]

/-- What a point's block adds to the gradient by the gain. -/
def part5 (c : Dev nD) (t : Fin cfg0.N) : FVec Ideal S1x2048 .f32 :=
  k0_pay8 (iblk m c 0 t) (iblk m c 1 t) (iblk m c 2 t) (iblk m c 3 t)

theorem acc5_first (c : Dev nD) (t : Fin cfg0.N) (h : t.val % 16 = 0) (j : S1x2048.Idx) :
    (outsAt0 m c t.val t.isLt).2.1 j = 0 + part5 m c t j := by
  rw [outsAt0_A m c t h]
  frame_out
  unfold part5
  pointwise [k0_pay13, k0_pay11]

theorem acc5_next (c : Dev nD) (t : Fin cfg0.N) (h : ¬t.val % 16 = 0) (j : S1x2048.Idx) :
    (outsAt0 m c t.val t.isLt).2.1 j = (outsAt0 m c (t.val - 1) (Nat.lt_of_le_of_lt (Nat.sub_le _ _) t.isLt)).2.1 j + part5 m c t j := by
  rw [outsAt0_B m c t h]
  frame_out
  unfold part5
  pointwise [k0_pay13]

/-- The array of the gradient by the gain after the run. -/
theorem final5 (c : Dev nD) : (dats m 0 c).arrAt 5 cfg0.N =
    Cert.Reference29Ideal.Read.val_main_v39 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hm : t.val % 16 = 15 := (flush0_5 t).mp hf
  blk_simp
  rw [after0_5]
  refine (Pipeline.eq_sum_fin_of_reset_step_apply_of_flush (fun n h => (outsAt0 m c n h).2.1) 16 (fun _ => 0) (part5 m c)
    (acc5_first m c) (acc5_next m c) t hm y).trans ?_
  simp only [zero_add]
  unfold part5 Cert.Reference29Ideal.Read.val_main_v39 Cert.Reference29Ideal.Read.val_main_v38 Cert.Reference29Ideal.Read.val_main_cst_8 Cert.Reference29Ideal.Read.val_main_v35 Cert.Reference29Ideal.Read.val_main_v34 Cert.Reference29Ideal.Read.val_main_cst_7 Cert.Reference29Ideal.Read.val_main_v33 Cert.Reference29Ideal.Read.val_main_v28 Cert.Reference29Ideal.Read.val_main_call1_v2 Cert.Reference29Ideal.Read.val_main_call1_v1 Cert.Reference29Ideal.Read.val_main_call1_v0 Cert.Reference29Ideal.Read.val_main_v27_1 Cert.Reference29Ideal.Read.val_main_call0_v7 Cert.Reference29Ideal.Read.val_main_call0_v6 Cert.Reference29Ideal.Read.val_main_call0_cst_1 Cert.Reference29Ideal.Read.val_main_v27_2 Cert.Reference29Ideal.Read.val_main_call0_v4 Cert.Reference29Ideal.Read.val_main_call0_cst_0 Cert.Reference29Ideal.Read.val_main_call0_v3 Cert.Reference29Ideal.Read.val_main_call0_v2 Cert.Reference29Ideal.Read.val_main_call0_cst Cert.Reference29Ideal.Read.val_main_call0_v1 Cert.Reference29Ideal.Read.val_main_call0_v0 Cert.Reference29Ideal.Read.val_main_v26 Cert.Reference29Ideal.Read.val_main_v25 Cert.Reference29Ideal.Read.val_main_v24 Cert.Reference29Ideal.Read.val_main_v23 Cert.Reference29Ideal.Read.val_main_v22 Cert.Reference29Ideal.Read.val_main_v21 Cert.Reference29Ideal.Read.val_main_v20 Cert.Reference29Ideal.Read.val_main_v19 Cert.Reference29Ideal.Read.val_main_v18 Cert.Reference29Ideal.Read.val_main_v17 Cert.Reference29Ideal.Read.val_main_v13 Cert.Reference29Ideal.Read.val_main_v12 Cert.Reference29Ideal.Read.val_main_v11 Cert.Reference29Ideal.Read.val_main_cst_3 Cert.Reference29Ideal.Read.val_main_v10 Cert.Reference29Ideal.Read.val_main_v9 Cert.Reference29Ideal.Read.val_main_cst_2 Cert.Reference29Ideal.Read.val_main_v8 Cert.Reference29Ideal.Read.val_main_v7 Cert.Reference29Ideal.Read.val_main_cst_1 Cert.Reference29Ideal.Read.val_main_v6 Cert.Reference29Ideal.Read.val_main_v5 Cert.Reference29Ideal.Read.val_main_v4 Cert.Reference29Ideal.Read.val_main_v3 Cert.Reference29Ideal.Read.val_main_v2 Cert.Reference29Ideal.Read.val_main_cst_0 Cert.Reference29Ideal.Read.val_main_v1 Cert.Reference29Ideal.Read.val_main_v0 Cert.Reference29Ideal.Read.val_main_cst
  pointwise [k0_pay14, k0_pay13, k0_pay12, k0_pay11, k0_pay10, k0_pay9, k0_pay8, k0_pay7, k0_pay6, k0_pay5, k0_pay4, k0_pay3, k0_pay2, k0_pay1, Ideal.logistic]
  refine Eq.trans ?_ (Fin.sum_univ_one (M := EReal) _).symm
  refine Fin.sum_mul_add_congr fun s k hl => ?_
  blk_point [iblk, V, idx t, idx ⟨_, Pipeline.run_point_lt_of_flush t hm s⟩]

/-- What a point's block adds to the gradient by the shift. -/
def part6 (c : Dev nD) (t : Fin cfg0.N) : FVec Ideal S1x2048 .f32 :=
  k0_pay7 (iblk m c 0 t) (iblk m c 1 t) (iblk m c 2 t) (iblk m c 3 t)

theorem acc6_first (c : Dev nD) (t : Fin cfg0.N) (h : t.val % 16 = 0) (j : S1x2048.Idx) :
    (outsAt0 m c t.val t.isLt).2.2 j = 0 + part6 m c t j := by
  rw [outsAt0_A m c t h]
  frame_out
  unfold part6
  pointwise [k0_pay14, k0_pay12]

theorem acc6_next (c : Dev nD) (t : Fin cfg0.N) (h : ¬t.val % 16 = 0) (j : S1x2048.Idx) :
    (outsAt0 m c t.val t.isLt).2.2 j = (outsAt0 m c (t.val - 1) (Nat.lt_of_le_of_lt (Nat.sub_le _ _) t.isLt)).2.2 j + part6 m c t j := by
  rw [outsAt0_B m c t h]
  frame_out
  unfold part6
  pointwise [k0_pay14]

/-- The array of the gradient by the shift after the run. -/
theorem final6 (c : Dev nD) : (dats m 0 c).arrAt 6 cfg0.N =
    Cert.Reference29Ideal.Read.val_main_v32 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have hm : t.val % 16 = 15 := (flush0_6 t).mp hf
  blk_simp
  rw [after0_6]
  refine (Pipeline.eq_sum_fin_of_reset_step_apply_of_flush (fun n h => (outsAt0 m c n h).2.2) 16 (fun _ => 0) (part6 m c)
    (acc6_first m c) (acc6_next m c) t hm y).trans ?_
  simp only [zero_add]
  unfold part6 Cert.Reference29Ideal.Read.val_main_v32 Cert.Reference29Ideal.Read.val_main_v31 Cert.Reference29Ideal.Read.val_main_cst_6 Cert.Reference29Ideal.Read.val_main_v30 Cert.Reference29Ideal.Read.val_main_v29 Cert.Reference29Ideal.Read.val_main_cst_5 Cert.Reference29Ideal.Read.val_main_v28 Cert.Reference29Ideal.Read.val_main_call1_v2 Cert.Reference29Ideal.Read.val_main_call1_v1 Cert.Reference29Ideal.Read.val_main_call1_v0 Cert.Reference29Ideal.Read.val_main_v27_1 Cert.Reference29Ideal.Read.val_main_call0_v7 Cert.Reference29Ideal.Read.val_main_call0_v6 Cert.Reference29Ideal.Read.val_main_call0_cst_1 Cert.Reference29Ideal.Read.val_main_v27_2 Cert.Reference29Ideal.Read.val_main_call0_v4 Cert.Reference29Ideal.Read.val_main_call0_cst_0 Cert.Reference29Ideal.Read.val_main_call0_v3 Cert.Reference29Ideal.Read.val_main_call0_v2 Cert.Reference29Ideal.Read.val_main_call0_cst Cert.Reference29Ideal.Read.val_main_call0_v1 Cert.Reference29Ideal.Read.val_main_call0_v0 Cert.Reference29Ideal.Read.val_main_v26 Cert.Reference29Ideal.Read.val_main_v25 Cert.Reference29Ideal.Read.val_main_v24 Cert.Reference29Ideal.Read.val_main_v23 Cert.Reference29Ideal.Read.val_main_v22 Cert.Reference29Ideal.Read.val_main_v21 Cert.Reference29Ideal.Read.val_main_v20 Cert.Reference29Ideal.Read.val_main_v19 Cert.Reference29Ideal.Read.val_main_v18 Cert.Reference29Ideal.Read.val_main_v17 Cert.Reference29Ideal.Read.val_main_v13 Cert.Reference29Ideal.Read.val_main_v12 Cert.Reference29Ideal.Read.val_main_v11 Cert.Reference29Ideal.Read.val_main_cst_3 Cert.Reference29Ideal.Read.val_main_v10 Cert.Reference29Ideal.Read.val_main_v9 Cert.Reference29Ideal.Read.val_main_cst_2 Cert.Reference29Ideal.Read.val_main_v8 Cert.Reference29Ideal.Read.val_main_v7 Cert.Reference29Ideal.Read.val_main_cst_1 Cert.Reference29Ideal.Read.val_main_v6 Cert.Reference29Ideal.Read.val_main_v5 Cert.Reference29Ideal.Read.val_main_v4 Cert.Reference29Ideal.Read.val_main_v3 Cert.Reference29Ideal.Read.val_main_v2 Cert.Reference29Ideal.Read.val_main_cst_0 Cert.Reference29Ideal.Read.val_main_v1 Cert.Reference29Ideal.Read.val_main_v0 Cert.Reference29Ideal.Read.val_main_cst
  pointwise [k0_pay14, k0_pay13, k0_pay12, k0_pay11, k0_pay10, k0_pay9, k0_pay8, k0_pay7, k0_pay6, k0_pay5, k0_pay4, k0_pay3, k0_pay2, k0_pay1, Ideal.logistic]
  refine Eq.trans ?_ (Fin.sum_univ_one (M := EReal) _).symm
  refine Fin.sum_mul_add_congr fun s k hl => ?_
  blk_point [iblk, V, idx t, idx ⟨_, Pipeline.run_point_lt_of_flush t hm s⟩]

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v0_0) =
        Cert.Reference29Ideal.Read.val_main_v61 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v0_1) =
        Cert.Reference29Ideal.Read.val_main_v39 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v0_2) =
        Cert.Reference29Ideal.Read.val_main_v32 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h⟩ := h c
    exact ⟨h0.trans (final4 m c), h1.trans (final5 m c), h2.trans (final6 m c), h⟩) (Cert.Kernel29Ideal.Value.run_blocks m ρ)

/-- The reference's frame: its run leaves its arguments, and it has no semaphore. -/
theorem frame_reference : Cert.quiescent_Reference29Ideal := fun m ρ _ =>
  (θ_run Cert.Reference29Ideal.defs _ _).mono (fun r h => ⟨fun c => (h c).2.2.2, sem_eq_zero_of_no_sems (by decide) r.2⟩)
    (Cert.Reference29Ideal.Value.run (F := Ideal) m ρ)

/-- The kernel ends with the reference's results, its arguments kept. -/
theorem algebraic : Cert.algebraic_Kernel29Ideal_Reference29Ideal := by
  intro m g m' g' _ hargs
  refine ⟨_, _, _, run m g, (θ_run _ _ _).mono (fun r h c => ?_) (Cert.Reference29Ideal.Value.run m' g')⟩
  obtain ⟨h0, h1, h2, h⟩ := h c
  obtain ⟨a0, a1, a2, a3⟩ := hargs c
  refine ⟨h0.trans ?_, h1.trans ?_, h2.trans ?_, h⟩
  · rw [Cert.Reference29Ideal.Read.val_main_v61_eq, a0, a1, a2, a3]
  · rw [Cert.Reference29Ideal.Read.val_main_v39_eq, a0, a1, a2, a3]
  · rw [Cert.Reference29Ideal.Read.val_main_v32_eq, a0, a1, a2, a3]

end Cert.LayerNormDx

end
-- ==== Proof.GluDx.lean ====
/-
  The backward pass of the Conformer module's gated linear unit: the gradients by its two halves and by the two halves of its bias.
-/
module

public import proofs.«01_k».proof.Defs
public import proofs.«01_k».proof.Proof.Gen.Kernel30.Frame
public import proofs.«01_k».proof.Proof.Gen.Reference30Ideal.Run
public import proofs.«01_k».proof.Proof.Gen.Kernel30Ideal.Value
public import proofs.«01_k».proof.Proof.Gen.Reference30Ideal.Read
public import Idealize.ShloMosaic.Lib.Pipeline.ValueKit
public import Idealize.ShloMosaic.Lib.Pipeline.ReadBack

@[expose] public section

set_option maxRecDepth 16384

noncomputable section

namespace Cert.GluDx

open Cert.Kernel30Ideal Cert.Kernel30Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val % 16, t.val / 16] ∧ win0_1.index t = ![t.val % 16, t.val / 16 + 4] ∧ win0_2.index t = ![t.val % 16, t.val / 16] ∧ win0_3.index t = ![0, t.val / 16] ∧ win0_4.index t = ![0, t.val / 16 + 4] ∧ win0_5.index t = ![t.val % 16, t.val / 16] ∧ win0_6.index t = ![t.val % 16, t.val / 16] ∧ win0_7.index t = ![0, t.val / 16] ∧ win0_8.index t = ![0, t.val / 16] :=
  (by decide +kernel : ∀ t : Fin grid0.N, win0_0.index t = ![t.val % 16, t.val / 16] ∧ win0_1.index t = ![t.val % 16, t.val / 16 + 4] ∧ win0_2.index t = ![t.val % 16, t.val / 16] ∧ win0_3.index t = ![0, t.val / 16] ∧ win0_4.index t = ![0, t.val / 16 + 4] ∧ win0_5.index t = ![t.val % 16, t.val / 16] ∧ win0_6.index t = ![t.val % 16, t.val / 16] ∧ win0_7.index t = ![0, t.val / 16] ∧ win0_8.index t = ![0, t.val / 16]) t

/-- What a point leaves in the block of the gradient by the first half. -/
theorem out5 (c : Dev nD) (t : Fin cfg0.N) : (outsAt0 m c t.val t.isLt).1 =
    k0_pay6 (F := Ideal) (iblk m c 1 t) (iblk m c 2 t) (iblk m c 4 t) := by
  by_cases h0 : t.val % 16 = 0
  · rw [outsAt0_A m c t h0]
    frame_out
  · rw [outsAt0_B m c t h0]
    frame_out

/-- The array of the gradient by the first half after the run. -/
theorem final5 (c : Dev nD) : (dats m 0 c).arrAt 5 cfg0.N =
    Cert.Reference30Ideal.Read.val_main_v25 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, out5]
  unfold Cert.Reference30Ideal.Read.val_main_v25 Cert.Reference30Ideal.Read.val_main_v19 Cert.Reference30Ideal.Read.val_main_v13 Cert.Reference30Ideal.Read.val_main_v12 Cert.Reference30Ideal.Read.val_main_cst_0 Cert.Reference30Ideal.Read.val_main_v11 Cert.Reference30Ideal.Read.val_main_v10 Cert.Reference30Ideal.Read.val_main_cst Cert.Reference30Ideal.Read.val_main_v9 Cert.Reference30Ideal.Read.val_main_v8 Cert.Reference30Ideal.Read.val_main_v7 Cert.Reference30Ideal.Read.val_main_v6 Cert.Reference30Ideal.Read.val_main_v3 Cert.Reference30Ideal.Read.val_main_v1
  pointwise [k0_pay10, k0_pay9, k0_pay8, k0_pay7, k0_pay6, k0_pay5, k0_pay4, k0_pay3, k0_pay2, k0_pay1, Ideal.logistic]
  blk_point [iblk, V, idx t]

/-- What a point leaves in the block of the gradient by the second half. -/
theorem out6 (c : Dev nD) (t : Fin cfg0.N) : (outsAt0 m c t.val t.isLt).2.1 =
    k0_pay7 (F := Ideal) (iblk m c 0 t) (iblk m c 1 t) (iblk m c 2 t) (iblk m c 3 t) (iblk m c 4 t) := by
  by_cases h0 : t.val % 16 = 0
  · rw [outsAt0_A m c t h0]
    frame_out
  · rw [outsAt0_B m c t h0]
    frame_out

/-- The array of the gradient by the second half after the run. -/
theorem final6 (c : Dev nD) : (dats m 0 c).arrAt 6 cfg0.N =
    Cert.Reference30Ideal.Read.val_main_v26 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, out6]
  unfold Cert.Reference30Ideal.Read.val_main_v26 Cert.Reference30Ideal.Read.val_main_v20 Cert.Reference30Ideal.Read.val_main_v18 Cert.Reference30Ideal.Read.val_main_v16 Cert.Reference30Ideal.Read.val_main_v15 Cert.Reference30Ideal.Read.val_main_v14 Cert.Reference30Ideal.Read.val_main_cst_1 Cert.Reference30Ideal.Read.val_main_v13 Cert.Reference30Ideal.Read.val_main_v12 Cert.Reference30Ideal.Read.val_main_cst_0 Cert.Reference30Ideal.Read.val_main_v11 Cert.Reference30Ideal.Read.val_main_v10 Cert.Reference30Ideal.Read.val_main_cst Cert.Reference30Ideal.Read.val_main_v9 Cert.Reference30Ideal.Read.val_main_v8 Cert.Reference30Ideal.Read.val_main_v7 Cert.Reference30Ideal.Read.val_main_v6 Cert.Reference30Ideal.Read.val_main_v5 Cert.Reference30Ideal.Read.val_main_v4 Cert.Reference30Ideal.Read.val_main_v3 Cert.Reference30Ideal.Read.val_main_v2 Cert.Reference30Ideal.Read.val_main_v1 Cert.Reference30Ideal.Read.val_main_v0
  pointwise [k0_pay10, k0_pay9, k0_pay8, k0_pay7, k0_pay6, k0_pay5, k0_pay4, k0_pay3, k0_pay2, k0_pay1, Ideal.logistic]
  blk_point [iblk, V, idx t]

/-- What a point's block adds to the gradient by the first half of the bias. -/
def part7 (c : Dev nD) (t : Fin cfg0.N) (j : S1x512.Idx) : EReal :=
  ∑ r : Fin 128, k0_pay3 (F := Ideal) (iblk m c 1 t) (iblk m c 2 t) (iblk m c 4 t) (ix2 r (j 1))

theorem acc7_first (c : Dev nD) (t : Fin cfg0.N) (h : t.val % 16 = 0) (j : S1x512.Idx) :
    (outsAt0 m c t.val t.isLt).2.2.1 j = 0 + part7 m c t j := by
  rw [outsAt0_A m c t h]
  frame_out
  unfold part7
  pointwise [k0_pay10, k0_pay8]

theorem acc7_next (c : Dev nD) (t : Fin cfg0.N) (h : ¬t.val % 16 = 0) (j : S1x512.Idx) :
    (outsAt0 m c t.val t.isLt).2.2.1 j = (outsAt0 m c (t.val - 1) (Nat.lt_of_le_of_lt (Nat.sub_le _ _) t.isLt)).2.2.1 j + part7 m c t j := by
  rw [outsAt0_B m c t h]
  frame_out
  unfold part7
  pointwise [k0_pay10]

/-- The array of the gradient by the first half of the bias after the run. -/
theorem final7 (c : Dev nD) : (dats m 0 c).arrAt 7 cfg0.N =
    Cert.Reference30Ideal.Read.val_main_v24 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  have hm : t.val % 16 = 15 := (flush0_7 t).mp hf
  blk_simp
  rw [after0_7]
  refine (Pipeline.eq_sum_fin_of_reset_step_apply_of_flush (fun n h => (outsAt0 m c n h).2.2.1) 16 (fun _ => 0) (part7 m c)
    (acc7_first m c) (acc7_next m c) t hm y).trans ?_
  simp only [zero_add]
  unfold part7 Cert.Reference30Ideal.Read.val_main_v24 Cert.Reference30Ideal.Read.val_main_v23 Cert.Reference30Ideal.Read.val_main_cst_3 Cert.Reference30Ideal.Read.val_main_v19 Cert.Reference30Ideal.Read.val_main_v13 Cert.Reference30Ideal.Read.val_main_v12 Cert.Reference30Ideal.Read.val_main_cst_0 Cert.Reference30Ideal.Read.val_main_v11 Cert.Reference30Ideal.Read.val_main_v10 Cert.Reference30Ideal.Read.val_main_cst Cert.Reference30Ideal.Read.val_main_v9 Cert.Reference30Ideal.Read.val_main_v8 Cert.Reference30Ideal.Read.val_main_v7 Cert.Reference30Ideal.Read.val_main_v6 Cert.Reference30Ideal.Read.val_main_v3 Cert.Reference30Ideal.Read.val_main_v1
  pointwise [k0_pay10, k0_pay9, k0_pay8, k0_pay7, k0_pay6, k0_pay5, k0_pay4, k0_pay3, k0_pay2, k0_pay1, Ideal.logistic]
  refine Fin.sum_mul_add_congr fun s k hl => ?_
  blk_point [iblk, V, idx t, idx ⟨_, Pipeline.run_point_lt_of_flush t hm s⟩]

/-- What a point's block adds to the gradient by the second half of the bias. -/
def part8 (c : Dev nD) (t : Fin cfg0.N) (j : S1x512.Idx) : EReal :=
  ∑ r : Fin 128, k0_pay4 (F := Ideal) (iblk m c 0 t) (iblk m c 1 t) (iblk m c 2 t) (iblk m c 3 t) (iblk m c 4 t) (ix2 r (j 1))

theorem acc8_first (c : Dev nD) (t : Fin cfg0.N) (h : t.val % 16 = 0) (j : S1x512.Idx) :
    (outsAt0 m c t.val t.isLt).2.2.2 j = 0 + part8 m c t j := by
  rw [outsAt0_A m c t h]
  frame_out
  unfold part8
  pointwise [k0_pay1, k0_pay5, k0_pay9]

theorem acc8_next (c : Dev nD) (t : Fin cfg0.N) (h : ¬t.val % 16 = 0) (j : S1x512.Idx) :
    (outsAt0 m c t.val t.isLt).2.2.2 j = (outsAt0 m c (t.val - 1) (Nat.lt_of_le_of_lt (Nat.sub_le _ _) t.isLt)).2.2.2 j + part8 m c t j := by
  rw [outsAt0_B m c t h]
  frame_out
  unfold part8
  pointwise [k0_pay1, k0_pay5]

/-- The array of the gradient by the second half of the bias after the run. -/
theorem final8 (c : Dev nD) : (dats m 0 c).arrAt 8 cfg0.N =
    Cert.Reference30Ideal.Read.val_main_v22 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  have hm : t.val % 16 = 15 := (flush0_8 t).mp hf
  blk_simp
  rw [after0_8]
  refine (Pipeline.eq_sum_fin_of_reset_step_apply_of_flush (fun n h => (outsAt0 m c n h).2.2.2) 16 (fun _ => 0) (part8 m c)
    (acc8_first m c) (acc8_next m c) t hm y).trans ?_
  simp only [zero_add]
  unfold part8 Cert.Reference30Ideal.Read.val_main_v22 Cert.Reference30Ideal.Read.val_main_v21 Cert.Reference30Ideal.Read.val_main_cst_2 Cert.Reference30Ideal.Read.val_main_v20 Cert.Reference30Ideal.Read.val_main_v18 Cert.Reference30Ideal.Read.val_main_v16 Cert.Reference30Ideal.Read.val_main_v15 Cert.Reference30Ideal.Read.val_main_v14 Cert.Reference30Ideal.Read.val_main_cst_1 Cert.Reference30Ideal.Read.val_main_v13 Cert.Reference30Ideal.Read.val_main_v12 Cert.Reference30Ideal.Read.val_main_cst_0 Cert.Reference30Ideal.Read.val_main_v11 Cert.Reference30Ideal.Read.val_main_v10 Cert.Reference30Ideal.Read.val_main_cst Cert.Reference30Ideal.Read.val_main_v9 Cert.Reference30Ideal.Read.val_main_v8 Cert.Reference30Ideal.Read.val_main_v7 Cert.Reference30Ideal.Read.val_main_v6 Cert.Reference30Ideal.Read.val_main_v5 Cert.Reference30Ideal.Read.val_main_v4 Cert.Reference30Ideal.Read.val_main_v3 Cert.Reference30Ideal.Read.val_main_v2 Cert.Reference30Ideal.Read.val_main_v1 Cert.Reference30Ideal.Read.val_main_v0
  pointwise [k0_pay10, k0_pay9, k0_pay8, k0_pay7, k0_pay6, k0_pay5, k0_pay4, k0_pay3, k0_pay2, k0_pay1, Ideal.logistic]
  refine Fin.sum_mul_add_congr fun s k hl => ?_
  blk_point [iblk, V, idx t, idx ⟨_, Pipeline.run_point_lt_of_flush t hm s⟩]

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v0_0) =
        Cert.Reference30Ideal.Read.val_main_v25 (F := Ideal) (m ((c : Thread nD τ).loc main_arg0)) (m ((c : Thread nD τ).loc main_arg1)) (m ((c : Thread nD τ).loc main_arg2))
      ∧ r.2.mem ((c : Thread nD τ).loc main_v0_1) =
        Cert.Reference30Ideal.Read.val_main_v26 (F := Ideal) (m ((c : Thread nD τ).loc main_arg0)) (m ((c : Thread nD τ).loc main_arg1)) (m ((c : Thread nD τ).loc main_arg2))
      ∧ r.2.mem ((c : Thread nD τ).loc main_v0_2) =
        Cert.Reference30Ideal.Read.val_main_v24 (F := Ideal) (m ((c : Thread nD τ).loc main_arg0)) (m ((c : Thread nD τ).loc main_arg1)) (m ((c : Thread nD τ).loc main_arg2))
      ∧ r.2.mem ((c : Thread nD τ).loc main_v0_3) =
        Cert.Reference30Ideal.Read.val_main_v22 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by
    obtain ⟨h0, h1, h2, h3, h⟩ := h c
    exact ⟨h0.trans (final5 m c), h1.trans (final6 m c), h2.trans (final7 m c), h3.trans (final8 m c), h⟩) (Cert.Kernel30Ideal.Value.run_blocks m ρ)

/-- The reference's frame: its run leaves its arguments, and it has no semaphore. -/
theorem frame_reference : Cert.quiescent_Reference30Ideal := fun m ρ _ =>
  (θ_run Cert.Reference30Ideal.defs _ _).mono (fun r h => ⟨fun c => (h c).2.2.2.2, sem_eq_zero_of_no_sems (by decide) r.2⟩)
    (Cert.Reference30Ideal.Value.run (F := Ideal) m ρ)

/-- The kernel ends with the reference's results, its arguments kept. -/
theorem algebraic : Cert.algebraic_Kernel30Ideal_Reference30Ideal := by
  intro m g m' g' _ hargs
  refine ⟨_, _, _, _, run m g, (θ_run _ _ _).mono (fun r h c => ?_) (Cert.Reference30Ideal.Value.run m' g')⟩
  obtain ⟨h0, h1, h2, h3, h⟩ := h c
  obtain ⟨a0, a1, a2⟩ := hargs c
  refine ⟨h0.trans ?_, h1.trans ?_, h2.trans ?_, h3.trans ?_, h⟩
  · rw [Cert.Reference30Ideal.Read.val_main_v25_eq, a0, a1, a2]
  · rw [Cert.Reference30Ideal.Read.val_main_v26_eq, a0, a1, a2]
  · rw [Cert.Reference30Ideal.Read.val_main_v24_eq, a0, a1, a2]
  · rw [Cert.Reference30Ideal.Read.val_main_v22_eq, a0, a1, a2]

end Cert.GluDx

end
-- ==== Proof.OutProj.lean ====
/-
  The output projection: the result's array after the run is the reference's product, the four chips' rows summed one after another.
-/
module

public import proofs.«01_k».proof.Defs
public import proofs.«01_k».proof.Proof.Gen.Kernel31.Frame
public import proofs.«01_k».proof.Proof.Gen.Reference31Ideal.Run
public import proofs.«01_k».proof.Proof.Gen.Kernel31Ideal.Value
public import proofs.«01_k».proof.Proof.Gen.Reference31Ideal.Read
public import Idealize.ShloMosaic.Lib.Pipeline.ValueKit
public import Idealize.ShloMosaic.Lib.Pipeline.ReadBack

@[expose] public section

set_option maxRecDepth 16384

noncomputable section

namespace Cert.OutProj

open Cert.Kernel31Ideal Cert.Kernel31Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val / 8, t.val % 4] ∧ win0_1.index t = ![t.val % 4, 0, 0, t.val / 4 % 2] ∧ win0_2.index t = ![t.val / 8, t.val / 4 % 2] :=
  (by decide +kernel : ∀ t : Fin grid0.N, win0_0.index t = ![t.val / 8, t.val % 4] ∧ win0_1.index t = ![t.val % 4, 0, 0, t.val / 4 % 2] ∧ win0_2.index t = ![t.val / 8, t.val / 4 % 2]) t

/-- The product of one block of columns with one block of rows. -/
def part (a : FVec Ideal S1024x1024 .bf16) (b : FVec Ideal S1x1x1024x1024 .bf16) (j : S1024x1024.Idx) : EReal :=
  ∑ k : Fin 1024, a (ix2 (j 0) k) * b (ix4 0 0 k (j 1))

/-- What the first point of a run of 4 leaves. -/
theorem pay1 (a : FVec Ideal S1024x1024 .bf16) (b : FVec Ideal S1x1x1024x1024 .bf16) (j : S1024x1024.Idx) :
    k0_pay1 (F := Ideal) a b j = 0 + part a b j := by
  unfold part
  rw [zero_add]
  pointwise [k0_pay1]

/-- What a middle point of a run adds. -/
theorem pay2 (acc : FVec Ideal S1024x1024 .f32) (a : FVec Ideal S1024x1024 .bf16) (b : FVec Ideal S1x1x1024x1024 .bf16) (j : S1024x1024.Idx) :
    k0_pay2 (F := Ideal) acc a b j = acc j + part a b j := by
  unfold part
  pointwise [k0_pay2]

/-- What the last point of a run adds. -/
theorem pay3 (acc : FVec Ideal S1024x1024 .f32) (a : FVec Ideal S1024x1024 .bf16) (b : FVec Ideal S1x1x1024x1024 .bf16) (j : S1024x1024.Idx) :
    k0_pay3 (F := Ideal) acc a b j = acc j + part a b j := by
  unfold part
  pointwise [k0_pay3]

/-- The sum a point leaves: in the result's block at the last of its run, in the scratch before. -/
def acc (c : Dev nD) (n : ℕ) (h : n < cfg0.N) : S1024x1024.Idx → EReal :=
  if n % 4 = 3 then (outsAt0 m c n h).1 else (outsAt0 m c n h).2

theorem acc_first (c : Dev nD) (t : Fin cfg0.N) (h : t.val % 4 = 0) (j : S1024x1024.Idx) :
    acc m c t.val t.isLt j = 0 + part (iblk m c 0 t) (iblk m c 1 t) j := by
  unfold acc
  rw [if_neg (by omega), outsAt0_A m c t h (by omega) (by omega)]
  frame_out
  exact pay1 _ _ _

theorem acc_next (c : Dev nD) (t : Fin cfg0.N) (h : ¬t.val % 4 = 0) (j : S1024x1024.Idx) :
    acc m c t.val t.isLt j = acc m c (t.val - 1) (Nat.lt_of_le_of_lt (Nat.sub_le _ _) t.isLt) j + part (iblk m c 0 t) (iblk m c 1 t) j := by
  unfold acc
  rw [if_neg (c := (t.val - 1) % 4 = 3) (by omega)]
  by_cases h3 : t.val % 4 = 3
  · rw [if_pos h3, outsAt0_C m c t h (by omega) h3]
    frame_out
    simp only [read_unread_whole]
    exact pay3 _ _ _ _
  · rw [if_neg h3, outsAt0_B m c t h (by omega) h3]
    frame_out
    simp only [read_unread_whole]
    exact pay2 _ _ _ _

/-- The result's array after the run. -/
theorem final (c : Dev nD) : (dats m 0 c).arrAt 2 cfg0.N =
    Cert.Reference31Ideal.Read.val_main_v1 (F := Ideal) (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  blk_simp
  rw [after0_2]
  have e := Pipeline.eq_sum_fin_of_reset_step_apply_of_flush (fun n h => acc m c n h) 4 (fun _ => 0) (fun t j => part (iblk m c 0 t) (iblk m c 1 t) j)
    (acc_first m c) (acc_next m c) t hm y
  simp only [acc, if_pos hm, zero_add] at e
  refine Eq.trans e ?_
  clear e
  unfold part Cert.Reference31Ideal.Read.val_main_v1 Cert.Reference31Ideal.Read.val_main_v0
  pointwise
  refine Fin.sum_mul_add_congr fun s k hl => ?_
  blk_point [iblk, V, idx t, idx ⟨_, Pipeline.run_point_lt_of_flush t hm s⟩]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v2) =
        Cert.Reference31Ideal.Read.val_main_v1 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel31Ideal.Value.run_blocks m ρ)

/-- The reference's frame: its run leaves its arguments, and it has no semaphore. -/
theorem frame_reference : Cert.quiescent_Reference31Ideal := fun m ρ _ =>
  (θ_run Cert.Reference31Ideal.defs _ _).mono (fun r h => ⟨fun c => (h c).2, sem_eq_zero_of_no_sems (by decide) r.2⟩)
    (Cert.Reference31Ideal.Value.run (F := Ideal) m ρ)

/-- The kernel ends with the reference's result, its arguments kept. -/
theorem algebraic : Cert.algebraic_Kernel31Ideal_Reference31Ideal := by
  intro m g m' g' _ hargs
  refine ⟨_, run m g, (θ_run _ _ _).mono (fun r h c => ?_) (Cert.Reference31Ideal.Value.run m' g')⟩
  obtain ⟨h0, h⟩ := h c
  obtain ⟨a0, a1⟩ := hargs c
  refine ⟨h0.trans ?_, h⟩
  · rw [Cert.Reference31Ideal.Read.val_main_v1_eq, a0, a1]

end Cert.OutProj

end
-- ==== Proof.OutProjDx.lean ====
/-
  The output projection's gradient by its input: the result's array after the run is the reference's product.
-/
module

public import proofs.«01_k».proof.Defs
public import proofs.«01_k».proof.Proof.Gen.Kernel32.Frame
public import proofs.«01_k».proof.Proof.Gen.Reference32Ideal.Run
public import proofs.«01_k».proof.Proof.Gen.Kernel32Ideal.Value
public import proofs.«01_k».proof.Proof.Gen.Reference32Ideal.Read
public import Idealize.ShloMosaic.Lib.Pipeline.ValueKit

@[expose] public section

set_option maxRecDepth 16384

noncomputable section

namespace Cert.OutProjDx

open Cert.Kernel32Ideal Cert.Kernel32Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val / 4, 0] ∧ win0_1.index t = ![t.val % 4, 0, 0, 0] ∧ win0_2.index t = ![t.val / 4, t.val % 4] :=
  (by decide +kernel : ∀ t : Fin grid0.N, win0_0.index t = ![t.val / 4, 0] ∧ win0_1.index t = ![t.val % 4, 0, 0, 0] ∧ win0_2.index t = ![t.val / 4, t.val % 4]) t

/-- The result's array after the run. -/
theorem final (c : Dev nD) : (dats m 0 c).arrAt 2 cfg0.N =
    Cert.Reference32Ideal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Cert.Reference32Ideal.Read.val_main_v3 Cert.Reference32Ideal.Read.val_main_v2
  pointwise [k0_pay1]
  blk_point [iblk, V, idx t]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v2) =
        Cert.Reference32Ideal.Read.val_main_v3 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel32Ideal.Value.run_blocks m ρ)

/-- The reference's frame: its run leaves its arguments, and it has no semaphore. -/
theorem frame_reference : Cert.quiescent_Reference32Ideal := fun m ρ _ =>
  (θ_run Cert.Reference32Ideal.defs _ _).mono (fun r h => ⟨fun c => (h c).2, sem_eq_zero_of_no_sems (by decide) r.2⟩)
    (Cert.Reference32Ideal.Value.run (F := Ideal) m ρ)

/-- The kernel ends with the reference's result, its arguments kept. -/
theorem algebraic : Cert.algebraic_Kernel32Ideal_Reference32Ideal := by
  intro m g m' g' _ hargs
  refine ⟨_, run m g, (θ_run _ _ _).mono (fun r h c => ?_) (Cert.Reference32Ideal.Value.run m' g')⟩
  obtain ⟨h0, h⟩ := h c
  obtain ⟨a0, a1⟩ := hargs c
  refine ⟨h0.trans ?_, h⟩
  · rw [Cert.Reference32Ideal.Read.val_main_v3_eq, a0, a1]

end Cert.OutProjDx

end
-- ==== Proof.OutProjDw.lean ====
/-
  The output projection's gradient by its weights: the result's array after the run is the transposed product of the reference, cut into the chips' rows.
-/
module

public import proofs.«01_k».proof.Defs
public import proofs.«01_k».proof.Proof.Gen.Kernel33.Frame
public import proofs.«01_k».proof.Proof.Gen.Reference33Ideal.Run
public import proofs.«01_k».proof.Proof.Gen.Kernel33Ideal.Value
public import proofs.«01_k».proof.Proof.Gen.Reference33Ideal.Read
public import Idealize.ShloMosaic.Lib.Pipeline.ValueKit

@[expose] public section

set_option maxRecDepth 16384

noncomputable section

namespace Cert.OutProjDw

open Cert.Kernel33Ideal Cert.Kernel33Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![0, t.val / 2] ∧ win0_1.index t = ![0, t.val % 2] ∧ win0_2.index t = ![t.val / 2, 0, t.val % 2] :=
  (by decide +kernel : ∀ t : Fin grid0.N, win0_0.index t = ![0, t.val / 2] ∧ win0_1.index t = ![0, t.val % 2] ∧ win0_2.index t = ![t.val / 2, 0, t.val % 2]) t

/-- The result's array after the run. -/
theorem final (c : Dev nD) : (dats m 0 c).arrAt 2 cfg0.N =
    Cert.Reference33Ideal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Cert.Reference33Ideal.Read.val_main_v7 Cert.Reference33Ideal.Read.val_main_v6 Cert.Reference33Ideal.Read.val_main_v5 Cert.Reference33Ideal.Read.val_main_v4 Cert.Reference33Ideal.Read.val_main_v3 Cert.Reference33Ideal.Read.val_main_v1
  pointwise [k0_pay1]
  refine (Finset.sum_congr (M := EReal) rfl fun k _ => mul_comm (G := EReal) _ _).trans ?_
  blk_point [iblk, V, idx t]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v0) =
        Cert.Reference33Ideal.Read.val_main_v7 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel33Ideal.Value.run_blocks m ρ)

/-- The reference's frame: its run leaves its arguments, and it has no semaphore. -/
theorem frame_reference : Cert.quiescent_Reference33Ideal := fun m ρ _ =>
  (θ_run Cert.Reference33Ideal.defs _ _).mono (fun r h => ⟨fun c => (h c).2, sem_eq_zero_of_no_sems (by decide) r.2⟩)
    (Cert.Reference33Ideal.Value.run (F := Ideal) m ρ)

/-- The kernel ends with the reference's result, its arguments kept. -/
theorem algebraic : Cert.algebraic_Kernel33Ideal_Reference33Ideal := by
  intro m g m' g' _ hargs
  refine ⟨_, run m g, (θ_run _ _ _).mono (fun r h c => ?_) (Cert.Reference33Ideal.Value.run m' g')⟩
  obtain ⟨h0, h⟩ := h c
  obtain ⟨a0, a1⟩ := hargs c
  refine ⟨h0.trans ?_, h⟩
  · rw [Cert.Reference33Ideal.Read.val_main_v7_eq, a0, a1]

end Cert.OutProjDw

end
-- ==== Proof.ConfIn.lean ====
/-
  The Conformer module's first product: the result's array after the run is the reference's product, its blocks read off the blocks of rows and of columns.
-/
module

public import proofs.«01_k».proof.Defs
public import proofs.«01_k».proof.Proof.Gen.Kernel34.Frame
public import proofs.«01_k».proof.Proof.Gen.Reference34Ideal.Run
public import proofs.«01_k».proof.Proof.Gen.Kernel34Ideal.Value
public import proofs.«01_k».proof.Proof.Gen.Reference34Ideal.Read
public import Idealize.ShloMosaic.Lib.Pipeline.ValueKit

@[expose] public section

set_option maxRecDepth 16384

noncomputable section

namespace Cert.ConfIn

open Cert.Kernel34Ideal Cert.Kernel34Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val / 4, 0] ∧ win0_1.index t = ![t.val % 4, 0, 0, 0] ∧ win0_2.index t = ![t.val / 4, t.val % 4] :=
  (by decide +kernel : ∀ t : Fin grid0.N, win0_0.index t = ![t.val / 4, 0] ∧ win0_1.index t = ![t.val % 4, 0, 0, 0] ∧ win0_2.index t = ![t.val / 4, t.val % 4]) t

/-- The result's array after the run. -/
theorem final (c : Dev nD) : (dats m 0 c).arrAt 2 cfg0.N =
    Cert.Reference34Ideal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Cert.Reference34Ideal.Read.val_main_v1 Cert.Reference34Ideal.Read.val_main_v0
  pointwise [k0_pay1]
  blk_point [iblk, V, idx t]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v4) =
        Cert.Reference34Ideal.Read.val_main_v1 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel34Ideal.Value.run_blocks m ρ)

/-- The reference's frame: its run leaves its arguments, and it has no semaphore. -/
theorem frame_reference : Cert.quiescent_Reference34Ideal := fun m ρ _ =>
  (θ_run Cert.Reference34Ideal.defs _ _).mono (fun r h => ⟨fun c => (h c).2, sem_eq_zero_of_no_sems (by decide) r.2⟩)
    (Cert.Reference34Ideal.Value.run (F := Ideal) m ρ)

/-- The kernel ends with the reference's result, its arguments kept. -/
theorem algebraic : Cert.algebraic_Kernel34Ideal_Reference34Ideal := by
  intro m g m' g' _ hargs
  refine ⟨_, run m g, (θ_run _ _ _).mono (fun r h c => ?_) (Cert.Reference34Ideal.Value.run m' g')⟩
  obtain ⟨h0, h⟩ := h c
  obtain ⟨a0, a1⟩ := hargs c
  refine ⟨h0.trans ?_, h⟩
  · rw [Cert.Reference34Ideal.Read.val_main_v1_eq, a0, a1]

end Cert.ConfIn

end
-- ==== Proof.ConfInDx.lean ====
/-
  The gradient of the Conformer module's first product by its input: the result's array after the run is the reference's product, the four chips' columns summed one after another.
-/
module

public import proofs.«01_k».proof.Defs
public import proofs.«01_k».proof.Proof.Gen.Kernel35.Frame
public import proofs.«01_k».proof.Proof.Gen.Reference35Ideal.Run
public import proofs.«01_k».proof.Proof.Gen.Kernel35Ideal.Value
public import proofs.«01_k».proof.Proof.Gen.Reference35Ideal.Read
public import Idealize.ShloMosaic.Lib.Pipeline.ValueKit
public import Idealize.ShloMosaic.Lib.Pipeline.ReadBack

@[expose] public section

set_option maxRecDepth 16384

noncomputable section

namespace Cert.ConfInDx

open Cert.Kernel35Ideal Cert.Kernel35Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val / 8, t.val % 4] ∧ win0_1.index t = ![t.val % 4, 0, t.val / 4 % 2, 0] ∧ win0_2.index t = ![t.val / 8, t.val / 4 % 2] :=
  (by decide +kernel : ∀ t : Fin grid0.N, win0_0.index t = ![t.val / 8, t.val % 4] ∧ win0_1.index t = ![t.val % 4, 0, t.val / 4 % 2, 0] ∧ win0_2.index t = ![t.val / 8, t.val / 4 % 2]) t

/-- The product of one block of rows with one block of columns. -/
def part (a : FVec Ideal S1024x1024 .bf16) (b : FVec Ideal S1x1x1024x1024 .bf16) (j : S1024x1024.Idx) : EReal :=
  ∑ k : Fin 1024, a (ix2 (j 0) k) * b (ix4 0 0 (j 1) k)

/-- What the first point of a run of 4 leaves. -/
theorem pay1 (a : FVec Ideal S1024x1024 .bf16) (b : FVec Ideal S1x1x1024x1024 .bf16) (j : S1024x1024.Idx) :
    k0_pay1 (F := Ideal) a b j = 0 + part a b j := by
  unfold part
  rw [zero_add]
  pointwise [k0_pay1]

/-- What a middle point of a run adds. -/
theorem pay2 (acc : FVec Ideal S1024x1024 .f32) (a : FVec Ideal S1024x1024 .bf16) (b : FVec Ideal S1x1x1024x1024 .bf16) (j : S1024x1024.Idx) :
    k0_pay2 (F := Ideal) acc a b j = acc j + part a b j := by
  unfold part
  pointwise [k0_pay2]

/-- What the last point of a run adds. -/
theorem pay3 (acc : FVec Ideal S1024x1024 .f32) (a : FVec Ideal S1024x1024 .bf16) (b : FVec Ideal S1x1x1024x1024 .bf16) (j : S1024x1024.Idx) :
    k0_pay3 (F := Ideal) acc a b j = acc j + part a b j := by
  unfold part
  pointwise [k0_pay3]

/-- The sum a point leaves: in the result's block at the last of its run, in the scratch before. -/
def acc (c : Dev nD) (n : ℕ) (h : n < cfg0.N) : S1024x1024.Idx → EReal :=
  if n % 4 = 3 then (outsAt0 m c n h).1 else (outsAt0 m c n h).2

theorem acc_first (c : Dev nD) (t : Fin cfg0.N) (h : t.val % 4 = 0) (j : S1024x1024.Idx) :
    acc m c t.val t.isLt j = 0 + part (iblk m c 0 t) (iblk m c 1 t) j := by
  unfold acc
  rw [if_neg (by omega), outsAt0_A m c t h (by omega) (by omega)]
  frame_out
  exact pay1 _ _ _

theorem acc_next (c : Dev nD) (t : Fin cfg0.N) (h : ¬t.val % 4 = 0) (j : S1024x1024.Idx) :
    acc m c t.val t.isLt j = acc m c (t.val - 1) (Nat.lt_of_le_of_lt (Nat.sub_le _ _) t.isLt) j + part (iblk m c 0 t) (iblk m c 1 t) j := by
  unfold acc
  rw [if_neg (c := (t.val - 1) % 4 = 3) (by omega)]
  by_cases h3 : t.val % 4 = 3
  · rw [if_pos h3, outsAt0_C m c t h (by omega) h3]
    frame_out
    simp only [read_unread_whole]
    exact pay3 _ _ _ _
  · rw [if_neg h3, outsAt0_B m c t h (by omega) h3]
    frame_out
    simp only [read_unread_whole]
    exact pay2 _ _ _ _

/-- The result's array after the run. -/
theorem final (c : Dev nD) : (dats m 0 c).arrAt 2 cfg0.N =
    Cert.Reference35Ideal.Read.val_main_v3 (F := Ideal) (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  blk_simp
  rw [after0_2]
  have e := Pipeline.eq_sum_fin_of_reset_step_apply_of_flush (fun n h => acc m c n h) 4 (fun _ => 0) (fun t j => part (iblk m c 0 t) (iblk m c 1 t) j)
    (acc_first m c) (acc_next m c) t hm y
  simp only [acc, if_pos hm, zero_add] at e
  refine Eq.trans e ?_
  clear e
  unfold part Cert.Reference35Ideal.Read.val_main_v3 Cert.Reference35Ideal.Read.val_main_v2
  pointwise
  refine Fin.sum_mul_add_congr fun s k hl => ?_
  blk_point [iblk, V, idx t, idx ⟨_, Pipeline.run_point_lt_of_flush t hm s⟩]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v4) =
        Cert.Reference35Ideal.Read.val_main_v3 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel35Ideal.Value.run_blocks m ρ)

/-- The reference's frame: its run leaves its arguments, and it has no semaphore. -/
theorem frame_reference : Cert.quiescent_Reference35Ideal := fun m ρ _ =>
  (θ_run Cert.Reference35Ideal.defs _ _).mono (fun r h => ⟨fun c => (h c).2, sem_eq_zero_of_no_sems (by decide) r.2⟩)
    (Cert.Reference35Ideal.Value.run (F := Ideal) m ρ)

/-- The kernel ends with the reference's result, its arguments kept. -/
theorem algebraic : Cert.algebraic_Kernel35Ideal_Reference35Ideal := by
  intro m g m' g' _ hargs
  refine ⟨_, run m g, (θ_run _ _ _).mono (fun r h c => ?_) (Cert.Reference35Ideal.Value.run m' g')⟩
  obtain ⟨h0, h⟩ := h c
  obtain ⟨a0, a1⟩ := hargs c
  refine ⟨h0.trans ?_, h⟩
  · rw [Cert.Reference35Ideal.Read.val_main_v3_eq, a0, a1]

end Cert.ConfInDx

end
-- ==== Proof.ConfInDw.lean ====
/-
  The gradient of the Conformer module's first product by its weights: the result's array after the run is the transposed product of the reference, cut into the chips' columns.
-/
module

public import proofs.«01_k».proof.Defs
public import proofs.«01_k».proof.Proof.Gen.Kernel36.Frame
public import proofs.«01_k».proof.Proof.Gen.Reference36Ideal.Run
public import proofs.«01_k».proof.Proof.Gen.Kernel36Ideal.Value
public import proofs.«01_k».proof.Proof.Gen.Reference36Ideal.Read
public import Idealize.ShloMosaic.Lib.Pipeline.ValueKit

@[expose] public section

set_option maxRecDepth 16384

noncomputable section

namespace Cert.ConfInDw

open Cert.Kernel36Ideal Cert.Kernel36Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![0, t.val / 4] ∧ win0_1.index t = ![0, t.val % 4] ∧ win0_2.index t = ![t.val % 4, t.val / 4, 0] :=
  (by decide +kernel : ∀ t : Fin grid0.N, win0_0.index t = ![0, t.val / 4] ∧ win0_1.index t = ![0, t.val % 4] ∧ win0_2.index t = ![t.val % 4, t.val / 4, 0]) t

/-- The result's array after the run. -/
theorem final (c : Dev nD) : (dats m 0 c).arrAt 2 cfg0.N =
    Cert.Reference36Ideal.Read.val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Cert.Reference36Ideal.Read.val_main_v8 Cert.Reference36Ideal.Read.val_main_v7 Cert.Reference36Ideal.Read.val_main_v6 Cert.Reference36Ideal.Read.val_main_v5 Cert.Reference36Ideal.Read.val_main_v4 Cert.Reference36Ideal.Read.val_main_v3 Cert.Reference36Ideal.Read.val_main_v1
  pointwise [k0_pay1]
  refine (Finset.sum_congr (M := EReal) rfl fun k _ => mul_comm (G := EReal) _ _).trans ?_
  blk_point [iblk, V, idx t]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v0) =
        Cert.Reference36Ideal.Read.val_main_v8 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel36Ideal.Value.run_blocks m ρ)

/-- The reference's frame: its run leaves its arguments, and it has no semaphore. -/
theorem frame_reference : Cert.quiescent_Reference36Ideal := fun m ρ _ =>
  (θ_run Cert.Reference36Ideal.defs _ _).mono (fun r h => ⟨fun c => (h c).2, sem_eq_zero_of_no_sems (by decide) r.2⟩)
    (Cert.Reference36Ideal.Value.run (F := Ideal) m ρ)

/-- The kernel ends with the reference's result, its arguments kept. -/
theorem algebraic : Cert.algebraic_Kernel36Ideal_Reference36Ideal := by
  intro m g m' g' _ hargs
  refine ⟨_, run m g, (θ_run _ _ _).mono (fun r h c => ?_) (Cert.Reference36Ideal.Value.run m' g')⟩
  obtain ⟨h0, h⟩ := h c
  obtain ⟨a0, a1⟩ := hargs c
  refine ⟨h0.trans ?_, h⟩
  · rw [Cert.Reference36Ideal.Read.val_main_v8_eq, a0, a1]

end Cert.ConfInDw

end
-- ==== Proof.ConfOut.lean ====
/-
  The Conformer module's last product: the result's array after the run is the reference's product, the four chips' rows summed one after another.
-/
module

public import proofs.«01_k».proof.Defs
public import proofs.«01_k».proof.Proof.Gen.Kernel37.Frame
public import proofs.«01_k».proof.Proof.Gen.Reference37Ideal.Run
public import proofs.«01_k».proof.Proof.Gen.Kernel37Ideal.Value
public import proofs.«01_k».proof.Proof.Gen.Reference37Ideal.Read
public import Idealize.ShloMosaic.Lib.Pipeline.ValueKit
public import Idealize.ShloMosaic.Lib.Pipeline.ReadBack

@[expose] public section

set_option maxRecDepth 16384

noncomputable section

namespace Cert.ConfOut

open Cert.Kernel37Ideal Cert.Kernel37Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val / 8, t.val % 4] ∧ win0_1.index t = ![t.val % 4, 0, 0, t.val / 4 % 2] ∧ win0_2.index t = ![t.val / 8, t.val / 4 % 2] :=
  (by decide +kernel : ∀ t : Fin grid0.N, win0_0.index t = ![t.val / 8, t.val % 4] ∧ win0_1.index t = ![t.val % 4, 0, 0, t.val / 4 % 2] ∧ win0_2.index t = ![t.val / 8, t.val / 4 % 2]) t

/-- The product of one block of columns with one block of rows. -/
def part (a : FVec Ideal S1024x512 .bf16) (b : FVec Ideal S1x1x512x1024 .bf16) (j : S1024x1024.Idx) : EReal :=
  ∑ k : Fin 512, a (ix2 (j 0) k) * b (ix4 0 0 k (j 1))

/-- What the first point of a run of 4 leaves. -/
theorem pay1 (a : FVec Ideal S1024x512 .bf16) (b : FVec Ideal S1x1x512x1024 .bf16) (j : S1024x1024.Idx) :
    k0_pay1 (F := Ideal) a b j = 0 + part a b j := by
  unfold part
  rw [zero_add]
  pointwise [k0_pay1]

/-- What a middle point of a run adds. -/
theorem pay2 (acc : FVec Ideal S1024x1024 .f32) (a : FVec Ideal S1024x512 .bf16) (b : FVec Ideal S1x1x512x1024 .bf16) (j : S1024x1024.Idx) :
    k0_pay2 (F := Ideal) acc a b j = acc j + part a b j := by
  unfold part
  pointwise [k0_pay2]

/-- What the last point of a run adds. -/
theorem pay3 (acc : FVec Ideal S1024x1024 .f32) (a : FVec Ideal S1024x512 .bf16) (b : FVec Ideal S1x1x512x1024 .bf16) (j : S1024x1024.Idx) :
    k0_pay3 (F := Ideal) acc a b j = acc j + part a b j := by
  unfold part
  pointwise [k0_pay3]

/-- The sum a point leaves: in the result's block at the last of its run, in the scratch before. -/
def acc (c : Dev nD) (n : ℕ) (h : n < cfg0.N) : S1024x1024.Idx → EReal :=
  if n % 4 = 3 then (outsAt0 m c n h).1 else (outsAt0 m c n h).2

theorem acc_first (c : Dev nD) (t : Fin cfg0.N) (h : t.val % 4 = 0) (j : S1024x1024.Idx) :
    acc m c t.val t.isLt j = 0 + part (iblk m c 0 t) (iblk m c 1 t) j := by
  unfold acc
  rw [if_neg (by omega), outsAt0_A m c t h (by omega) (by omega)]
  frame_out
  exact pay1 _ _ _

theorem acc_next (c : Dev nD) (t : Fin cfg0.N) (h : ¬t.val % 4 = 0) (j : S1024x1024.Idx) :
    acc m c t.val t.isLt j = acc m c (t.val - 1) (Nat.lt_of_le_of_lt (Nat.sub_le _ _) t.isLt) j + part (iblk m c 0 t) (iblk m c 1 t) j := by
  unfold acc
  rw [if_neg (c := (t.val - 1) % 4 = 3) (by omega)]
  by_cases h3 : t.val % 4 = 3
  · rw [if_pos h3, outsAt0_C m c t h (by omega) h3]
    frame_out
    simp only [read_unread_whole]
    exact pay3 _ _ _ _
  · rw [if_neg h3, outsAt0_B m c t h (by omega) h3]
    frame_out
    simp only [read_unread_whole]
    exact pay2 _ _ _ _

/-- The result's array after the run. -/
theorem final (c : Dev nD) : (dats m 0 c).arrAt 2 cfg0.N =
    Cert.Reference37Ideal.Read.val_main_v1 (F := Ideal) (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  blk_simp
  rw [after0_2]
  have e := Pipeline.eq_sum_fin_of_reset_step_apply_of_flush (fun n h => acc m c n h) 4 (fun _ => 0) (fun t j => part (iblk m c 0 t) (iblk m c 1 t) j)
    (acc_first m c) (acc_next m c) t hm y
  simp only [acc, if_pos hm, zero_add] at e
  refine Eq.trans e ?_
  clear e
  unfold part Cert.Reference37Ideal.Read.val_main_v1 Cert.Reference37Ideal.Read.val_main_v0
  pointwise
  refine Fin.sum_mul_add_congr fun s k hl => ?_
  blk_point [iblk, V, idx t, idx ⟨_, Pipeline.run_point_lt_of_flush t hm s⟩]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v2) =
        Cert.Reference37Ideal.Read.val_main_v1 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel37Ideal.Value.run_blocks m ρ)

/-- The reference's frame: its run leaves its arguments, and it has no semaphore. -/
theorem frame_reference : Cert.quiescent_Reference37Ideal := fun m ρ _ =>
  (θ_run Cert.Reference37Ideal.defs _ _).mono (fun r h => ⟨fun c => (h c).2, sem_eq_zero_of_no_sems (by decide) r.2⟩)
    (Cert.Reference37Ideal.Value.run (F := Ideal) m ρ)

/-- The kernel ends with the reference's result, its arguments kept. -/
theorem algebraic : Cert.algebraic_Kernel37Ideal_Reference37Ideal := by
  intro m g m' g' _ hargs
  refine ⟨_, run m g, (θ_run _ _ _).mono (fun r h c => ?_) (Cert.Reference37Ideal.Value.run m' g')⟩
  obtain ⟨h0, h⟩ := h c
  obtain ⟨a0, a1⟩ := hargs c
  refine ⟨h0.trans ?_, h⟩
  · rw [Cert.Reference37Ideal.Read.val_main_v1_eq, a0, a1]

end Cert.ConfOut

end
-- ==== Proof.ConfOutDx.lean ====
/-
  The gradient of the Conformer module's last product by its input: the result's array after the run is the reference's product.
-/
module

public import proofs.«01_k».proof.Defs
public import proofs.«01_k».proof.Proof.Gen.Kernel38.Frame
public import proofs.«01_k».proof.Proof.Gen.Reference38Ideal.Run
public import proofs.«01_k».proof.Proof.Gen.Kernel38Ideal.Value
public import proofs.«01_k».proof.Proof.Gen.Reference38Ideal.Read
public import Idealize.ShloMosaic.Lib.Pipeline.ValueKit

@[expose] public section

set_option maxRecDepth 16384

noncomputable section

namespace Cert.ConfOutDx

open Cert.Kernel38Ideal Cert.Kernel38Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val / 4, 0] ∧ win0_1.index t = ![t.val % 4, 0, 0, 0] ∧ win0_2.index t = ![t.val / 4, t.val % 4] :=
  (by decide +kernel : ∀ t : Fin grid0.N, win0_0.index t = ![t.val / 4, 0] ∧ win0_1.index t = ![t.val % 4, 0, 0, 0] ∧ win0_2.index t = ![t.val / 4, t.val % 4]) t

/-- The result's array after the run. -/
theorem final (c : Dev nD) : (dats m 0 c).arrAt 2 cfg0.N =
    Cert.Reference38Ideal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Cert.Reference38Ideal.Read.val_main_v3 Cert.Reference38Ideal.Read.val_main_v2
  pointwise [k0_pay1]
  blk_point [iblk, V, idx t]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v2) =
        Cert.Reference38Ideal.Read.val_main_v3 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel38Ideal.Value.run_blocks m ρ)

/-- The reference's frame: its run leaves its arguments, and it has no semaphore. -/
theorem frame_reference : Cert.quiescent_Reference38Ideal := fun m ρ _ =>
  (θ_run Cert.Reference38Ideal.defs _ _).mono (fun r h => ⟨fun c => (h c).2, sem_eq_zero_of_no_sems (by decide) r.2⟩)
    (Cert.Reference38Ideal.Value.run (F := Ideal) m ρ)

/-- The kernel ends with the reference's result, its arguments kept. -/
theorem algebraic : Cert.algebraic_Kernel38Ideal_Reference38Ideal := by
  intro m g m' g' _ hargs
  refine ⟨_, run m g, (θ_run _ _ _).mono (fun r h c => ?_) (Cert.Reference38Ideal.Value.run m' g')⟩
  obtain ⟨h0, h⟩ := h c
  obtain ⟨a0, a1⟩ := hargs c
  refine ⟨h0.trans ?_, h⟩
  · rw [Cert.Reference38Ideal.Read.val_main_v3_eq, a0, a1]

end Cert.ConfOutDx

end
-- ==== Proof.ConfOutDw.lean ====
/-
  The gradient of the Conformer module's last product by its weights: the result's array after the run is the transposed product of the reference, cut into the chips' rows.
-/
module

public import proofs.«01_k».proof.Defs
public import proofs.«01_k».proof.Proof.Gen.Kernel39.Frame
public import proofs.«01_k».proof.Proof.Gen.Reference39Ideal.Run
public import proofs.«01_k».proof.Proof.Gen.Kernel39Ideal.Value
public import proofs.«01_k».proof.Proof.Gen.Reference39Ideal.Read
public import Idealize.ShloMosaic.Lib.Pipeline.ValueKit

@[expose] public section

set_option maxRecDepth 16384

noncomputable section

namespace Cert.ConfOutDw

open Cert.Kernel39Ideal Cert.Kernel39Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![0, t.val / 2] ∧ win0_1.index t = ![0, t.val % 2] ∧ win0_2.index t = ![t.val / 2, 0, t.val % 2] :=
  (by decide +kernel : ∀ t : Fin grid0.N, win0_0.index t = ![0, t.val / 2] ∧ win0_1.index t = ![0, t.val % 2] ∧ win0_2.index t = ![t.val / 2, 0, t.val % 2]) t

/-- The result's array after the run. -/
theorem final (c : Dev nD) : (dats m 0 c).arrAt 2 cfg0.N =
    Cert.Reference39Ideal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Cert.Reference39Ideal.Read.val_main_v7 Cert.Reference39Ideal.Read.val_main_v6 Cert.Reference39Ideal.Read.val_main_v5 Cert.Reference39Ideal.Read.val_main_v4 Cert.Reference39Ideal.Read.val_main_v3 Cert.Reference39Ideal.Read.val_main_v1
  pointwise [k0_pay1]
  refine (Finset.sum_congr (M := EReal) rfl fun k _ => mul_comm (G := EReal) _ _).trans ?_
  blk_point [iblk, V, idx t]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v0) =
        Cert.Reference39Ideal.Read.val_main_v7 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel39Ideal.Value.run_blocks m ρ)

/-- The reference's frame: its run leaves its arguments, and it has no semaphore. -/
theorem frame_reference : Cert.quiescent_Reference39Ideal := fun m ρ _ =>
  (θ_run Cert.Reference39Ideal.defs _ _).mono (fun r h => ⟨fun c => (h c).2, sem_eq_zero_of_no_sems (by decide) r.2⟩)
    (Cert.Reference39Ideal.Value.run (F := Ideal) m ρ)

/-- The kernel ends with the reference's result, its arguments kept. -/
theorem algebraic : Cert.algebraic_Kernel39Ideal_Reference39Ideal := by
  intro m g m' g' _ hargs
  refine ⟨_, run m g, (θ_run _ _ _).mono (fun r h c => ?_) (Cert.Reference39Ideal.Value.run m' g')⟩
  obtain ⟨h0, h⟩ := h c
  obtain ⟨a0, a1⟩ := hargs c
  refine ⟨h0.trans ?_, h⟩
  · rw [Cert.Reference39Ideal.Read.val_main_v7_eq, a0, a1]

end Cert.ConfOutDw

end
-- ==== Proof.TimeProj.lean ====
/-
  The projection to the time steps' columns: the result's array after the run is the reference's product.
-/
module

public import proofs.«01_k».proof.Defs
public import proofs.«01_k».proof.Proof.Gen.Kernel40.Frame
public import proofs.«01_k».proof.Proof.Gen.Reference40Ideal.Run
public import proofs.«01_k».proof.Proof.Gen.Kernel40Ideal.Value
public import proofs.«01_k».proof.Proof.Gen.Reference40Ideal.Read
public import Idealize.ShloMosaic.Lib.Pipeline.ValueKit

@[expose] public section

set_option maxRecDepth 16384

noncomputable section

namespace Cert.TimeProj

open Cert.Kernel40Ideal Cert.Kernel40Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val, 0] ∧ win0_1.index t = ![0, 0, 0, 0] ∧ win0_2.index t = ![t.val, 0] :=
  (by decide +kernel : ∀ t : Fin grid0.N, win0_0.index t = ![t.val, 0] ∧ win0_1.index t = ![0, 0, 0, 0] ∧ win0_2.index t = ![t.val, 0]) t

/-- The result's array after the run. -/
theorem final (c : Dev nD) : (dats m 0 c).arrAt 2 cfg0.N =
    Cert.Reference40Ideal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Cert.Reference40Ideal.Read.val_main_v1 Cert.Reference40Ideal.Read.val_main_v0
  pointwise [k0_pay1]
  blk_point [iblk, V, idx t]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v2) =
        Cert.Reference40Ideal.Read.val_main_v1 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel40Ideal.Value.run_blocks m ρ)

/-- The reference's frame: its run leaves its arguments, and it has no semaphore. -/
theorem frame_reference : Cert.quiescent_Reference40Ideal := fun m ρ _ =>
  (θ_run Cert.Reference40Ideal.defs _ _).mono (fun r h => ⟨fun c => (h c).2, sem_eq_zero_of_no_sems (by decide) r.2⟩)
    (Cert.Reference40Ideal.Value.run (F := Ideal) m ρ)

/-- The kernel ends with the reference's result, its arguments kept. -/
theorem algebraic : Cert.algebraic_Kernel40Ideal_Reference40Ideal := by
  intro m g m' g' _ hargs
  refine ⟨_, run m g, (θ_run _ _ _).mono (fun r h c => ?_) (Cert.Reference40Ideal.Value.run m' g')⟩
  obtain ⟨h0, h⟩ := h c
  obtain ⟨a0, a1⟩ := hargs c
  refine ⟨h0.trans ?_, h⟩
  · rw [Cert.Reference40Ideal.Read.val_main_v1_eq, a0, a1]

end Cert.TimeProj

end
-- ==== Proof.TimeProjDx.lean ====
/-
  The time steps' projection's gradient by its input: the result's array after the run is the reference's product.
-/
module

public import proofs.«01_k».proof.Defs
public import proofs.«01_k».proof.Proof.Gen.Kernel41.Frame
public import proofs.«01_k».proof.Proof.Gen.Reference41Ideal.Run
public import proofs.«01_k».proof.Proof.Gen.Kernel41Ideal.Value
public import proofs.«01_k».proof.Proof.Gen.Reference41Ideal.Read
public import Idealize.ShloMosaic.Lib.Pipeline.ValueKit

@[expose] public section

set_option maxRecDepth 16384

noncomputable section

namespace Cert.TimeProjDx

open Cert.Kernel41Ideal Cert.Kernel41Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val / 2, 0] ∧ win0_1.index t = ![0, 0, t.val % 2, 0] ∧ win0_2.index t = ![t.val / 2, t.val % 2] :=
  (by decide +kernel : ∀ t : Fin grid0.N, win0_0.index t = ![t.val / 2, 0] ∧ win0_1.index t = ![0, 0, t.val % 2, 0] ∧ win0_2.index t = ![t.val / 2, t.val % 2]) t

/-- The result's array after the run. -/
theorem final (c : Dev nD) : (dats m 0 c).arrAt 2 cfg0.N =
    Cert.Reference41Ideal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Cert.Reference41Ideal.Read.val_main_v2
  pointwise [k0_pay1]
  blk_point [iblk, V, idx t]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v2) =
        Cert.Reference41Ideal.Read.val_main_v2 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel41Ideal.Value.run_blocks m ρ)

/-- The reference's frame: its run leaves its arguments, and it has no semaphore. -/
theorem frame_reference : Cert.quiescent_Reference41Ideal := fun m ρ _ =>
  (θ_run Cert.Reference41Ideal.defs _ _).mono (fun r h => ⟨fun c => (h c).2, sem_eq_zero_of_no_sems (by decide) r.2⟩)
    (Cert.Reference41Ideal.Value.run (F := Ideal) m ρ)

/-- The kernel ends with the reference's result, its arguments kept. -/
theorem algebraic : Cert.algebraic_Kernel41Ideal_Reference41Ideal := by
  intro m g m' g' _ hargs
  refine ⟨_, run m g, (θ_run _ _ _).mono (fun r h c => ?_) (Cert.Reference41Ideal.Value.run m' g')⟩
  obtain ⟨h0, h⟩ := h c
  obtain ⟨a0, a1⟩ := hargs c
  refine ⟨h0.trans ?_, h⟩
  · rw [Cert.Reference41Ideal.Read.val_main_v2_eq, a0, a1]

end Cert.TimeProjDx

end
-- ==== Proof.TimeProjDw.lean ====
/-
  The time steps' projection's gradient by its weights: the result's array after the run is the transposed product of the reference.
-/
module

public import proofs.«01_k».proof.Defs
public import proofs.«01_k».proof.Proof.Gen.Kernel42.Frame
public import proofs.«01_k».proof.Proof.Gen.Reference42Ideal.Run
public import proofs.«01_k».proof.Proof.Gen.Kernel42Ideal.Value
public import proofs.«01_k».proof.Proof.Gen.Reference42Ideal.Read
public import Idealize.ShloMosaic.Lib.Pipeline.ValueKit

@[expose] public section

set_option maxRecDepth 16384

noncomputable section

namespace Cert.TimeProjDw

open Cert.Kernel42Ideal Cert.Kernel42Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![0, t.val] ∧ win0_1.index t = ![0, 0] ∧ win0_2.index t = ![0, t.val, 0] :=
  (by decide +kernel : ∀ t : Fin grid0.N, win0_0.index t = ![0, t.val] ∧ win0_1.index t = ![0, 0] ∧ win0_2.index t = ![0, t.val, 0]) t

/-- The result's array after the run. -/
theorem final (c : Dev nD) : (dats m 0 c).arrAt 2 cfg0.N =
    Cert.Reference42Ideal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Cert.Reference42Ideal.Read.val_main_v6 Cert.Reference42Ideal.Read.val_main_v5 Cert.Reference42Ideal.Read.val_main_v4 Cert.Reference42Ideal.Read.val_main_v3 Cert.Reference42Ideal.Read.val_main_v1
  pointwise [k0_pay1]
  refine (Finset.sum_congr (M := EReal) rfl fun k _ => mul_comm (G := EReal) _ _).trans ?_
  blk_point [iblk, V, idx t]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v0) =
        Cert.Reference42Ideal.Read.val_main_v6 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel42Ideal.Value.run_blocks m ρ)

/-- The reference's frame: its run leaves its arguments, and it has no semaphore. -/
theorem frame_reference : Cert.quiescent_Reference42Ideal := fun m ρ _ =>
  (θ_run Cert.Reference42Ideal.defs _ _).mono (fun r h => ⟨fun c => (h c).2, sem_eq_zero_of_no_sems (by decide) r.2⟩)
    (Cert.Reference42Ideal.Value.run (F := Ideal) m ρ)

/-- The kernel ends with the reference's result, its arguments kept. -/
theorem algebraic : Cert.algebraic_Kernel42Ideal_Reference42Ideal := by
  intro m g m' g' _ hargs
  refine ⟨_, run m g, (θ_run _ _ _).mono (fun r h c => ?_) (Cert.Reference42Ideal.Value.run m' g')⟩
  obtain ⟨h0, h⟩ := h c
  obtain ⟨a0, a1⟩ := hargs c
  refine ⟨h0.trans ?_, h⟩
  · rw [Cert.Reference42Ideal.Read.val_main_v6_eq, a0, a1]

end Cert.TimeProjDw

end
-- ==== Proof.PreNorm.lean ====
/-
  The first norm: the result's array after the run is the reference's.
-/
module

public import proofs.«01_k».proof.Defs
public import proofs.«01_k».proof.Proof.Gen.Kernel43.Frame
public import proofs.«01_k».proof.Proof.Gen.Reference43Ideal.Run
public import proofs.«01_k».proof.Proof.Gen.Kernel43Ideal.Value
public import proofs.«01_k».proof.Proof.Gen.Reference43Ideal.Read
public import Idealize.ShloMosaic.Lib.Pipeline.ValueKit

@[expose] public section

set_option maxRecDepth 16384

noncomputable section

namespace Cert.PreNorm

open Cert.Kernel43Ideal Cert.Kernel43Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0]) t

/-- The array of the norm after the run. -/
theorem final (c : Dev nD) : (dats m 0 c).arrAt 2 cfg0.N =
    Cert.Reference43Ideal.Read.val_main_v14 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold Cert.Reference43Ideal.Read.val_main_v14 Cert.Reference43Ideal.Read.val_main_v13 Cert.Reference43Ideal.Read.val_main_v12 Cert.Reference43Ideal.Read.val_main_v11 Cert.Reference43Ideal.Read.val_main_v10 Cert.Reference43Ideal.Read.val_main_v9 Cert.Reference43Ideal.Read.val_main_v8 Cert.Reference43Ideal.Read.val_main_v7 Cert.Reference43Ideal.Read.val_main_v6 Cert.Reference43Ideal.Read.val_main_v5 Cert.Reference43Ideal.Read.val_main_cst_1 Cert.Reference43Ideal.Read.val_main_v4 Cert.Reference43Ideal.Read.val_main_v3 Cert.Reference43Ideal.Read.val_main_cst_0 Cert.Reference43Ideal.Read.val_main_v2 Cert.Reference43Ideal.Read.val_main_v1 Cert.Reference43Ideal.Read.val_main_cst Cert.Reference43Ideal.Read.val_main_v0
  pointwise [k0_pay1]
  blk_point [iblk, V, idx t]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v0) =
        Cert.Reference43Ideal.Read.val_main_v14 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel43Ideal.Value.run_blocks m ρ)

/-- The reference's frame: its run leaves its arguments, and it has no semaphore. -/
theorem frame_reference : Cert.quiescent_Reference43Ideal := fun m ρ _ =>
  (θ_run Cert.Reference43Ideal.defs _ _).mono (fun r h => ⟨fun c => (h c).2, sem_eq_zero_of_no_sems (by decide) r.2⟩)
    (Cert.Reference43Ideal.Value.run (F := Ideal) m ρ)

/-- The kernel ends with the reference's result, its arguments kept. -/
theorem algebraic : Cert.algebraic_Kernel43Ideal_Reference43Ideal := by
  intro m g m' g' _ hargs
  refine ⟨_, run m g, (θ_run _ _ _).mono (fun r h c => ?_) (Cert.Reference43Ideal.Value.run m' g')⟩
  obtain ⟨h0, h⟩ := h c
  obtain ⟨a0, a1⟩ := hargs c
  refine ⟨h0.trans ?_, h⟩
  · rw [Cert.Reference43Ideal.Read.val_main_v14_eq, a0, a1]

end Cert.PreNorm

end
-- ==== Proof.MidNorm.lean ====
/-
  A mixer's closing norm, the residual and the next norm: each result's array after the run is the reference's.
-/
module

public import proofs.«01_k».proof.Defs
public import proofs.«01_k».proof.Proof.Gen.Kernel44.Frame
public import proofs.«01_k».proof.Proof.Gen.Reference44Ideal.Run
public import proofs.«01_k».proof.Proof.Gen.Kernel44Ideal.Value
public import proofs.«01_k».proof.Proof.Gen.Reference44Ideal.Read
public import Idealize.ShloMosaic.Lib.Pipeline.ValueKit

@[expose] public section

set_option maxRecDepth 16384

noncomputable section

namespace Cert.MidNorm

open Cert.Kernel44Ideal Cert.Kernel44Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, win0_0.index t = ![t.val, 0] ∧ win0_1.index t = ![t.val, 0] ∧ win0_2.index t = ![0, 0] ∧ win0_3.index t = ![0, 0] ∧ win0_4.index t = ![t.val, 0] ∧ win0_5.index t = ![t.val, 0]) t

/-- The array of the residual stream after the run. -/
theorem final4 (c : Dev nD) : (dats m 0 c).arrAt 4 cfg0.N =
    Cert.Reference44Ideal.Read.val_main_v14 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  unfold Cert.Reference44Ideal.Read.val_main_v14 Cert.Reference44Ideal.Read.val_main_v13 Cert.Reference44Ideal.Read.val_main_v12 Cert.Reference44Ideal.Read.val_main_v11 Cert.Reference44Ideal.Read.val_main_v10 Cert.Reference44Ideal.Read.val_main_v9 Cert.Reference44Ideal.Read.val_main_v8 Cert.Reference44Ideal.Read.val_main_v7 Cert.Reference44Ideal.Read.val_main_v6 Cert.Reference44Ideal.Read.val_main_v5 Cert.Reference44Ideal.Read.val_main_cst_1 Cert.Reference44Ideal.Read.val_main_v4 Cert.Reference44Ideal.Read.val_main_v3 Cert.Reference44Ideal.Read.val_main_cst_0 Cert.Reference44Ideal.Read.val_main_v2 Cert.Reference44Ideal.Read.val_main_v1 Cert.Reference44Ideal.Read.val_main_cst Cert.Reference44Ideal.Read.val_main_v0
  pointwise [k0_pay2, k0_pay1]
  blk_point [iblk, V, idx t]

/-- The array of the next norm after the run. -/
theorem final5 (c : Dev nD) : (dats m 0 c).arrAt 5 cfg0.N =
    Cert.Reference44Ideal.Read.val_main_v29 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  unfold Cert.Reference44Ideal.Read.val_main_v29 Cert.Reference44Ideal.Read.val_main_v28 Cert.Reference44Ideal.Read.val_main_v27 Cert.Reference44Ideal.Read.val_main_v26 Cert.Reference44Ideal.Read.val_main_v25 Cert.Reference44Ideal.Read.val_main_v24 Cert.Reference44Ideal.Read.val_main_v23 Cert.Reference44Ideal.Read.val_main_v22 Cert.Reference44Ideal.Read.val_main_v21 Cert.Reference44Ideal.Read.val_main_v20 Cert.Reference44Ideal.Read.val_main_cst_4 Cert.Reference44Ideal.Read.val_main_v19 Cert.Reference44Ideal.Read.val_main_v18 Cert.Reference44Ideal.Read.val_main_cst_3 Cert.Reference44Ideal.Read.val_main_v17 Cert.Reference44Ideal.Read.val_main_v16 Cert.Reference44Ideal.Read.val_main_cst_2 Cert.Reference44Ideal.Read.val_main_v15 Cert.Reference44Ideal.Read.val_main_v14 Cert.Reference44Ideal.Read.val_main_v13 Cert.Reference44Ideal.Read.val_main_v12 Cert.Reference44Ideal.Read.val_main_v11 Cert.Reference44Ideal.Read.val_main_v10 Cert.Reference44Ideal.Read.val_main_v9 Cert.Reference44Ideal.Read.val_main_v8 Cert.Reference44Ideal.Read.val_main_v7 Cert.Reference44Ideal.Read.val_main_v6 Cert.Reference44Ideal.Read.val_main_v5 Cert.Reference44Ideal.Read.val_main_cst_1 Cert.Reference44Ideal.Read.val_main_v4 Cert.Reference44Ideal.Read.val_main_v3 Cert.Reference44Ideal.Read.val_main_cst_0 Cert.Reference44Ideal.Read.val_main_v2 Cert.Reference44Ideal.Read.val_main_v1 Cert.Reference44Ideal.Read.val_main_cst Cert.Reference44Ideal.Read.val_main_v0
  pointwise [k0_pay2, k0_pay1]
  blk_point [iblk, V, idx t]

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v0_0) =
        Cert.Reference44Ideal.Read.val_main_v14 (F := Ideal) (m ((c : Thread nD τ).loc main_arg0)) (m ((c : Thread nD τ).loc main_arg1)) (m ((c : Thread nD τ).loc main_arg2))
      ∧ r.2.mem ((c : Thread nD τ).loc main_v0_1) =
        Cert.Reference44Ideal.Read.val_main_v29 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h⟩ := h c
    exact ⟨h0.trans (final4 m c), h1.trans (final5 m c), h⟩) (Cert.Kernel44Ideal.Value.run_blocks m ρ)

/-- The reference's frame: its run leaves its arguments, and it has no semaphore. -/
theorem frame_reference : Cert.quiescent_Reference44Ideal := fun m ρ _ =>
  (θ_run Cert.Reference44Ideal.defs _ _).mono (fun r h => ⟨fun c => (h c).2.2, sem_eq_zero_of_no_sems (by decide) r.2⟩)
    (Cert.Reference44Ideal.Value.run (F := Ideal) m ρ)

/-- The kernel ends with the reference's results, its arguments kept. -/
theorem algebraic : Cert.algebraic_Kernel44Ideal_Reference44Ideal := by
  intro m g m' g' _ hargs
  refine ⟨_, _, run m g, (θ_run _ _ _).mono (fun r h c => ?_) (Cert.Reference44Ideal.Value.run m' g')⟩
  obtain ⟨h0, h1, h⟩ := h c
  obtain ⟨a0, a1, a2, a3⟩ := hargs c
  refine ⟨h0.trans ?_, h1.trans ?_, h⟩
  · rw [Cert.Reference44Ideal.Read.val_main_v14_eq, a0, a1, a2]
  · rw [Cert.Reference44Ideal.Read.val_main_v29_eq, a0, a1, a2, a3]

end Cert.MidNorm

end
-- ==== Proof.LastNorm.lean ====
/-
  The last layer's closing norm and residual: the result's array after the run is the reference's.
-/
module

public import proofs.«01_k».proof.Defs
public import proofs.«01_k».proof.Proof.Gen.Kernel45.Frame
public import proofs.«01_k».proof.Proof.Gen.Reference45Ideal.Run
public import proofs.«01_k».proof.Proof.Gen.Kernel45Ideal.Value
public import proofs.«01_k».proof.Proof.Gen.Reference45Ideal.Read
public import Idealize.ShloMosaic.Lib.Pipeline.ValueKit

@[expose] public section

set_option maxRecDepth 16384

noncomputable section

namespace Cert.LastNorm

open Cert.Kernel45Ideal Cert.Kernel45Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val, 0] ∧ win0_1.index t = ![t.val, 0] ∧ win0_2.index t = ![0, 0] ∧ win0_3.index t = ![t.val, 0] :=
  (by decide +kernel : ∀ t : Fin grid0.N, win0_0.index t = ![t.val, 0] ∧ win0_1.index t = ![t.val, 0] ∧ win0_2.index t = ![0, 0] ∧ win0_3.index t = ![t.val, 0]) t

/-- The array of the residual stream after the run. -/
theorem final (c : Dev nD) : (dats m 0 c).arrAt 3 cfg0.N =
    Cert.Reference45Ideal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold Cert.Reference45Ideal.Read.val_main_v14 Cert.Reference45Ideal.Read.val_main_v13 Cert.Reference45Ideal.Read.val_main_v12 Cert.Reference45Ideal.Read.val_main_v11 Cert.Reference45Ideal.Read.val_main_v10 Cert.Reference45Ideal.Read.val_main_v9 Cert.Reference45Ideal.Read.val_main_v8 Cert.Reference45Ideal.Read.val_main_v7 Cert.Reference45Ideal.Read.val_main_v6 Cert.Reference45Ideal.Read.val_main_v5 Cert.Reference45Ideal.Read.val_main_cst_1 Cert.Reference45Ideal.Read.val_main_v4 Cert.Reference45Ideal.Read.val_main_v3 Cert.Reference45Ideal.Read.val_main_cst_0 Cert.Reference45Ideal.Read.val_main_v2 Cert.Reference45Ideal.Read.val_main_v1 Cert.Reference45Ideal.Read.val_main_cst Cert.Reference45Ideal.Read.val_main_v0
  pointwise [k0_pay1]
  blk_point [iblk, V, idx t]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v0) =
        Cert.Reference45Ideal.Read.val_main_v14 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by
    obtain ⟨h0, h⟩ := h c
    exact ⟨h0.trans (final m c), h⟩) (Cert.Kernel45Ideal.Value.run_blocks m ρ)

/-- The reference's frame: its run leaves its arguments, and it has no semaphore. -/
theorem frame_reference : Cert.quiescent_Reference45Ideal := fun m ρ _ =>
  (θ_run Cert.Reference45Ideal.defs _ _).mono (fun r h => ⟨fun c => (h c).2, sem_eq_zero_of_no_sems (by decide) r.2⟩)
    (Cert.Reference45Ideal.Value.run (F := Ideal) m ρ)

/-- The kernel ends with the reference's result, its arguments kept. -/
theorem algebraic : Cert.algebraic_Kernel45Ideal_Reference45Ideal := by
  intro m g m' g' _ hargs
  refine ⟨_, run m g, (θ_run _ _ _).mono (fun r h c => ?_) (Cert.Reference45Ideal.Value.run m' g')⟩
  obtain ⟨h0, h⟩ := h c
  obtain ⟨a0, a1, a2⟩ := hargs c
  refine ⟨h0.trans ?_, h⟩
  · rw [Cert.Reference45Ideal.Read.val_main_v14_eq, a0, a1, a2]

end Cert.LastNorm

end
-- ==== Proof.MidNormBias.lean ====
/-
  A mixer's last bias, its closing norm, the residual and the next norm: each result's array after the run is the reference's.
-/
module

public import proofs.«01_k».proof.Defs
public import proofs.«01_k».proof.Proof.Gen.Kernel46.Frame
public import proofs.«01_k».proof.Proof.Gen.Reference46Ideal.Run
public import proofs.«01_k».proof.Proof.Gen.Kernel46Ideal.Value
public import proofs.«01_k».proof.Proof.Gen.Reference46Ideal.Read
public import Idealize.ShloMosaic.Lib.Pipeline.ValueKit

@[expose] public section

set_option maxRecDepth 16384

noncomputable section

namespace Cert.MidNormBias

open Cert.Kernel46Ideal Cert.Kernel46Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val, 0] ∧ win0_1.index t = ![t.val, 0] ∧ win0_2.index t = ![0, 0] ∧ win0_3.index t = ![0, 0] ∧ win0_4.index t = ![0, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![0, 0] ∧ win0_3.index t = ![0, 0] ∧ win0_4.index t = ![0, 0] ∧ win0_5.index t = ![t.val, 0] ∧ win0_6.index t = ![t.val, 0]) t

/-- The array of the residual stream after the run. -/
theorem final5 (c : Dev nD) : (dats m 0 c).arrAt 5 cfg0.N =
    Cert.Reference46Ideal.Read.val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  unfold Cert.Reference46Ideal.Read.val_main_v18 Cert.Reference46Ideal.Read.val_main_v17 Cert.Reference46Ideal.Read.val_main_v16 Cert.Reference46Ideal.Read.val_main_v15 Cert.Reference46Ideal.Read.val_main_v14 Cert.Reference46Ideal.Read.val_main_v13 Cert.Reference46Ideal.Read.val_main_v12 Cert.Reference46Ideal.Read.val_main_v11 Cert.Reference46Ideal.Read.val_main_v10 Cert.Reference46Ideal.Read.val_main_v9 Cert.Reference46Ideal.Read.val_main_cst_1 Cert.Reference46Ideal.Read.val_main_v8 Cert.Reference46Ideal.Read.val_main_v7 Cert.Reference46Ideal.Read.val_main_cst_0 Cert.Reference46Ideal.Read.val_main_v6 Cert.Reference46Ideal.Read.val_main_v5 Cert.Reference46Ideal.Read.val_main_cst Cert.Reference46Ideal.Read.val_main_v4 Cert.Reference46Ideal.Read.val_main_v3 Cert.Reference46Ideal.Read.val_main_v2 Cert.Reference46Ideal.Read.val_main_v1 Cert.Reference46Ideal.Read.val_main_v0
  pointwise [k0_pay2, k0_pay1]
  blk_point [iblk, V, idx t]

/-- The array of the next norm after the run. -/
theorem final6 (c : Dev nD) : (dats m 0 c).arrAt 6 cfg0.N =
    Cert.Reference46Ideal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  unfold Cert.Reference46Ideal.Read.val_main_v33 Cert.Reference46Ideal.Read.val_main_v32 Cert.Reference46Ideal.Read.val_main_v31 Cert.Reference46Ideal.Read.val_main_v30 Cert.Reference46Ideal.Read.val_main_v29 Cert.Reference46Ideal.Read.val_main_v28 Cert.Reference46Ideal.Read.val_main_v27 Cert.Reference46Ideal.Read.val_main_v26 Cert.Reference46Ideal.Read.val_main_v25 Cert.Reference46Ideal.Read.val_main_v24 Cert.Reference46Ideal.Read.val_main_cst_4 Cert.Reference46Ideal.Read.val_main_v23 Cert.Reference46Ideal.Read.val_main_v22 Cert.Reference46Ideal.Read.val_main_cst_3 Cert.Reference46Ideal.Read.val_main_v21 Cert.Reference46Ideal.Read.val_main_v20 Cert.Reference46Ideal.Read.val_main_cst_2 Cert.Reference46Ideal.Read.val_main_v19 Cert.Reference46Ideal.Read.val_main_v18 Cert.Reference46Ideal.Read.val_main_v17 Cert.Reference46Ideal.Read.val_main_v16 Cert.Reference46Ideal.Read.val_main_v15 Cert.Reference46Ideal.Read.val_main_v14 Cert.Reference46Ideal.Read.val_main_v13 Cert.Reference46Ideal.Read.val_main_v12 Cert.Reference46Ideal.Read.val_main_v11 Cert.Reference46Ideal.Read.val_main_v10 Cert.Reference46Ideal.Read.val_main_v9 Cert.Reference46Ideal.Read.val_main_cst_1 Cert.Reference46Ideal.Read.val_main_v8 Cert.Reference46Ideal.Read.val_main_v7 Cert.Reference46Ideal.Read.val_main_cst_0 Cert.Reference46Ideal.Read.val_main_v6 Cert.Reference46Ideal.Read.val_main_v5 Cert.Reference46Ideal.Read.val_main_cst Cert.Reference46Ideal.Read.val_main_v4 Cert.Reference46Ideal.Read.val_main_v3 Cert.Reference46Ideal.Read.val_main_v2 Cert.Reference46Ideal.Read.val_main_v1 Cert.Reference46Ideal.Read.val_main_v0
  pointwise [k0_pay2, k0_pay1]
  blk_point [iblk, V, idx t]

variable (ρ : Dev nD → PrngReg)

/-- The run, with its results read: the arguments are kept. -/
theorem run : θ_run defs (onTc (τ := τ) (main (F := Ideal))) ⟨m, fun _ => 0, ρ⟩ fun r => ∀ c : Dev nD,
    r.2.mem ((c : Thread nD τ).loc main_v0_0) =
        Cert.Reference46Ideal.Read.val_main_v18 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v0_1) =
        Cert.Reference46Ideal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨h0, h1, h⟩ := h c
    exact ⟨h0.trans (final5 m c), h1.trans (final6 m c), h⟩) (Cert.Kernel46Ideal.Value.run_blocks m ρ)

/-- The reference's frame: its run leaves its arguments, and it has no semaphore. -/
theorem frame_reference : Cert.quiescent_Reference46Ideal := fun m ρ _ =>
  (θ_run Cert.Reference46Ideal.defs _ _).mono (fun r h => ⟨fun c => (h c).2.2, sem_eq_zero_of_no_sems (by decide) r.2⟩)
    (Cert.Reference46Ideal.Value.run (F := Ideal) m ρ)

/-- The kernel ends with the reference's results, its arguments kept. -/
theorem algebraic : Cert.algebraic_Kernel46Ideal_Reference46Ideal := by
  intro m g m' g' _ hargs
  refine ⟨_, _, run m g, (θ_run _ _ _).mono (fun r h c => ?_) (Cert.Reference46Ideal.Value.run m' g')⟩
  obtain ⟨h0, h1, h⟩ := h c
  obtain ⟨a0, a1, a2, a3, a4⟩ := hargs c
  refine ⟨h0.trans ?_, h1.trans ?_, h⟩
  · rw [Cert.Reference46Ideal.Read.val_main_v18_eq, a0, a1, a2, a3]
  · rw [Cert.Reference46Ideal.Read.val_main_v33_eq, a0, a1, a2, a3, a4]

end Cert.MidNormBias

end
-- ==== Proof.Glu.lean ====
/-
  The gated linear unit: the result's array after the run is the reference's.
-/
module

public import proofs.«01_k».proof.Defs
public import proofs.«01_k».proof.Proof.Gen.Kernel47.Frame
public import proofs.«01_k».proof.Proof.Gen.Reference47Ideal.Run
public import proofs.«01_k».proof.Proof.Gen.Kernel47Ideal.Value
public import proofs.«01_k».proof.Proof.Gen.Reference47Ideal.Read
public import Idealize.ShloMosaic.Lib.Pipeline.ValueKit

@[expose] public section

set_option maxRecDepth 16384

noncomputable section

namespace Cert.Glu

open Cert.Kernel47Ideal Cert.Kernel47Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val % 16, t.val / 16] ∧ win0_1.index t = ![t.val % 16, t.val / 16 + 4] ∧ win0_2.index t = ![0, t.val / 16] ∧ win0_3.index t = ![0, t.val / 16 + 4] ∧ win0_4.index t = ![t.val % 16, t.val / 16] :=
  (by decide +kernel : ∀ t : Fin grid0.N, win0_0.index t = ![t.val % 16, t.val / 16] ∧ win0_1.index t = ![t.val % 16, t.val / 16 + 4] ∧ win0_2.index t = ![0, t.val / 16] ∧ win0_3.index t = ![0, t.val / 16 + 4] ∧ win0_4.index t = ![t.val % 16, t.val / 16]) t

/-- The array of the gated linear unit after the run. -/
theorem final (c : Dev nD) : (dats m 0 c).arrAt 4 cfg0.N =
    Cert.Reference47Ideal.Read.val_main_v12 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  frame_out
  unfold Cert.Reference47Ideal.Read.val_main_v12 Cert.Reference47Ideal.Read.val_main_v11 Cert.Reference47Ideal.Read.val_main_v10 Cert.Reference47Ideal.Read.val_main_cst_0 Cert.Reference47Ideal.Read.val_main_v9 Cert.Reference47Ideal.Read.val_main_v8 Cert.Reference47Ideal.Read.val_main_cst Cert.Reference47Ideal.Read.val_main_v7 Cert.Reference47Ideal.Read.val_main_v6 Cert.Reference47Ideal.Read.val_main_v5 Cert.Reference47Ideal.Read.val_main_v4 Cert.Reference47Ideal.Read.val_main_v3 Cert.Reference47Ideal.Read.val_main_v2 Cert.Reference47Ideal.Read.val_main_v1 Cert.Reference47Ideal.Read.val_main_v0
  pointwise [k0_pay1, Ideal.logistic]
  blk_point [iblk, V, idx t]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v0) =
        Cert.Reference47Ideal.Read.val_main_v12 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h0, h⟩ := h c
    exact ⟨h0.trans (final m c), h⟩) (Cert.Kernel47Ideal.Value.run_blocks m ρ)

/-- The reference's frame: its run leaves its arguments, and it has no semaphore. -/
theorem frame_reference : Cert.quiescent_Reference47Ideal := fun m ρ _ =>
  (θ_run Cert.Reference47Ideal.defs _ _).mono (fun r h => ⟨fun c => (h c).2, sem_eq_zero_of_no_sems (by decide) r.2⟩)
    (Cert.Reference47Ideal.Value.run (F := Ideal) m ρ)

/-- The kernel ends with the reference's result, its arguments kept. -/
theorem algebraic : Cert.algebraic_Kernel47Ideal_Reference47Ideal := by
  intro m g m' g' _ hargs
  refine ⟨_, run m g, (θ_run _ _ _).mono (fun r h c => ?_) (Cert.Reference47Ideal.Value.run m' g')⟩
  obtain ⟨h0, h⟩ := h c
  obtain ⟨a0, a1⟩ := hargs c
  refine ⟨h0.trans ?_, h⟩
  · rw [Cert.Reference47Ideal.Read.val_main_v12_eq, a0, a1]

end Cert.Glu

end
-- ==== Proof.LayerNorm.lean ====
/-
  The layer norm with SiLU: the result's array after the run is the reference's.
-/
module

public import proofs.«01_k».proof.Defs
public import proofs.«01_k».proof.Proof.Gen.Kernel48.Frame
public import proofs.«01_k».proof.Proof.Gen.Reference48Ideal.Run
public import proofs.«01_k».proof.Proof.Gen.Kernel48Ideal.Value
public import proofs.«01_k».proof.Proof.Gen.Reference48Ideal.Read
public import Idealize.ShloMosaic.Lib.Pipeline.ValueKit

@[expose] public section

set_option maxRecDepth 16384

noncomputable section

namespace Cert.LayerNorm

open Cert.Kernel48Ideal Cert.Kernel48Ideal.Gen Idealize.ShloMosaic Idealize.ShloMosaic.Tactic Idealize.ShloMosaic.TcCoe Idealize.SL.Sem
open Idealize.ShloMosaic.Pipeline (Dat)

variable (m : (ℓ : Loc nD τ sig) → Buf (Elt Ideal) ℓ)

/-- Which block of its array each window stages at a point. -/
theorem idx (t : Fin cfg0.N) : win0_0.index t = ![t.val, 0] ∧ win0_1.index t = ![0, 0] ∧ win0_2.index t = ![0, 0] ∧ win0_3.index t = ![t.val, 0] :=
  (by decide +kernel : ∀ t : Fin grid0.N, win0_0.index t = ![t.val, 0] ∧ win0_1.index t = ![0, 0] ∧ win0_2.index t = ![0, 0] ∧ win0_3.index t = ![t.val, 0]) t

/-- The array of the layer norm with SiLU after the run. -/
theorem final (c : Dev nD) : (dats m 0 c).arrAt 3 cfg0.N =
    Cert.Reference48Ideal.Read.val_main_v25 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold Cert.Reference48Ideal.Read.val_main_v25 Cert.Reference48Ideal.Read.val_main_v24 Cert.Reference48Ideal.Read.val_main_call0_v5 Cert.Reference48Ideal.Read.val_main_call0_v4 Cert.Reference48Ideal.Read.val_main_call0_cst_0 Cert.Reference48Ideal.Read.val_main_call0_v3 Cert.Reference48Ideal.Read.val_main_call0_v2 Cert.Reference48Ideal.Read.val_main_call0_cst Cert.Reference48Ideal.Read.val_main_call0_v1 Cert.Reference48Ideal.Read.val_main_call0_v0 Cert.Reference48Ideal.Read.val_main_v23 Cert.Reference48Ideal.Read.val_main_v22 Cert.Reference48Ideal.Read.val_main_v21 Cert.Reference48Ideal.Read.val_main_v20 Cert.Reference48Ideal.Read.val_main_v19 Cert.Reference48Ideal.Read.val_main_v18 Cert.Reference48Ideal.Read.val_main_v17 Cert.Reference48Ideal.Read.val_main_v16 Cert.Reference48Ideal.Read.val_main_v15 Cert.Reference48Ideal.Read.val_main_v14 Cert.Reference48Ideal.Read.val_main_v13 Cert.Reference48Ideal.Read.val_main_v12 Cert.Reference48Ideal.Read.val_main_v11 Cert.Reference48Ideal.Read.val_main_cst_3 Cert.Reference48Ideal.Read.val_main_v10 Cert.Reference48Ideal.Read.val_main_v9 Cert.Reference48Ideal.Read.val_main_cst_2 Cert.Reference48Ideal.Read.val_main_v8 Cert.Reference48Ideal.Read.val_main_v7 Cert.Reference48Ideal.Read.val_main_cst_1 Cert.Reference48Ideal.Read.val_main_v6 Cert.Reference48Ideal.Read.val_main_v5 Cert.Reference48Ideal.Read.val_main_v4 Cert.Reference48Ideal.Read.val_main_v3 Cert.Reference48Ideal.Read.val_main_v2 Cert.Reference48Ideal.Read.val_main_cst_0 Cert.Reference48Ideal.Read.val_main_v1 Cert.Reference48Ideal.Read.val_main_v0 Cert.Reference48Ideal.Read.val_main_cst
  pointwise [k0_pay1, Ideal.logistic]
  blk_point [iblk, V, idx t]

variable (ρ : Dev nD → PrngReg)

/-- The run, with its result read: the arguments are kept. -/
theorem run : θ_run defs (onTc (τ := τ) (main (F := Ideal))) ⟨m, fun _ => 0, ρ⟩ fun r => ∀ c : Dev nD,
    r.2.mem ((c : Thread nD τ).loc main_v0) =
        Cert.Reference48Ideal.Read.val_main_v25 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by
    obtain ⟨h0, h⟩ := h c
    exact ⟨h0.trans (final m c), h⟩) (Cert.Kernel48Ideal.Value.run_blocks m ρ)

/-- The reference's frame: its run leaves its arguments, and it has no semaphore. -/
theorem frame_reference : Cert.quiescent_Reference48Ideal := fun m ρ _ =>
  (θ_run Cert.Reference48Ideal.defs _ _).mono (fun r h => ⟨fun c => (h c).2, sem_eq_zero_of_no_sems (by decide) r.2⟩)
    (Cert.Reference48Ideal.Value.run (F := Ideal) m ρ)

/-- The kernel ends with the reference's result, its arguments kept. -/
theorem algebraic : Cert.algebraic_Kernel48Ideal_Reference48Ideal := by
  intro m g m' g' _ hargs
  refine ⟨_, run m g, (θ_run _ _ _).mono (fun r h c => ?_) (Cert.Reference48Ideal.Value.run m' g')⟩
  obtain ⟨h0, h⟩ := h c
  obtain ⟨a0, a1, a2⟩ := hargs c
  refine ⟨h0.trans ?_, h⟩
  · rw [Cert.Reference48Ideal.Read.val_main_v25_eq, a0, a1, a2]

end Cert.LayerNorm

end
-- ==== Proof.lean ====
module

public import proofs.«01_k».proof.Proof.ConvClaim
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Reference32Ideal.Read
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Reference33Ideal.Read
public import proofs.«01_k».proof.Proof.Gen.Kernel34.Frame
public import proofs.«01_k».proof.Proof.Gen.Kernel34Ideal.Value
public import proofs.«01_k».proof.Proof.Gen.Reference34Ideal.Run
public import proofs.«01_k».proof.Proof.Gen.Reference34Ideal.Read
public import proofs.«01_k».proof.Proof.Gen.Kernel35.Frame
public import proofs.«01_k».proof.Proof.Gen.Kernel35Ideal.Value
public import proofs.«01_k».proof.Proof.Gen.Reference35Ideal.Run
public import proofs.«01_k».proof.Proof.Gen.Reference35Ideal.Read
public import proofs.«01_k».proof.Proof.Gen.Kernel36.Frame
public import proofs.«01_k».proof.Proof.Gen.Kernel36Ideal.Value
public import proofs.«01_k».proof.Proof.Gen.Reference36Ideal.Run
public import proofs.«01_k».proof.Proof.Gen.Reference36Ideal.Read
public import proofs.«01_k».proof.Proof.Gen.Kernel37.Frame
public import proofs.«01_k».proof.Proof.Gen.Kernel37Ideal.Value
public import proofs.«01_k».proof.Proof.Gen.Reference37Ideal.Run
public import proofs.«01_k».proof.Proof.Gen.Reference37Ideal.Read
public import proofs.«01_k».proof.Proof.Gen.Kernel38.Frame
public import proofs.«01_k».proof.Proof.Gen.Kernel38Ideal.Value
public import proofs.«01_k».proof.Proof.Gen.Reference38Ideal.Run
public import proofs.«01_k».proof.Proof.Gen.Reference38Ideal.Read
public import proofs.«01_k».proof.Proof.Gen.Kernel39.Frame
public import proofs.«01_k».proof.Proof.Gen.Kernel39Ideal.Value
public import proofs.«01_k».proof.Proof.Gen.Reference39Ideal.Run
public import proofs.«01_k».proof.Proof.Gen.Reference39Ideal.Read
public import proofs.«01_k».proof.Proof.Gen.Kernel40.Frame
public import proofs.«01_k».proof.Proof.Gen.Kernel40Ideal.Value
public import proofs.«01_k».proof.Proof.Gen.Reference40Ideal.Run
public import proofs.«01_k».proof.Proof.Gen.Reference40Ideal.Read
public import proofs.«01_k».proof.Proof.Gen.Kernel41.Frame
public import proofs.«01_k».proof.Proof.Gen.Kernel41Ideal.Value
public import proofs.«01_k».proof.Proof.Gen.Reference41Ideal.Run
public import proofs.«01_k».proof.Proof.Gen.Reference41Ideal.Read
public import proofs.«01_k».proof.Proof.Gen.Kernel42.Frame
public import proofs.«01_k».proof.Proof.Gen.Kernel42Ideal.Value
public import proofs.«01_k».proof.Proof.Gen.Reference42Ideal.Run
public import proofs.«01_k».proof.Proof.Gen.Reference42Ideal.Read
public import proofs.«01_k».proof.Proof.Gen.Kernel43.Frame
public import proofs.«01_k».proof.Proof.Gen.Kernel43Ideal.Value
public import proofs.«01_k».proof.Proof.Gen.Reference43Ideal.Run
public import proofs.«01_k».proof.Proof.Gen.Reference43Ideal.Read
public import proofs.«01_k».proof.Proof.Gen.Kernel44.Frame
public import proofs.«01_k».proof.Proof.Gen.Kernel44Ideal.Value
public import proofs.«01_k».proof.Proof.Gen.Reference44Ideal.Run
public import proofs.«01_k».proof.Proof.Gen.Reference44Ideal.Read
public import proofs.«01_k».proof.Proof.Gen.Kernel45.Frame
public import proofs.«01_k».proof.Proof.Gen.Kernel45Ideal.Value
public import proofs.«01_k».proof.Proof.Gen.Reference45Ideal.Run
public import proofs.«01_k».proof.Proof.Gen.Reference45Ideal.Read
public import proofs.«01_k».proof.Proof.Gen.Kernel46.Frame
public import proofs.«01_k».proof.Proof.Gen.Kernel46Ideal.Value
public import proofs.«01_k».proof.Proof.Gen.Reference46Ideal.Run
public import proofs.«01_k».proof.Proof.Gen.Reference46Ideal.Read
public import proofs.«01_k».proof.Proof.Gen.Kernel47.Frame
public import proofs.«01_k».proof.Proof.Gen.Kernel47Ideal.Value
public import proofs.«01_k».proof.Proof.Gen.Reference47Ideal.Run
public import proofs.«01_k».proof.Proof.Gen.Reference47Ideal.Read
public import proofs.«01_k».proof.Proof.Gen.Kernel48.Frame
public import proofs.«01_k».proof.Proof.Gen.Kernel48Ideal.Value
public import proofs.«01_k».proof.Proof.Gen.Reference48Ideal.Run
public import proofs.«01_k».proof.Proof.Gen.Reference48Ideal.Read
public import proofs.«01_k».proof.Proof.Gate
public import proofs.«01_k».proof.Proof.Down
public import proofs.«01_k».proof.Proof.DownDx
public import proofs.«01_k».proof.Proof.DownDw
public import proofs.«01_k».proof.Proof.GateDx
public import proofs.«01_k».proof.Proof.GateDw
public import proofs.«01_k».proof.Proof.InProj
public import proofs.«01_k».proof.Proof.InProjDx
public import proofs.«01_k».proof.Proof.InProjDw
public import proofs.«01_k».proof.Proof.AdamGain
public import proofs.«01_k».proof.Proof.AdamMixGain
public import proofs.«01_k».proof.Proof.AdamEvenIn
public import proofs.«01_k».proof.Proof.AdamSsdConv
public import proofs.«01_k».proof.Proof.AdamSsdConvBias
public import proofs.«01_k».proof.Proof.AdamSsdHead
public import proofs.«01_k».proof.Proof.AdamEvenOut
public import proofs.«01_k».proof.Proof.AdamConfIn
public import proofs.«01_k».proof.Proof.AdamConfInBias
public import proofs.«01_k».proof.Proof.AdamConfConv
public import proofs.«01_k».proof.Proof.AdamConfRow
public import proofs.«01_k».proof.Proof.AdamConfOut
public import proofs.«01_k».proof.Proof.AdamFfnIn
public import proofs.«01_k».proof.Proof.AdamFfnOut
public import proofs.«01_k».proof.Proof.Loss
public import proofs.«01_k».proof.Proof.NormDx
public import proofs.«01_k».proof.Proof.MidNormDx
public import proofs.«01_k».proof.Proof.LastNormDx
public import proofs.«01_k».proof.Proof.LayerNormDx
public import proofs.«01_k».proof.Proof.GluDx
public import proofs.«01_k».proof.Proof.OutProj
public import proofs.«01_k».proof.Proof.OutProjDx
public import proofs.«01_k».proof.Proof.OutProjDw
public import proofs.«01_k».proof.Proof.ConfIn
public import proofs.«01_k».proof.Proof.ConfInDx
public import proofs.«01_k».proof.Proof.ConfInDw
public import proofs.«01_k».proof.Proof.ConfOut
public import proofs.«01_k».proof.Proof.ConfOutDx
public import proofs.«01_k».proof.Proof.ConfOutDw
public import proofs.«01_k».proof.Proof.TimeProj
public import proofs.«01_k».proof.Proof.TimeProjDx
public import proofs.«01_k».proof.Proof.TimeProjDw
public import proofs.«01_k».proof.Proof.PreNorm
public import proofs.«01_k».proof.Proof.MidNorm
public import proofs.«01_k».proof.Proof.LastNorm
public import proofs.«01_k».proof.Proof.MidNormBias
public import proofs.«01_k».proof.Proof.Glu
public import proofs.«01_k».proof.Proof.LayerNorm

@[expose] public section

noncomputable section

-- Every run also ends with all semaphore counters at zero; the frames say it.

namespace Cert.Proof

open Idealize.ShloMosaic Idealize.SL.Sem Cert.Kernel

/-- Everything claimed, assembled: the side conditions, then the runs, then the equalities. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Kernel40.Gen.facts, Cert.Kernel40Ideal.Gen.facts, Cert.Reference40Ideal.Gen.facts,
  Cert.Kernel41.Gen.facts, Cert.Kernel41Ideal.Gen.facts, Cert.Reference41Ideal.Gen.facts,
  Cert.Kernel42.Gen.facts, Cert.Kernel42Ideal.Gen.facts, Cert.Reference42Ideal.Gen.facts,
  Cert.Kernel43.Gen.facts, Cert.Kernel43Ideal.Gen.facts, Cert.Reference43Ideal.Gen.facts,
  Cert.Kernel44.Gen.facts, Cert.Kernel44Ideal.Gen.facts, Cert.Reference44Ideal.Gen.facts,
  Cert.Kernel45.Gen.facts, Cert.Kernel45Ideal.Gen.facts, Cert.Reference45Ideal.Gen.facts,
  Cert.Kernel46.Gen.facts, Cert.Kernel46Ideal.Gen.facts, Cert.Reference46Ideal.Gen.facts,
  Cert.Kernel47.Gen.facts, Cert.Kernel47Ideal.Gen.facts, Cert.Reference47Ideal.Gen.facts,
  Cert.Kernel48.Gen.facts, Cert.Kernel48Ideal.Gen.facts, Cert.Reference48Ideal.Gen.facts,
  Cert.Conv.preFacts,
  fun m ρ _ => Cert.Kernel.Gen.frame m ρ, fun m ρ _ => Cert.KernelIdeal.Gen.frame m ρ, fun m ρ _ => Cert.KernelIdeal.Gen.frame m ρ,
  Cert.Conv.frame_reference, fun m ρ _ => Cert.Conv.frame_reference m ρ trivial,
  fun m ρ _ => Cert.Kernel2.Gen.frame m ρ, fun m ρ _ => Cert.Kernel2Ideal.Gen.frame m ρ, Cert.Gate.frame_reference,
  fun m ρ _ => Cert.Kernel3.Gen.frame m ρ, fun m ρ _ => Cert.Kernel3Ideal.Gen.frame m ρ, Cert.Down.frame_reference,
  fun m ρ _ => Cert.Kernel4.Gen.frame m ρ, fun m ρ _ => Cert.Kernel4Ideal.Gen.frame m ρ, Cert.DownDx.frame_reference,
  fun m ρ _ => Cert.Kernel5.Gen.frame m ρ, fun m ρ _ => Cert.Kernel5Ideal.Gen.frame m ρ, Cert.DownDw.frame_reference,
  fun m ρ _ => Cert.Kernel6.Gen.frame m ρ, fun m ρ _ => Cert.Kernel6Ideal.Gen.frame m ρ, Cert.GateDx.frame_reference,
  fun m ρ _ => Cert.Kernel7.Gen.frame m ρ, fun m ρ _ => Cert.Kernel7Ideal.Gen.frame m ρ, Cert.GateDw.frame_reference,
  fun m ρ _ => Cert.Kernel8.Gen.frame m ρ, fun m ρ _ => Cert.Kernel8Ideal.Gen.frame m ρ, Cert.InProj.frame_reference,
  fun m ρ _ => Cert.Kernel9.Gen.frame m ρ, fun m ρ _ => Cert.Kernel9Ideal.Gen.frame m ρ, Cert.InProjDx.frame_reference,
  fun m ρ _ => Cert.Kernel10.Gen.frame m ρ, fun m ρ _ => Cert.Kernel10Ideal.Gen.frame m ρ, Cert.InProjDw.frame_reference,
  fun m ρ _ => Cert.Kernel11.Gen.frame m ρ, fun m ρ _ => Cert.Kernel11Ideal.Gen.frame m ρ, Cert.AdamGain.frame_reference,
  fun m ρ _ => Cert.Kernel12.Gen.frame m ρ, fun m ρ _ => Cert.Kernel12Ideal.Gen.frame m ρ, Cert.AdamMixGain.frame_reference,
  fun m ρ _ => Cert.Kernel13.Gen.frame m ρ, fun m ρ _ => Cert.Kernel13Ideal.Gen.frame m ρ, Cert.AdamEvenIn.frame_reference,
  fun m ρ _ => Cert.Kernel14.Gen.frame m ρ, fun m ρ _ => Cert.Kernel14Ideal.Gen.frame m ρ, Cert.AdamSsdConv.frame_reference,
  fun m ρ _ => Cert.Kernel15.Gen.frame m ρ, fun m ρ _ => Cert.Kernel15Ideal.Gen.frame m ρ, Cert.AdamSsdConvBias.frame_reference,
  fun m ρ _ => Cert.Kernel16.Gen.frame m ρ, fun m ρ _ => Cert.Kernel16Ideal.Gen.frame m ρ, Cert.AdamSsdHead.frame_reference,
  fun m ρ _ => Cert.Kernel17.Gen.frame m ρ, fun m ρ _ => Cert.Kernel17Ideal.Gen.frame m ρ, Cert.AdamEvenOut.frame_reference,
  fun m ρ _ => Cert.Kernel18.Gen.frame m ρ, fun m ρ _ => Cert.Kernel18Ideal.Gen.frame m ρ, Cert.AdamConfIn.frame_reference,
  fun m ρ _ => Cert.Kernel19.Gen.frame m ρ, fun m ρ _ => Cert.Kernel19Ideal.Gen.frame m ρ, Cert.AdamConfInBias.frame_reference,
  fun m ρ _ => Cert.Kernel20.Gen.frame m ρ, fun m ρ _ => Cert.Kernel20Ideal.Gen.frame m ρ, Cert.AdamConfConv.frame_reference,
  fun m ρ _ => Cert.Kernel21.Gen.frame m ρ, fun m ρ _ => Cert.Kernel21Ideal.Gen.frame m ρ, Cert.AdamConfRow.frame_reference,
  fun m ρ _ => Cert.Kernel22.Gen.frame m ρ, fun m ρ _ => Cert.Kernel22Ideal.Gen.frame m ρ, Cert.AdamConfOut.frame_reference,
  fun m ρ _ => Cert.Kernel23.Gen.frame m ρ, fun m ρ _ => Cert.Kernel23Ideal.Gen.frame m ρ, Cert.AdamFfnIn.frame_reference,
  fun m ρ _ => Cert.Kernel24.Gen.frame m ρ, fun m ρ _ => Cert.Kernel24Ideal.Gen.frame m ρ, Cert.AdamFfnOut.frame_reference,
  fun m ρ _ => Cert.Kernel25.Gen.frame m ρ, fun m ρ _ => Cert.Kernel25Ideal.Gen.frame m ρ, Cert.Loss.frame_reference,
  fun m ρ _ => Cert.Kernel26.Gen.frame m ρ, fun m ρ _ => Cert.Kernel26Ideal.Gen.frame m ρ, Cert.NormDx.frame_reference,
  fun m ρ _ => Cert.Kernel27.Gen.frame m ρ, fun m ρ _ => Cert.Kernel27Ideal.Gen.frame m ρ, Cert.MidNormDx.frame_reference,
  fun m ρ _ => Cert.Kernel28.Gen.frame m ρ, fun m ρ _ => Cert.Kernel28Ideal.Gen.frame m ρ, Cert.LastNormDx.frame_reference,
  fun m ρ _ => Cert.Kernel29.Gen.frame m ρ, fun m ρ _ => Cert.Kernel29Ideal.Gen.frame m ρ, Cert.LayerNormDx.frame_reference,
  fun m ρ _ => Cert.Kernel30.Gen.frame m ρ, fun m ρ _ => Cert.Kernel30Ideal.Gen.frame m ρ, Cert.GluDx.frame_reference,
  fun m ρ _ => Cert.Kernel31.Gen.frame m ρ, fun m ρ _ => Cert.Kernel31Ideal.Gen.frame m ρ, Cert.OutProj.frame_reference,
  fun m ρ _ => Cert.Kernel32.Gen.frame m ρ, fun m ρ _ => Cert.Kernel32Ideal.Gen.frame m ρ, Cert.OutProjDx.frame_reference,
  fun m ρ _ => Cert.Kernel33.Gen.frame m ρ, fun m ρ _ => Cert.Kernel33Ideal.Gen.frame m ρ, Cert.OutProjDw.frame_reference,
  fun m ρ _ => Cert.Kernel34.Gen.frame m ρ, fun m ρ _ => Cert.Kernel34Ideal.Gen.frame m ρ, Cert.ConfIn.frame_reference,
  fun m ρ _ => Cert.Kernel35.Gen.frame m ρ, fun m ρ _ => Cert.Kernel35Ideal.Gen.frame m ρ, Cert.ConfInDx.frame_reference,
  fun m ρ _ => Cert.Kernel36.Gen.frame m ρ, fun m ρ _ => Cert.Kernel36Ideal.Gen.frame m ρ, Cert.ConfInDw.frame_reference,
  fun m ρ _ => Cert.Kernel37.Gen.frame m ρ, fun m ρ _ => Cert.Kernel37Ideal.Gen.frame m ρ, Cert.ConfOut.frame_reference,
  fun m ρ _ => Cert.Kernel38.Gen.frame m ρ, fun m ρ _ => Cert.Kernel38Ideal.Gen.frame m ρ, Cert.ConfOutDx.frame_reference,
  fun m ρ _ => Cert.Kernel39.Gen.frame m ρ, fun m ρ _ => Cert.Kernel39Ideal.Gen.frame m ρ, Cert.ConfOutDw.frame_reference,
  fun m ρ _ => Cert.Kernel40.Gen.frame m ρ, fun m ρ _ => Cert.Kernel40Ideal.Gen.frame m ρ, Cert.TimeProj.frame_reference,
  fun m ρ _ => Cert.Kernel41.Gen.frame m ρ, fun m ρ _ => Cert.Kernel41Ideal.Gen.frame m ρ, Cert.TimeProjDx.frame_reference,
  fun m ρ _ => Cert.Kernel42.Gen.frame m ρ, fun m ρ _ => Cert.Kernel42Ideal.Gen.frame m ρ, Cert.TimeProjDw.frame_reference,
  fun m ρ _ => Cert.Kernel43.Gen.frame m ρ, fun m ρ _ => Cert.Kernel43Ideal.Gen.frame m ρ, Cert.PreNorm.frame_reference,
  fun m ρ _ => Cert.Kernel44.Gen.frame m ρ, fun m ρ _ => Cert.Kernel44Ideal.Gen.frame m ρ, Cert.MidNorm.frame_reference,
  fun m ρ _ => Cert.Kernel45.Gen.frame m ρ, fun m ρ _ => Cert.Kernel45Ideal.Gen.frame m ρ, Cert.LastNorm.frame_reference,
  fun m ρ _ => Cert.Kernel46.Gen.frame m ρ, fun m ρ _ => Cert.Kernel46Ideal.Gen.frame m ρ, Cert.MidNormBias.frame_reference,
  fun m ρ _ => Cert.Kernel47.Gen.frame m ρ, fun m ρ _ => Cert.Kernel47Ideal.Gen.frame m ρ, Cert.Glu.frame_reference,
  fun m ρ _ => Cert.Kernel48.Gen.frame m ρ, fun m ρ _ => Cert.Kernel48Ideal.Gen.frame m ρ, Cert.LayerNorm.frame_reference,
  trivial, Cert.Conv.algebraic,
  trivial, Cert.Gate.algebraic,
  trivial, Cert.Down.algebraic,
  trivial, Cert.DownDx.algebraic,
  trivial, Cert.DownDw.algebraic,
  trivial, Cert.GateDx.algebraic,
  trivial, Cert.GateDw.algebraic,
  trivial, Cert.InProj.algebraic,
  trivial, Cert.InProjDx.algebraic,
  trivial, Cert.InProjDw.algebraic,
  trivial, Cert.AdamGain.algebraic,
  trivial, Cert.AdamMixGain.algebraic,
  trivial, Cert.AdamEvenIn.algebraic,
  trivial, Cert.AdamSsdConv.algebraic,
  trivial, Cert.AdamSsdConvBias.algebraic,
  trivial, Cert.AdamSsdHead.algebraic,
  trivial, Cert.AdamEvenOut.algebraic,
  trivial, Cert.AdamConfIn.algebraic,
  trivial, Cert.AdamConfInBias.algebraic,
  trivial, Cert.AdamConfConv.algebraic,
  trivial, Cert.AdamConfRow.algebraic,
  trivial, Cert.AdamConfOut.algebraic,
  trivial, Cert.AdamFfnIn.algebraic,
  trivial, Cert.AdamFfnOut.algebraic,
  trivial, Cert.Loss.algebraic,
  trivial, Cert.NormDx.algebraic,
  trivial, Cert.MidNormDx.algebraic,
  trivial, Cert.LastNormDx.algebraic,
  trivial, Cert.LayerNormDx.algebraic,
  trivial, Cert.GluDx.algebraic,
  trivial, Cert.OutProj.algebraic,
  trivial, Cert.OutProjDx.algebraic,
  trivial, Cert.OutProjDw.algebraic,
  trivial, Cert.ConfIn.algebraic,
  trivial, Cert.ConfInDx.algebraic,
  trivial, Cert.ConfInDw.algebraic,
  trivial, Cert.ConfOut.algebraic,
  trivial, Cert.ConfOutDx.algebraic,
  trivial, Cert.ConfOutDw.algebraic,
  trivial, Cert.TimeProj.algebraic,
  trivial, Cert.TimeProjDx.algebraic,
  trivial, Cert.TimeProjDw.algebraic,
  trivial, Cert.PreNorm.algebraic,
  trivial, Cert.MidNorm.algebraic,
  trivial, Cert.LastNorm.algebraic,
  trivial, Cert.MidNormBias.algebraic,
  trivial, Cert.Glu.algebraic,
  trivial, Cert.LayerNorm.algebraic⟩

end Cert.Proof

end
